-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def preserves_Kernel_KernelIdeal : Prop :=
  IdealRules.named_const.Statement Cert.KernelIdeal.κ "skip" .f32 0xC2C80000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v11)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v11) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v118) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v35) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)) (v2 : (c : Dev Cert.MixIdeal.nD) → Buf (Elt Ideal) ((c.tc : Thread Cert.MixIdeal.nD Cert.MixIdeal.τ).loc Cert.MixIdeal.main_v11_2)) (v3 : (c : Dev Cert.MixIdeal.nD) → Buf (Elt Ideal) ((c.tc : Thread Cert.MixIdeal.nD Cert.MixIdeal.τ).loc Cert.MixIdeal.main_v11_3)) (v4 : (c : Dev Cert.MixIdeal.nD) → Buf (Elt Ideal) ((c.tc : Thread Cert.MixIdeal.nD Cert.MixIdeal.τ).loc Cert.MixIdeal.main_v11_4)) (v5 : (c : Dev Cert.MixIdeal.nD) → Buf (Elt Ideal) ((c.tc : Thread Cert.MixIdeal.nD Cert.MixIdeal.τ).loc Cert.MixIdeal.main_v11_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_v11_2) = v2 c
          ∧ r.2.mem ((c.tc : Thread Cert.MixIdeal.nD Cert.MixIdeal.τ).loc Cert.MixIdeal.main_v11_3) = v3 c
          ∧ r.2.mem ((c.tc : Thread Cert.MixIdeal.nD Cert.MixIdeal.τ).loc Cert.MixIdeal.main_v11_4) = v4 c
          ∧ r.2.mem ((c.tc : Thread Cert.MixIdeal.nD Cert.MixIdeal.τ).loc Cert.MixIdeal.main_v11_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v68) = v0 c
          ∧ r.2.mem ((c.tc : Thread Cert.MixReferenceIdeal.nD Cert.MixReferenceIdeal.τ).loc Cert.MixReferenceIdeal.main_v70) = v1 c
          ∧ r.2.mem ((c.tc : Thread Cert.MixReferenceIdeal.nD Cert.MixReferenceIdeal.τ).loc Cert.MixReferenceIdeal.main_v71) = v2 c
          ∧ r.2.mem ((c.tc : Thread Cert.MixReferenceIdeal.nD Cert.MixReferenceIdeal.τ).loc Cert.MixReferenceIdeal.main_v74) = v3 c
          ∧ r.2.mem ((c.tc : Thread Cert.MixReferenceIdeal.nD Cert.MixReferenceIdeal.τ).loc Cert.MixReferenceIdeal.main_v77) = v4 c
          ∧ r.2.mem ((c.tc : Thread Cert.MixReferenceIdeal.nD Cert.MixReferenceIdeal.τ).loc Cert.MixReferenceIdeal.main_v104) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Tail (hTail := hTail)
    ∧ quiescent_TailIdeal (hTailIdeal := hTailIdeal)
    ∧ quiescent_TailReferenceIdeal (hTailReferenceIdeal := hTailReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal (hKernelIdeal := hKernelIdeal) (hReferenceIdeal := hReferenceIdeal)
    ∧ preserves_Tail_TailIdeal
    ∧ algebraic_TailIdeal_TailReferenceIdeal (hTailIdeal := hTailIdeal) (hTailReferenceIdeal := hTailReferenceIdeal)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
-- ==== Kernel.lean ====
abbrev S4x8192x768 : Shape := ⟨3, ![4, 8192, 768]⟩
abbrev S4x8192x256 : Shape := ⟨3, ![4, 8192, 256]⟩
abbrev S1x512x128 : Shape := ⟨3, ![1, 512, 128]⟩
abbrev S1x8192x128 : Shape := ⟨3, ![1, 8192, 128]⟩
abbrev S8x128x128 : Shape := ⟨3, ![8, 128, 128]⟩
abbrev S768x384 : Shape := ⟨2, ![768, 384]⟩
abbrev S128x128 : Shape := ⟨2, ![128, 128]⟩
abbrev S1x128x128 : Shape := ⟨3, ![1, 128, 128]⟩
abbrev S1x384x128 : Shape := ⟨3, ![1, 384, 128]⟩
abbrev S384x128 : Shape := ⟨2, ![384, 128]⟩
abbrev S128x384 : Shape := ⟨2, ![128, 384]⟩
abbrev S128x768 : Shape := ⟨2, ![128, 768]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S256x128 : Shape := ⟨2, ![256, 128]⟩
abbrev S128x256 : Shape := ⟨2, ![128, 256]⟩

abbrev nBuf : Space → Nat
  | .hbm => 2
  | .vmem => 10
  | .smem => 0
  | _ => 0

abbrev bufTy : (tb : Table) → Fin (tcTables nBuf tb) → BufTy
  | .hbm, ⟨0, _⟩ => ⟨S4x8192x768, .bf16⟩
  | .hbm, ⟨1, _⟩ => ⟨S4x8192x256, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .bf16⟩
  | .local _ .vmem, ⟨7, _⟩ => ⟨S1x512x128, .bf16⟩
  | .local _ .vmem, ⟨8, _⟩ => ⟨S8x128x128, .f32⟩
  | .local _ .vmem, ⟨9, _⟩ => ⟨S768x384, .bf16⟩
  | _, _ => ⟨S4x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c4_i32 : BitVec 32 := 4#32
  let v8 : BitVec 32 := Scalar.muli arg2 c4_i32
  let c0_i32_3 : BitVec 32 := 0#32
  let v9 : BitVec 32 := Scalar.addi v8 c0_i32_3
  let c2_i32 : BitVec 32 := 2#32
  let v10 : BitVec 32 := Scalar.subi v9 c2_i32
  let c0_i32_4 : BitVec 32 := 0#32
  let v11 : BitVec 32 := Scalar.maxsi v10 c0_i32_4
  let c128_i32 : BitVec 32 := 128#32
  let v12 : BitVec 32 := Scalar.muli v11 c128_i32
  v12
def k0_mult2 (i : grid0.Coords) : BitVec 32 :=
  let arg2 : BitVec 32 := BitVec.ofNat 32 (i 2).val
  let c4_i32_13 : BitVec 32 := 4#32
  let v32 : BitVec 32 := Scalar.muli arg2 c4_i32_13
  let c1_i32 : BitVec 32 := 1#32
  let v33 : BitVec 32 := Scalar.addi v32 c1_i32
  let c2_i32_14 : BitVec 32 := 2#32
  let v34 : BitVec 32 := Scalar.subi v33 c2_i32_14
  let c0_i32_15 : BitVec 32 := 0#32
  let v35 : BitVec 32 := Scalar.maxsi v34 c0_i32_15
  let c128_i32_16 : BitVec 32 := 128#32
  let v36 : BitVec 32 := Scalar.muli v35 c128_i32_16
  v36
def k0_mult3 (i : grid0.Coords) : BitVec 32 :=
  let arg2 : BitVec 32 := BitVec.ofNat 32 (i 2).val
  let c4_i32_26 : BitVec 32 := 4#32
  let v56 : BitVec 32 := Scalar.muli arg2 c4_i32_26
  let c2_i32_27 : BitVec 32 := 2#32
  let v57 : BitVec 32 := Scalar.addi v56 c2_i32_27
  let c2_i32_28 : BitVec 32 := 2#32
  let v58 : BitVec 32 := Scalar.subi v57 c2_i32_28
  let c0_i32_29 : BitVec 32 := 0#32
  let v59 : BitVec 32 := Scalar.maxsi v58 c0_i32_29
  let c128_i32_30 : BitVec 32 := 128#32
  let v60 : BitVec 32 := Scalar.muli v59 c128_i32_30
  v60
def k0_mult4 (i : grid0.Coords) : BitVec 32 :=
  let arg2 : BitVec 32 := BitVec.ofNat 32 (i 2).val
  let c4_i32_40 : BitVec 32 := 4#32
  let v80 : BitVec 32 := Scalar.muli arg2 c4_i32_40
  let c3_i32 : BitVec 32 := 3#32
  let v81 : BitVec 32 := Scalar.addi v80 c3_i32
  let c2_i32_41 : BitVec 32 := 2#32
  let v82 : BitVec 32 := Scalar.subi v81 c2_i32_41
  let c0_i32_42 : BitVec 32 := 0#32
  let v83 : BitVec 32 := Scalar.maxsi v82 c0_i32_42
  let c128_i32_43 : BitVec 32 := 128#32
  let v84 : BitVec 32 := Scalar.muli v83 c128_i32_43
  v84
def k0_off1 (i : grid0.Coords) (c0_i32_3 : BitVec 32) : Fin 3 → Nat :=
  let c0_50 : Index := 0#32
  let arg2 : BitVec 32 := BitVec.ofNat 32 (i 2).val
  let c4_i32 : BitVec 32 := 4#32
  let v8 : BitVec 32 := Scalar.muli arg2 c4_i32
  let v9 : BitVec 32 := Scalar.addi v8 c0_i32_3
  let c2_i32 : BitVec 32 := 2#32
  let v10 : BitVec 32 := Scalar.subi v9 c2_i32
  let c0_i32_4 : BitVec 32 := 0#32
  let v11 : BitVec 32 := Scalar.maxsi v10 c0_i32_4
  let c128_i32 : BitVec 32 := 128#32
  let v12 : BitVec 32 := Scalar.muli v11 c128_i32
  let v13 : BitVec 32 := v12
  let v100 : Index := Scalar.indexCast v13
  let c0_51 : Index := 0#32
  ![0, v100.toNat, 0]
def k0_mult5 (arg9 : BitVec 32) : BitVec 32 :=
  let c128_i32_280 : BitVec 32 := 128#32
  let v569 : BitVec 32 := Scalar.muli arg9 c128_i32_280
  v569

def k0_off2 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk1 (arg9 : BitVec 32) : Prop :=
  (128 ∣ (k0_mult5 arg9).toNat) ∧
  (∀ a, (k0_off2 arg9) a + S1x128x128.size a ≤ S1x8192x128.size a)
theorem k0_mult5_dvd : ∀ (arg9 : BitVec 32) (k0_hw1 : k0_chk1 arg9), 128 ∣ (k0_mult5 arg9).toNat := fun arg9 k0_hw1 => k0_hw1.1
theorem k0_off2_inb : ∀ (arg9 : BitVec 32) (k0_hw1 : k0_chk1 arg9), ∀ a, (k0_off2 arg9) a + S1x128x128.size a ≤ S1x8192x128.size a := fun arg9 k0_hw1 => k0_hw1.2

def k0_mult6 (arg9 : BitVec 32) : BitVec 32 :=
  let c128_i32_280 : BitVec 32 := 128#32
  let v569 : BitVec 32 := Scalar.muli arg9 c128_i32_280
  v569

def k0_off3 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk2 (arg9 : BitVec 32) : Prop :=
  (128 ∣ (k0_mult6 arg9).toNat) ∧
  (∀ a, (k0_off3 arg9) a + S1x128x128.size a ≤ S1x8192x128.size a)
theorem k0_mult6_dvd : ∀ (arg9 : BitVec 32) (k0_hw2 : k0_chk2 arg9), 128 ∣ (k0_mult6 arg9).toNat := fun arg9 k0_hw2 => k0_hw2.1
theorem k0_off3_inb : ∀ (arg9 : BitVec 32) (k0_hw2 : k0_chk2 arg9), ∀ a, (k0_off3 arg9) a + S1x128x128.size a ≤ S1x8192x128.size a := fun arg9 k0_hw2 => k0_hw2.2

def k0_mult7 (arg9 : BitVec 32) : BitVec 32 :=
  let c128_i32_280 : BitVec 32 := 128#32
  let v569 : BitVec 32 := Scalar.muli arg9 c128_i32_280
  v569

def k0_off4 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk3 (arg9 : BitVec 32) : Prop :=
  (128 ∣ (k0_mult7 arg9).toNat) ∧
  (∀ a, (k0_off4 arg9) a + S1x128x128.size a ≤ S1x8192x128.size a)
theorem k0_mult7_dvd : ∀ (arg9 : BitVec 32) (k0_hw3 : k0_chk3 arg9), 128 ∣ (k0_mult7 arg9).toNat := fun arg9 k0_hw3 => k0_hw3.1
theorem k0_off4_inb : ∀ (arg9 : BitVec 32) (k0_hw3 : k0_chk3 arg9), ∀ a, (k0_off4 arg9) a + S1x128x128.size a ≤ S1x8192x128.size a := fun arg9 k0_hw3 => k0_hw3.2

def k0_mult8 (arg9 : BitVec 32) : BitVec 32 :=
  let c128_i32_280 : BitVec 32 := 128#32
  let v569 : BitVec 32 := Scalar.muli arg9 c128_i32_280
  v569

def k0_off5 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk4 (arg9 : BitVec 32) : Prop :=
  (128 ∣ (k0_mult8 arg9).toNat) ∧
  (∀ a, (k0_off5 arg9) a + S1x128x128.size a ≤ S1x8192x128.size a)
theorem k0_mult8_dvd : ∀ (arg9 : BitVec 32) (k0_hw4 : k0_chk4 arg9), 128 ∣ (k0_mult8 arg9).toNat := fun arg9 k0_hw4 => k0_hw4.1
theorem k0_off5_inb : ∀ (arg9 : BitVec 32) (k0_hw4 : k0_chk4 arg9), ∀ a, (k0_off5 arg9) a + S1x128x128.size a ≤ S1x8192x128.size a := fun arg9 k0_hw4 => k0_hw4.2

def k0_mult9 (arg9 : BitVec 32) : BitVec 32 :=
  let c128_i32_280 : BitVec 32 := 128#32
  let v569 : BitVec 32 := Scalar.muli arg9 c128_i32_280
  v569

def k0_off6 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk5 (arg9 : BitVec 32) : Prop :=
  (128 ∣ (k0_mult9 arg9).toNat) ∧
  (∀ a, (k0_off6 arg9) a + S1x128x128.size a ≤ S1x8192x128.size a)
theorem k0_mult9_dvd : ∀ (arg9 : BitVec 32) (k0_hw5 : k0_chk5 arg9), 128 ∣ (k0_mult9 arg9).toNat := fun arg9 k0_hw5 => k0_hw5.1
theorem k0_off6_inb : ∀ (arg9 : BitVec 32) (k0_hw5 : k0_chk5 arg9), ∀ a, (k0_off6 arg9) a + S1x128x128.size a ≤ S1x8192x128.size a := fun arg9 k0_hw5 => k0_hw5.2

def k0_mult10 (arg9 : BitVec 32) : BitVec 32 :=
  let c128_i32_280 : BitVec 32 := 128#32
  let v569 : BitVec 32 := Scalar.muli arg9 c128_i32_280
  v569

def k0_off7 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk6 (arg9 : BitVec 32) : Prop :=
  (128 ∣ (k0_mult10 arg9).toNat) ∧
  (∀ a, (k0_off7 arg9) a + S1x128x128.size a ≤ S1x8192x128.size a)
theorem k0_mult10_dvd : ∀ (arg9 : BitVec 32) (k0_hw6 : k0_chk6 arg9), 128 ∣ (k0_mult10 arg9).toNat := fun arg9 k0_hw6 => k0_hw6.1
theorem k0_off7_inb : ∀ (arg9 : BitVec 32) (k0_hw6 : k0_chk6 arg9), ∀ a, (k0_off7 arg9) a + S1x128x128.size a ≤ S1x8192x128.size a := fun arg9 k0_hw6 => k0_hw6.2

def k0_mult11 (arg9 : BitVec 32) : BitVec 32 :=
  let c128_i32_280 : BitVec 32 := 128#32
  let v569 : BitVec 32 := Scalar.muli arg9 c128_i32_280
  v569

def k0_off8 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk7 (arg9 : BitVec 32) : Prop :=
  (128 ∣ (k0_mult11 arg9).toNat) ∧
  (∀ a, (k0_off8 arg9) a + S1x128x128.size a ≤ S1x8192x128.size a)
theorem k0_mult11_dvd : ∀ (arg9 : BitVec 32) (k0_hw7 : k0_chk7 arg9), 128 ∣ (k0_mult11 arg9).toNat := fun arg9 k0_hw7 => k0_hw7.1
theorem k0_off8_inb : ∀ (arg9 : BitVec 32) (k0_hw7 : k0_chk7 arg9), ∀ a, (k0_off8 arg9) a + S1x128x128.size a ≤ S1x8192x128.size a := fun arg9 k0_hw7 => k0_hw7.2

def k0_mult12 (arg9 : BitVec 32) : BitVec 32 :=
  let c128_i32_280 : BitVec 32 := 128#32
  let v569 : BitVec 32 := Scalar.muli arg9 c128_i32_280
  v569

def k0_off9 (arg9 : BitVec 32) : Fin 3 → Nat :=
  let c0_281 : Index := 0#32
  let c128_i32_280 : BitVec 32 := 128#32
  let v569 : BitVec 32 := Scalar.muli arg9 c128_i32_280
  let v570 : BitVec 32 := v569
  let v571 : Index := Scalar.indexCast v570
  let c0_282 : Index := 0#32
  ![0, v571.toNat, 0]

def k0_chk8 (arg9 : BitVec 32) : Prop :=
  (128 ∣ (k0_mult12 arg9).toNat) ∧
  (∀ a, (k0_off9 arg9) a + S1x128x128.size a ≤ S1x8192x128.size a)
theorem k0_mult12_dvd : ∀ (arg9 : BitVec 32) (k0_hw8 : k0_chk8 arg9), 128 ∣ (k0_mult12 arg9).toNat := fun arg9 k0_hw8 => k0_hw8.1
theorem k0_off9_inb : ∀ (arg9 : BitVec 32) (k0_hw8 : k0_chk8 arg9), ∀ a, (k0_off9 arg9) a + S1x128x128.size a ≤ S1x8192x128.size a := fun arg9 k0_hw8 => k0_hw8.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "skip" => some ⊥
  | _ => none
-- ==== ReferenceIdeal.lean ====
abbrev S4x8192x768 : Shape := ⟨3, ![4, 8192, 768]⟩
abbrev S4x8192x256 : Shape := ⟨3, ![4, 8192, 256]⟩
abbrev S4x8192x4x64 : Shape := ⟨4, ![4, 8192, 4, 64]⟩
abbrev S4x4x8192x64 : Shape := ⟨4, ![4, 4, 8192, 64]⟩
abbrev S4x4x8192x8192 : Shape := ⟨4, ![4, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x768, .bf16⟩
  | .hbm, ⟨1, _⟩ => ⟨S4x8192x256, .bf16⟩
  | .hbm, ⟨2, _⟩ => ⟨S4x8192x256, .bf16⟩
  | .hbm, ⟨3, _⟩ => ⟨S4x8192x256, .bf16⟩
  | .hbm, ⟨4, _⟩ => ⟨S4x8192x256, .f32⟩
  | .hbm, ⟨5, _⟩ => ⟨S4x8192x4x64, .f32⟩
  | .hbm, ⟨6, _⟩ => ⟨S4x4x8192x64, .f32⟩
  | .hbm, ⟨7, _⟩ => ⟨S4x8192x256, .f32⟩
  | .hbm, ⟨8, _⟩ => ⟨S4x8192x4x64, .f32⟩
  | .hbm, ⟨9, _⟩ => ⟨S4x4x8192x64, .f32⟩
  | .hbm, ⟨10, _⟩ => ⟨S4x8192x256, .f32⟩
  | .hbm, ⟨11, _⟩ => ⟨S4x8192x4x64, .f32⟩
  | .hbm, ⟨12, _⟩ => ⟨S4x4x8192x64, .f32⟩
  | .hbm, ⟨13, _⟩ => ⟨S4x4x8192x8192, .f32⟩
  | .hbm, ⟨14, _⟩ => ⟨S_, .f32⟩
  | .hbm, ⟨15, _⟩ => ⟨S4x4x8192x8192, .f32⟩
  | .hbm, ⟨16, _⟩ => ⟨S4x4x8192x8192, .f32⟩
  | .hbm, ⟨17, _⟩ => ⟨S8192, .i32⟩
  | .hbm, ⟨18, _⟩ => ⟨S1x8192, .i32⟩
  | .hbm, ⟨19, _⟩ => ⟨S8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S4x4x8192x8192, .f32⟩
  | .hbm, ⟨25, _⟩ => ⟨S4x4x8192x8192, .f32⟩
  | .hbm, ⟨26, _⟩ => ⟨S_, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S4x4x8192x8192, .f32⟩
  | .hbm, ⟨31, _⟩ => ⟨S4x4x8192x8192, .i1⟩
  | .hbm, ⟨32, _⟩ => ⟨S4x4x8192x8192, .f32⟩
  | .hbm, ⟨33, _⟩ => ⟨S4x4x8192x8192, .f32⟩
  | .hbm, ⟨34, _⟩ => ⟨S4x4x8192x8192, .f32⟩
  | .hbm, ⟨35, _⟩ => ⟨S4x4x8192x8192, .f32⟩
  | .hbm, ⟨36, _⟩ => ⟨S4x4x8192x8192, .f32⟩
  | .hbm, ⟨37, _⟩ => ⟨S4x4x8192x8192, .f32⟩
  | .hbm, ⟨38, _⟩ => ⟨S4x4x8192x8192, .f32⟩
  | .hbm, ⟨39, _⟩ => ⟨S4x4x8192x8192, .f32⟩
  | .hbm, ⟨40, _⟩ => ⟨S4x4x8192x8192, .f32⟩
  | .hbm, ⟨41, _⟩ => ⟨S_, .f32⟩
  | .hbm, ⟨42, _⟩ => ⟨S_, .f32⟩
  | .hbm, ⟨43, _⟩ => ⟨S4x4x8192x8192, .i1⟩
  | .hbm, ⟨44, _⟩ => ⟨S4x4x8192x8192, .f32⟩
  | .hbm, ⟨45, _⟩ => ⟨S4x4x8192x8192, .f32⟩
  | .hbm, ⟨46, _⟩ => ⟨S_, .f32⟩
  | .hbm, ⟨47, _⟩ => ⟨S_, .f32⟩
  | .hbm, ⟨48, _⟩ => ⟨S4x4x8192x8192, .f32⟩
  | .hbm, ⟨49, _⟩ => ⟨S4x4x8192x8192, .f32⟩
  | .hbm, ⟨50, _⟩ => ⟨S4x4x8192x8192, .f32⟩
  | .hbm, ⟨51, _⟩ => ⟨S_, .f32⟩
  | .hbm, ⟨52, _⟩ => ⟨S4x4x8192x8192, .f32⟩
  | .hbm, ⟨53, _⟩ => ⟨S4x4x8192x8192, .f32⟩
  | .hbm, ⟨54, _⟩ => ⟨S4x4x8192x8192, .f32⟩
  | .hbm, ⟨55, _⟩ => ⟨S4x4x8192x8192, .f32⟩
  | .hbm, ⟨56, _⟩ => ⟨S4x4x8192x8192, .i1⟩
  | .hbm, ⟨57, _⟩ => ⟨S4x4x8192x8192, .f32⟩
  | .hbm, ⟨58, _⟩ => ⟨S4x4x8192x8192, .f32⟩
  | .hbm, ⟨59, _⟩ => ⟨S4x4x8192x8192, .f32⟩
  | .hbm, ⟨60, _⟩ => ⟨S4x4x8192x8192, .f32⟩
  | .hbm, ⟨61, _⟩ => ⟨S4x4x8192x8192, .f32⟩
  | .hbm, ⟨62, _⟩ => ⟨S4x4x8192x8192, .f32⟩
  | .hbm, ⟨63, _⟩ => ⟨S4x4x8192x8192, .f32⟩
  | .hbm, ⟨64, _⟩ => ⟨S4x4x8192x8192, .f32⟩
  | .hbm, ⟨65, _⟩ => ⟨S4x4x8192x8192, .f32⟩
  | .hbm, ⟨66, _⟩ => ⟨S4x4x8192x8192, .f32⟩
  | .hbm, ⟨67, _⟩ => ⟨S4x4x8192x8192, .f32⟩
  | .hbm, ⟨68, _⟩ => ⟨S_, .f32⟩
  | .hbm, ⟨69, _⟩ => ⟨S_, .f32⟩
  | .hbm, ⟨70, _⟩ => ⟨S4x4x8192x8192, .i1⟩
  | .hbm, ⟨71, _⟩ => ⟨S4x4x8192x8192, .f32⟩
  | .hbm, ⟨72, _⟩ => ⟨S4x4x8192x8192, .f32⟩
  | .hbm, ⟨73, _⟩ => ⟨S4x4x8192x64, .f32⟩
  | .hbm, ⟨74, _⟩ => ⟨S4x8192x4x64, .f32⟩
  | .hbm, ⟨75, _⟩ => ⟨S4x8192x256, .f32⟩
  | .hbm, ⟨76, _⟩ => ⟨S4x8192x256, .bf16⟩
  | _, _ => ⟨S4x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v23 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩

abbrev nD : Nat := 1
abbrev τ : Topo := Topo.v7x

variable {F : FTy → Type} [FloatOps F]
-- ==== Tail.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S256x1024 : Shape := ⟨2, ![256, 1024]⟩
abbrev S4x1024 : Shape := ⟨2, ![4, 1024]⟩
abbrev S32768x1024 : Shape := ⟨2, ![32768, 1024]⟩
abbrev S32768x256 : Shape := ⟨2, ![32768, 256]⟩
abbrev S32768x512 : Shape := ⟨2, ![32768, 512]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩

abbrev nBuf : Space → Nat
  | .hbm => 25
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .bf16⟩
  | .hbm, ⟨2, _⟩ => ⟨S4x8192x512, .bf16⟩
  | .hbm, ⟨3, _⟩ => ⟨S4x8192x256, .bf16⟩
  | .hbm, ⟨4, _⟩ => ⟨S4x8192x256, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S4x1024, .f32⟩
  | .hbm, ⟨12, _⟩ => ⟨S4x1024, .f32⟩
  | .hbm, ⟨13, _⟩ => ⟨S32768x1024, .f32⟩
  | .hbm, ⟨14, _⟩ => ⟨S32768x256, .bf16⟩
  | .hbm, ⟨15, _⟩ => ⟨S32768x512, .bf16⟩
  | .hbm, ⟨16, _⟩ => ⟨S32768x256, .bf16⟩
  | .hbm, ⟨17, _⟩ => ⟨S32768x256, .f32⟩
  | .hbm, ⟨18, _⟩ => ⟨S1024x1024, .bf16⟩
  | .hbm, ⟨19, _⟩ => ⟨S1024x5632, .bf16⟩
  | .hbm, ⟨20, _⟩ => ⟨S2816x1024, .bf16⟩
  | .hbm, ⟨21, _⟩ => ⟨S1024x1024, .bf16⟩
  | .hbm, ⟨22, _⟩ => ⟨S1x1024, .f32⟩
  | .hbm, ⟨23, _⟩ => ⟨S256x1024, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1024x5632, .bf16⟩
  | .local _ .vmem, ⟨12, _⟩ => ⟨S2816x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S4x1024, .f32⟩
  | .local _ .vmem, ⟨17, _⟩ => ⟨S4x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== TailReferenceIdeal.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S256x1024 : Shape := ⟨2, ![256, 1024]⟩
abbrev S4x1024 : Shape := ⟨2, ![4, 1024]⟩
abbrev S_ : Shape := ⟨0, ![]⟩
abbrev S1x1024 : Shape := ⟨2, ![1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 161
  | .vmem => 0
  | .smem => 0
  | _ => 0

abbrev hbmTy0_0 (i : Nat) : BufTy := match i % 128 with
  | 0 => ⟨S4x8192x1024, .f32⟩
  | 1 => ⟨S4x8192x256, .bf16⟩
  | 2 => ⟨S4x8192x512, .bf16⟩
  | 3 => ⟨S4x8192x256, .bf16⟩
  | 4 => ⟨S4x8192x256, .f32⟩
  | 5 => ⟨S1024x1024, .f32⟩
  | 6 => ⟨S1024x5632, .f32⟩
  | 7 => ⟨S2816x1024, .f32⟩
  | 8 => ⟨S1024x1024, .f32⟩
  | 9 => ⟨S1024, .f32⟩
  | 10 => ⟨S256x1024, .f32⟩
  | 11 => ⟨S4x1024, .f32⟩
  | 12 => ⟨S4x1024, .f32⟩
  | 13 => ⟨S4x8192x256, .f32⟩
  | 14 => ⟨S4x8192x512, .f32⟩
  | 15 => ⟨S4x8192x256, .f32⟩
  | 16 => ⟨S4x8192x1024, .f32⟩
  | 17 => ⟨S_, .f32⟩
  | 18 => ⟨S4x8192x1024, .f32⟩
  | 19 => ⟨S4x8192x1024, .f32⟩
  | 20 => ⟨S4x8192x1024, .f32⟩
  | 21 => ⟨S4x8192x1024, .f32⟩
  | 22 => ⟨S1x1024, .f32⟩
  | 23 => ⟨S1024, .f32⟩
  | 24 => ⟨S1x1024, .f32⟩
  | 25 => ⟨S1024, .f32⟩
  | 26 => ⟨S_, .f32⟩
  | 27 => ⟨S4x8192, .f32⟩
  | 28 => ⟨S4x8192x1, .f32⟩
  | 29 => ⟨S_, .f32⟩
  | 30 => ⟨S4x8192x1, .f32⟩
  | 31 => ⟨S4x8192x1, .f32⟩
  | 32 => ⟨S4x8192x1024, .f32⟩
  | 33 => ⟨S4x8192x1024, .f32⟩
  | 34 => ⟨S4x8192x1024, .f32⟩
  | 35 => ⟨S_, .f32⟩
  | 36 => ⟨S4x8192, .f32⟩
  | 37 => ⟨S4x8192x1, .f32⟩
  | 38 => ⟨S_, .f32⟩
  | 39 => ⟨S4x8192x1, .f32⟩
  | 40 => ⟨S4x8192x1, .f32⟩
  | 41 => ⟨S4x8192x1024, .f32⟩
  | 42 => ⟨S4x8192x1024, .f32⟩
  | 43 => ⟨S_, .f32⟩
  | 44 => ⟨S4x8192x1, .f32⟩
  | 45 => ⟨S4x8192x1, .f32⟩
  | 46 => ⟨S4x8192x1, .f32⟩
  | 47 => ⟨S4x8192x1024, .f32⟩
  | 48 => ⟨S4x8192x1024, .f32⟩
  | 49 => ⟨S1x1x1024, .f32⟩
  | 50 => ⟨S4x8192x1024, .f32⟩
  | 51 => ⟨S4x8192x1024, .f32⟩
  | 52 => ⟨S1x1x1024, .f32⟩
  | 53 => ⟨S4x8192x1024, .f32⟩
  | 54 => ⟨S4x8192x1024, .f32⟩
  | 55 => ⟨S4x8192x5632, .f32⟩
  | 56 => ⟨S4x8192x2816, .f32⟩
  | 57 => ⟨S4x8192x2816, .f32⟩
  | 58 => ⟨S_, .f32⟩
  | 59 => ⟨S4x8192x1024, .f32⟩
  | 60 => ⟨S4x8192x1024, .f32⟩
  | 61 => ⟨S4x8192x2816, .f32⟩
  | 62 => ⟨S4x8192x2816, .f32⟩
  | 63 => ⟨S_, .f32⟩
  | 64 => ⟨S4x8192x2816, .f32⟩
  | 65 => ⟨S4x8192x2816, .f32⟩
  | 66 => ⟨S_, .f32⟩
  | 67 => ⟨S4x8192x2816, .f32⟩
  | 68 => ⟨S4x8192x2816, .f32⟩
  | 69 => ⟨S4x8192x2816, .f32⟩
  | 70 => ⟨S4x8192x2816, .f32⟩
  | 71 => ⟨S4x8192x1024, .f32⟩
  | 72 => ⟨S_, .f32⟩
  | 73 => ⟨S4x8192x1024, .f32⟩
  | 74 => ⟨S4x8192x1024, .f32⟩
  | 75 => ⟨S4x8192x1024, .f32⟩
  | 76 => ⟨S1x1024, .f32⟩
  | 77 => ⟨S1024, .f32⟩
  | 78 => ⟨S1x1024, .f32⟩
  | 79 => ⟨S1024, .f32⟩
  | 80 => ⟨S_, .f32⟩
  | 81 => ⟨S4x8192, .f32⟩
  | 82 => ⟨S4x8192x1, .f32⟩
  | 83 => ⟨S_, .f32⟩
  | 84 => ⟨S4x8192x1, .f32⟩
  | 85 => ⟨S4x8192x1, .f32⟩
  | 86 => ⟨S4x8192x1024, .f32⟩
  | 87 => ⟨S4x8192x1024, .f32⟩
  | 88 => ⟨S4x8192x1024, .f32⟩
  | 89 => ⟨S_, .f32⟩
  | 90 => ⟨S4x8192, .f32⟩
  | 91 => ⟨S4x8192x1, .f32⟩
  | 92 => ⟨S_, .f32⟩
  | 93 => ⟨S4x8192x1, .f32⟩
  | 94 => ⟨S4x8192x1, .f32⟩
  | 95 => ⟨S4x8192x1024, .f32⟩
  | 96 => ⟨S4x8192x1024, .f32⟩
  | 97 => ⟨S_, .f32⟩
  | 98 => ⟨S4x8192x1, .f32⟩
  | 99 => ⟨S4x8192x1, .f32⟩
  | 100 => ⟨S4x8192x1, .f32⟩
  | 101 => ⟨S4x8192x1024, .f32⟩
  | 102 => ⟨S4x8192x1024, .f32⟩
  | 103 => ⟨S1x1x1024, .f32⟩
  | 104 => ⟨S4x8192x1024, .f32⟩
  | 105 => ⟨S4x8192x1024, .f32⟩
  | 106 => ⟨S1x1x1024, .f32⟩
  | 107 => ⟨S4x8192x1024, .f32⟩
  | 108 => ⟨S4x8192x1024, .f32⟩
  | 109 => ⟨S4x8192x1024, .f32⟩
  | 110 => ⟨S1x1x1024, .f32⟩
  | 111 => ⟨S4x8192x1024, .f32⟩
  | 112 => ⟨S4x8192x1024, .f32⟩
  | 113 => ⟨S4x8192x1024, .f32⟩
  | 114 => ⟨S4x8192x1024, .f32⟩
  | 115 => ⟨S_, .f32⟩
  | 116 => ⟨S4x8192x1024, .f32⟩
  | 117 => ⟨S4x8192x1024, .f32⟩
  | 118 => ⟨S_, .f32⟩
  | 119 => ⟨S4x8192x1024, .f32⟩
  | 120 => ⟨S4x8192x1024, .f32⟩
  | 121 => ⟨S4x8192x1024, .f32⟩
  | 122 => ⟨S4x8192x1024, .f32⟩
  | 123 => ⟨S_, .f32⟩
  | 124 => ⟨S4x8192x1024, .f32⟩
  | 125 => ⟨S4x8192x1024, .f32⟩
  | 126 => ⟨S4x8192x1024, .f32⟩
  | 127 => ⟨S1x1024, .f32⟩
  | _ => ⟨S4x8192x1024, .f32⟩

abbrev hbmTy0_1 (i : Nat) : BufTy := match i % 128 with
  | 0 => ⟨S1024, .f32⟩
  | 1 => ⟨S1x1024, .f32⟩
  | 2 => ⟨S1024, .f32⟩
  | 3 => ⟨S_, .f32⟩
  | 4 => ⟨S4x8192, .f32⟩
  | 5 => ⟨S4x8192x1, .f32⟩
  | 6 => ⟨S_, .f32⟩
  | 7 => ⟨S4x8192x1, .f32⟩
  | 8 => ⟨S4x8192x1, .f32⟩
  | 9 => ⟨S4x8192x1024, .f32⟩
  | 10 => ⟨S4x8192x1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S4x8192x1024, .f32⟩
  | 19 => ⟨S4x8192x1024, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_15 : Ref sig .tc := ⟨.hbm, 131, rfl⟩
abbrev main_v94 : Ref sig .tc := ⟨.hbm, 132, rfl⟩
abbrev main_v95 : Ref sig .tc := ⟨.hbm, 133, rfl⟩
abbrev main_cst_16 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_v101 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_19 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]
-- ==== Ffn.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S4x8192x5632 : Shape := ⟨3, ![4, 8192, 5632]⟩
abbrev S4x8192x2816 : Shape := ⟨3, ![4, 8192, 2816]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4x8192x5632, .f32⟩
  | .hbm, ⟨6, _⟩ => ⟨S4x8192x2816, .f32⟩
  | .hbm, ⟨7, _⟩ => ⟨S4x8192x2816, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S4x8192x2816, .f32⟩
  | .hbm, ⟨12, _⟩ => ⟨S4x8192x2816, .f32⟩
  | .hbm, ⟨13, _⟩ => ⟨S_, .f32⟩
  | .hbm, ⟨14, _⟩ => ⟨S4x8192x2816, .f32⟩
  | .hbm, ⟨15, _⟩ => ⟨S4x8192x2816, .f32⟩
  | .hbm, ⟨16, _⟩ => ⟨S_, .f32⟩
  | .hbm, ⟨17, _⟩ => ⟨S4x8192x2816, .f32⟩
  | .hbm, ⟨18, _⟩ => ⟨S4x8192x2816, .f32⟩
  | .hbm, ⟨19, _⟩ => ⟨S4x8192x2816, .f32⟩
  | .hbm, ⟨20, _⟩ => ⟨S4x8192x2816, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Mix.lean ====
abbrev S4x8192x1024 : Shape := ⟨3, ![4, 8192, 1024]⟩
abbrev S1024x3592 : Shape := ⟨2, ![1024, 3592]⟩
abbrev S4x1536 : Shape := ⟨2, ![4, 1536]⟩
abbrev S3x256 : Shape := ⟨2, ![3, 256]⟩
abbrev S32768x1024 : Shape := ⟨2, ![32768, 1024]⟩
abbrev S1024x2816 : Shape := ⟨2, ![1024, 2816]⟩
abbrev S1024x4 : Shape := ⟨2, ![1024, 4]⟩
abbrev S1024x4x64 : Shape := ⟨3, ![1024, 4, 64]⟩
abbrev S1024x256 : Shape := ⟨2, ![1024, 256]⟩
abbrev S1024x768 : Shape := ⟨2, ![1024, 768]⟩
abbrev S1024x4096 : Shape := ⟨2, ![1024, 4096]⟩
abbrev S32768x768 : Shape := ⟨2, ![32768, 768]⟩
abbrev S32768x1536 : Shape := ⟨2, ![32768, 1536]⟩
abbrev S32768x512 : Shape := ⟨2, ![32768, 512]⟩
abbrev S32768x256 : Shape := ⟨2, ![32768, 256]⟩
abbrev S512x1024 : Shape := ⟨2, ![512, 1024]⟩
abbrev S512x768 : Shape := ⟨2, ![512, 768]⟩
abbrev S512x1536 : Shape := ⟨2, ![512, 1536]⟩
abbrev S512x512 : Shape := ⟨2, ![512, 512]⟩
abbrev S512x256 : Shape := ⟨2, ![512, 256]⟩
abbrev S520x1536 : Shape := ⟨2, ![520, 1536]⟩
abbrev S520x256 : Shape := ⟨2, ![520, 256]⟩
abbrev S8x1536 : Shape := ⟨2, ![8, 1536]⟩
abbrev S8x256 : Shape := ⟨2, ![8, 256]⟩
abbrev S1024x1536 : Shape := ⟨2, ![1024, 1536]⟩
abbrev S1024x512 : Shape := ⟨2, ![1024, 512]⟩
abbrev S1x256 : Shape := ⟨2, ![1, 256]⟩
abbrev S1x1536 : Shape := ⟨2, ![1, 1536]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024x3592, .f32⟩
  | .hbm, ⟨2, _⟩ => ⟨S4x1536, .f32⟩
  | .hbm, ⟨3, _⟩ => ⟨S3x256, .f32⟩
  | .hbm, ⟨4, _⟩ => ⟨S32768x1024, .f32⟩
  | .hbm, ⟨5, _⟩ => ⟨S1024x2816, .f32⟩
  | .hbm, ⟨6, _⟩ => ⟨S1024x4, .f32⟩
  | .hbm, ⟨7, _⟩ => ⟨S1024x4x64, .f32⟩
  | .hbm, ⟨8, _⟩ => ⟨S1024x256, .f32⟩
  | .hbm, ⟨9, _⟩ => ⟨S1024x4, .f32⟩
  | .hbm, ⟨10, _⟩ => ⟨S1024x4x64, .f32⟩
  | .hbm, ⟨11, _⟩ => ⟨S1024x256, .f32⟩
  | .hbm, ⟨12, _⟩ => ⟨S1024x768, .f32⟩
  | .hbm, ⟨13, _⟩ => ⟨S1024x4096, .f32⟩
  | .hbm, ⟨14, _⟩ => ⟨S1024x4096, .bf16⟩
  | .hbm, ⟨15, _⟩ => ⟨S32768x768, .bf16⟩
  | .hbm, ⟨16, _⟩ => ⟨S32768x1536, .bf16⟩
  | .hbm, ⟨17, _⟩ => ⟨S32768x512, .f32⟩
  | .hbm, ⟨18, _⟩ => ⟨S32768x256, .f32⟩
  | .hbm, ⟨19, _⟩ => ⟨S32768x256, .f32⟩
  | .hbm, ⟨20, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4x1536, .f32⟩
  | .local _ .vmem, ⟨4, _⟩ => ⟨S3x256, .f32⟩
  | .local _ .vmem, ⟨5, _⟩ => ⟨S512x768, .bf16⟩
  | .local _ .vmem, ⟨6, _⟩ => ⟨S512x768, .bf16⟩
  | .local _ .vmem, ⟨7, _⟩ => ⟨S512x1536, .bf16⟩
  | .local _ .vmem, ⟨8, _⟩ => ⟨S512x1536, .bf16⟩
  | .local _ .vmem, ⟨9, _⟩ => ⟨S512x512, .f32⟩
  | .local _ .vmem, ⟨10, _⟩ => ⟨S512x512, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .bf16⟩
  | .local _ .vmem, ⟨16, _⟩ => ⟨S512x256, .bf16⟩
  | .local _ .vmem, ⟨17, _⟩ => ⟨S520x1536, .f32⟩
  | .local _ .vmem, ⟨18, _⟩ => ⟨S520x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S4x8192x1024 : Shape := ⟨3, ![4, 8192, 1024]⟩
abbrev S1024x3592 : Shape := ⟨2, ![1024, 3592]⟩
abbrev S4x1536 : Shape := ⟨2, ![4, 1536]⟩
abbrev S3x256 : Shape := ⟨2, ![3, 256]⟩
abbrev S4x8192x3592 : Shape := ⟨3, ![4, 8192, 3592]⟩
abbrev S4x8192x768 : Shape := ⟨3, ![4, 8192, 768]⟩
abbrev S4x8192x1536 : Shape := ⟨3, ![4, 8192, 1536]⟩
abbrev S4x8192x512 : Shape := ⟨3, ![4, 8192, 512]⟩
abbrev S4x8192x4 : Shape := ⟨3, ![4, 8192, 4]⟩
abbrev S_ : Shape := ⟨0, ![]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x4x128 : Shape := ⟨4, ![4, 8192, 4, 128]⟩
abbrev S4x8192x4x1 : Shape := ⟨4, ![4, 8192, 4, 1]⟩
abbrev S4x8192x256 : Shape := ⟨3, ![4, 8192, 256]⟩
abbrev S32768x768 : Shape := ⟨2, ![32768, 768]⟩
abbrev S32768x1536 : Shape := ⟨2, ![32768, 1536]⟩
abbrev S32768x512 : Shape := ⟨2, ![32768, 512]⟩
abbrev S32768x4 : Shape := ⟨2, ![32768, 4]⟩
abbrev S32768x4x64 : Shape := ⟨3, ![32768, 4, 64]⟩
abbrev S32768x256 : Shape := ⟨2, ![32768, 256]⟩
abbrev S4x8194x256 : Shape := ⟨3, ![4, 8194, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 128
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x3592, .f32⟩
  | .hbm, ⟨2, _⟩ => ⟨S4x1536, .f32⟩
  | .hbm, ⟨3, _⟩ => ⟨S3x256, .f32⟩
  | .hbm, ⟨4, _⟩ => ⟨S4x8192x3592, .f32⟩
  | .hbm, ⟨5, _⟩ => ⟨S4x8192x768, .f32⟩
  | .hbm, ⟨6, _⟩ => ⟨S4x8192x1536, .f32⟩
  | .hbm, ⟨7, _⟩ => ⟨S4x8192x512, .f32⟩
  | .hbm, ⟨8, _⟩ => ⟨S4x8192x4, .f32⟩
  | .hbm, ⟨9, _⟩ => ⟨S4x8192x4, .f32⟩
  | .hbm, ⟨10, _⟩ => ⟨S4x8192x768, .f32⟩
  | .hbm, ⟨11, _⟩ => ⟨S_, .i32⟩
  | .hbm, ⟨12, _⟩ => ⟨S_, .f32⟩
  | .hbm, ⟨13, _⟩ => ⟨S4x8195x1536, .f32⟩
  | .hbm, ⟨14, _⟩ => ⟨S4x8192x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S4x8192x1536, .f32⟩
  | .hbm, ⟨19, _⟩ => ⟨S4x8192x1536, .f32⟩
  | .hbm, ⟨20, _⟩ => ⟨S_, .f32⟩
  | .hbm, ⟨21, _⟩ => ⟨S4x8192x1536, .f32⟩
  | .hbm, ⟨22, _⟩ => ⟨S4x8192x1536, .f32⟩
  | .hbm, ⟨23, _⟩ => ⟨S4x8192x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S4x8192x1536, .f32⟩
  | .hbm, ⟨28, _⟩ => ⟨S4x8192x1536, .f32⟩
  | .hbm, ⟨29, _⟩ => ⟨S4x8192x1536, .f32⟩
  | .hbm, ⟨30, _⟩ => ⟨S4x8192x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S4x8192x1536, .f32⟩
  | .hbm, ⟨35, _⟩ => ⟨S4x8192x1536, .f32⟩
  | .hbm, ⟨36, _⟩ => ⟨S4x8192x1536, .f32⟩
  | .hbm, ⟨37, _⟩ => ⟨S4x8192x1536, .f32⟩
  | .hbm, ⟨38, _⟩ => ⟨S1x1536, .f32⟩
  | .hbm, ⟨39, _⟩ => ⟨S1536, .f32⟩
  | .hbm, ⟨40, _⟩ => ⟨S1x1x1536, .f32⟩
  | .hbm, ⟨41, _⟩ => ⟨S4x8192x1536, .f32⟩
  | .hbm, ⟨42, _⟩ => ⟨S4x8192x1536, .f32⟩
  | .hbm, ⟨43, _⟩ => ⟨S4x8192x1536, .f32⟩
  | .hbm, ⟨44, _⟩ => ⟨S4x8192x1536, .f32⟩
  | .hbm, ⟨45, _⟩ => ⟨S4x8192x1536, .f32⟩
  | .hbm, ⟨46, _⟩ => ⟨S_, .f32⟩
  | .hbm, ⟨47, _⟩ => ⟨S4x8192x1536, .f32⟩
  | .hbm, ⟨48, _⟩ => ⟨S4x8192x1536, .f32⟩
  | .hbm, ⟨49, _⟩ => ⟨S_, .f32⟩
  | .hbm, ⟨50, _⟩ => ⟨S4x8192x1536, .f32⟩
  | .hbm, ⟨51, _⟩ => ⟨S4x8192x1536, .f32⟩
  | .hbm, ⟨52, _⟩ => ⟨S4x8192x1536, .f32⟩
  | .hbm, ⟨53, _⟩ => ⟨S4x8192x512, .f32⟩
  | .hbm, ⟨54, _⟩ => ⟨S4x8192x512, .f32⟩
  | .hbm, ⟨55, _⟩ => ⟨S4x8192x512, .f32⟩
  | .hbm, ⟨56, _⟩ => ⟨S4x8192x4x128, .f32⟩
  | .hbm, ⟨57, _⟩ => ⟨S4x8192x4x128, .f32⟩
  | .hbm, ⟨58, _⟩ => ⟨S_, .f32⟩
  | .hbm, ⟨59, _⟩ => ⟨S4x8192x4, .f32⟩
  | .hbm, ⟨60, _⟩ => ⟨S4x8192x4x1, .f32⟩
  | .hbm, ⟨61, _⟩ => ⟨S_, .f32⟩
  | .hbm, ⟨62, _⟩ => ⟨S4x8192x4x1, .f32⟩
  | .hbm, ⟨63, _⟩ => ⟨S4x8192x4x1, .f32⟩
  | .hbm, ⟨64, _⟩ => ⟨S4x8192x4x1, .f32⟩
  | .hbm, ⟨65, _⟩ => ⟨S4x8192x4x128, .f32⟩
  | .hbm, ⟨66, _⟩ => ⟨S4x8192x4x128, .f32⟩
  | .hbm, ⟨67, _⟩ => ⟨S4x8192x512, .f32⟩
  | .hbm, ⟨68, _⟩ => ⟨S_, .f32⟩
  | .hbm, ⟨69, _⟩ => ⟨S4x8192x512, .f32⟩
  | .hbm, ⟨70, _⟩ => ⟨S4x8192x512, .f32⟩
  | .hbm, ⟨71, _⟩ => ⟨S4x8192x4x128, .f32⟩
  | .hbm, ⟨72, _⟩ => ⟨S4x8192x4x128, .f32⟩
  | .hbm, ⟨73, _⟩ => ⟨S_, .f32⟩
  | .hbm, ⟨74, _⟩ => ⟨S4x8192x4, .f32⟩
  | .hbm, ⟨75, _⟩ => ⟨S4x8192x4x1, .f32⟩
  | .hbm, ⟨76, _⟩ => ⟨S_, .f32⟩
  | .hbm, ⟨77, _⟩ => ⟨S4x8192x4x1, .f32⟩
  | .hbm, ⟨78, _⟩ => ⟨S4x8192x4x1, .f32⟩
  | .hbm, ⟨79, _⟩ => ⟨S4x8192x4x1, .f32⟩
  | .hbm, ⟨80, _⟩ => ⟨S4x8192x4x128, .f32⟩
  | .hbm, ⟨81, _⟩ => ⟨S4x8192x4x128, .f32⟩
  | .hbm, ⟨82, _⟩ => ⟨S4x8192x512, .f32⟩
  | .hbm, ⟨83, _⟩ => ⟨S4x8192x1536, .f32⟩
  | .hbm, ⟨84, _⟩ => ⟨S4x8192x256, .f32⟩
  | .hbm, ⟨85, _⟩ => ⟨S4x8192x256, .f32⟩
  | .hbm, ⟨86, _⟩ => ⟨S4x8192x256, .f32⟩
  | .hbm, ⟨87, _⟩ => ⟨S32768x768, .f32⟩
  | .hbm, ⟨88, _⟩ => ⟨S32768x768, .bf16⟩
  | .hbm, ⟨89, _⟩ => ⟨S32768x1536, .f32⟩
  | .hbm, ⟨90, _⟩ => ⟨S32768x1536, .bf16⟩
  | .hbm, ⟨91, _⟩ => ⟨S32768x512, .f32⟩
  | .hbm, ⟨92, _⟩ => ⟨S32768x4, .f32⟩
  | .hbm, ⟨93, _⟩ => ⟨S32768x4x64, .f32⟩
  | .hbm, ⟨94, _⟩ => ⟨S32768x256, .f32⟩
  | .hbm, ⟨95, _⟩ => ⟨S32768x4, .f32⟩
  | .hbm, ⟨96, _⟩ => ⟨S32768x4x64, .f32⟩
  | .hbm, ⟨97, _⟩ => ⟨S32768x256, .f32⟩
  | .hbm, ⟨98, _⟩ => ⟨S4x8192x256, .f32⟩
  | .hbm, ⟨99, _⟩ => ⟨S_, .i32⟩
  | .hbm, ⟨100, _⟩ => ⟨S_, .f32⟩
  | .hbm, ⟨101, _⟩ => ⟨S4x8194x256, .f32⟩
  | .hbm, ⟨102, _⟩ => ⟨S4x8192x256, .f32⟩
  | .hbm, ⟨103, _⟩ => ⟨S1x256, .f32⟩
  | .hbm, ⟨104, _⟩ => ⟨S256, .f32⟩
  | .hbm, ⟨105, _⟩ => ⟨S1x1x256, .f32⟩
  | .hbm, ⟨106, _⟩ => ⟨S4x8192x256, .f32⟩
  | .hbm, ⟨107, _⟩ => ⟨S4x8192x256, .f32⟩
  | .hbm, ⟨108, _⟩ => ⟨S_, .f32⟩
  | .hbm, ⟨109, _⟩ => ⟨S4x8192x256, .f32⟩
  | .hbm, ⟨110, _⟩ => ⟨S4x8192x256, .f32⟩
  | .hbm, ⟨111, _⟩ => ⟨S4x8192x256, .f32⟩
  | .hbm, ⟨112, _⟩ => ⟨S1x256, .f32⟩
  | .hbm, ⟨113, _⟩ => ⟨S256, .f32⟩
  | .hbm, ⟨114, _⟩ => ⟨S1x1x256, .f32⟩
  | .hbm, ⟨115, _⟩ => ⟨S4x8192x256, .f32⟩
  | .hbm, ⟨116, _⟩ => ⟨S4x8192x256, .f32⟩
  | .hbm, ⟨117, _⟩ => ⟨S4x8192x256, .f32⟩
  | .hbm, ⟨118, _⟩ => ⟨S4x8192x256, .f32⟩
  | .hbm, ⟨119, _⟩ => ⟨S1x256, .f32⟩
  | .hbm, ⟨120, _⟩ => ⟨S256, .f32⟩
  | .hbm, ⟨121, _⟩ => ⟨S1x1x256, .f32⟩
  | .hbm, ⟨122, _⟩ => ⟨S4x8192x256, .f32⟩
  | .hbm, ⟨123, _⟩ => ⟨S4x8192x256, .f32⟩
  | .hbm, ⟨124, _⟩ => ⟨S4x8192x256, .f32⟩
  | .hbm, ⟨125, _⟩ => ⟨S4x8192x256, .f32⟩
  | .hbm, ⟨126, _⟩ => ⟨S32768x256, .f32⟩
  | .hbm, ⟨127, _⟩ => ⟨S32768x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_0 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_2 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_5 : Ref sig .tc := ⟨.hbm, 99, rfl⟩
abbrev main_call2_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_6 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩

abbrev nD : Nat := 1
abbrev τ : Topo := Topo.v7x

variable {F : FTy → Type} [FloatOps F]
-- ==== Proof.KB.Body.lean ====
/-
  The kernel body's run at a grid point, from whole buffers at any contents.
-/
module

public import proofs.«01_k».proof.Proof.KB.Loop
public import Idealize.ShloMosaic.Lib.VecWindow
public import Idealize.ShloMosaic.Lib.Pipeline.ReadBack

@[expose] public section

set_option maxRecDepth 16384

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tiles a loop starts with, at grid position `a` along the rows and subtile `t`: all of those below the window. -/
def left (a : Fin 16) (t : Fin 4) (b : BitVec 1) : ℕ := if b = 1#1 then 4 * a.val + t.val - 2 else 0

/-- A loop's first word is the tile below its window, or `-1` when the kernel skips the loops. -/
theorem at_first (a : Fin 16) (t : Fin 4) (b : BitVec 1) :
    At (left a t b) (Scalar.select b (Scalar.subi (Scalar.addi (Scalar.muli (BitVec.ofNat 32 a.val) 4#32) (BitVec.ofNat 32 t.val)) 3#32) 4294967295#32) := by
  have hb : b = 1#1 ∨ b = 0#1 := by revert b; decide
  obtain rfl | rfl := hb
  · have h1 : ∀ a : Fin 16, ∀ t : Fin 4, 4 * a.val + t.val - 2 = 0 →
        (Scalar.subi (Scalar.addi (Scalar.muli (BitVec.ofNat 32 a.val) 4#32) (BitVec.ofNat 32 t.val)) 3#32).toInt < 0 := by decide +kernel
    have h2 : ∀ a : Fin 16, ∀ t : Fin 4, Scalar.subi (Scalar.addi (Scalar.muli (BitVec.ofNat 32 a.val) 4#32) (BitVec.ofNat 32 t.val)) 3#32
        = BitVec.ofNat 32 (4 * a.val + t.val - 2 - 1) ∨ 4 * a.val + t.val - 2 = 0 := by decide +kernel
    show At (4 * a.val + t.val - 2) (Scalar.subi (Scalar.addi (Scalar.muli (BitVec.ofNat 32 a.val) 4#32) (BitVec.ofNat 32 t.val)) 3#32)
    by_cases h : 4 * a.val + t.val - 2 = 0
    · exact .inl ⟨h, h1 a t h⟩
    · exact .inr ⟨_, by omega, by omega, (h2 a t).resolve_right h⟩
  · exact .inl ⟨rfl, (by decide : (4294967295#32).toInt < 0)⟩

section Calls

variable (c : Dev nD) (i : grid0.Coords)
  (aK : Memref sig .tc .vmem S1x8192x128 .bf16) (hK : aK.IsWhole) (q : FVec F S128x128 .bf16)
  (aS : Memref sig .tc .vmem S768x384 .bf16) (hS : aS.IsWhole)
  (aV : Memref sig .tc .vmem S1x8192x128 .bf16) (hV : aV.IsWhole)
  (fK : Bf (F := F) c aK) (fS : Bf (F := F) c aS) (fV : Bf (F := F) c aV)
  (cr : FVec F S128x1 .f32) (acc : FVec F S128x128 .f32)

/-- What a call of a loop from the body asks: the word is the tile below `n` tiles, the buffers, and the rest of the body
    from any state whose weighted values are `run`'s. -/
abbrev Asks {α : Type} (k : St F → Prog (TpuEff nD τ sig (Elt F) (Λ₀ F) .tc) α) (Q : α → sProp 𝕄) (n : ℕ) (kb : BitVec 32) : sProp 𝕄 :=
  iprop(⌜At n kb⌝ ∗ spec c aK q aS aV fK fS fV n cr acc fun r =>
    wp frame (wpE (defs₀ (F := F)) 𝒱₀ (c : Thread nD τ) none) Set.univ (k r) Q)

/-- Loop 1 called from the body. -/
theorem call_1 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (1 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_1 c i aK hK q aS hS aV hV fK fS fV Set.univ n kb hat cr acc))
  iexact H
/-- Loop 2 called from the body. -/
theorem call_2 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (2 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_2 c i aK hK q aS hS aV hV fK fS fV Set.univ n kb hat cr acc))
  iexact H
/-- Loop 3 called from the body. -/
theorem call_3 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (3 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_3 c i aK hK q aS hS aV hV fK fS fV Set.univ n kb hat cr acc))
  iexact H
/-- Loop 4 called from the body. -/
theorem call_4 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (4 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_4 c i aK hK q aS hS aV hV fK fS fV Set.univ n kb hat cr acc))
  iexact H
/-- Loop 5 called from the body. -/
theorem call_5 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (5 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_5 c i aK hK q aS hS aV hV fK fS fV Set.univ n kb hat cr acc))
  iexact H
/-- Loop 6 called from the body. -/
theorem call_6 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (6 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_6 c i aK hK q aS hS aV hV fK fS fV Set.univ n kb hat cr acc))
  iexact H
/-- Loop 7 called from the body. -/
theorem call_7 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (7 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_7 c i aK hK q aS hS aV hV fK fS fV Set.univ n kb hat cr acc))
  iexact H
/-- Loop 8 called from the body. -/
theorem call_8 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (8 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_8 c i aK hK q aS hS aV hV fK fS fV Set.univ n kb hat cr acc))
  iexact H

end Calls

/-- What the body's first part hands on: the position, the lane numbers, the first window's tile and row, the scaled first
    query tile masked to either head, and the scaled second one. -/
def part1_out (c : Dev nD) (i : grid0.Coords) (M3 : Memref sig .tc .vmem S1x512x128 .bf16) (f3 : Bf (F := F) c M3) :
    Σ' (arg2 : BitVec 32) (v0 : IVec S128x128 32) (v9 : BitVec 32) (v13 : BitVec 32) (v20 : FVec F S128x128 .bf16) (v27 : FVec F S128x128 .bf16) (v31 : FVec F S128x128 .bf16) (v32 : BitVec 32), BitVec 32 :=
  ⟨BitVec.ofNat 32 (i 2).val, iota .tc S128x128 32 [1] iota_S128x128_d1_w32, Scalar.addi (Scalar.muli (BitVec.ofNat 32 (i 2).val) 4#32) 0#32,
        Scalar.muli (Scalar.maxsi (Scalar.subi (Scalar.addi (Scalar.muli (BitVec.ofNat 32 (i 2).val) 4#32) 0#32) 2#32) 0#32) 128#32,
        k0_pay44 (M3.view.readAt (Elt F) (Rect.unit (s := S1x512x128) ![0, 0, 0] S1x128x128.size inb_S1x512x128_S1x128x128_0_0_0).toLoadRect f3),
        k0_pay45 (M3.view.readAt (Elt F) (Rect.unit (s := S1x512x128) ![0, 0, 0] S1x128x128.size inb_S1x512x128_S1x128x128_0_0_0).toLoadRect f3),
        k0_pay46 (M3.view.readAt (Elt F) (Rect.unit (s := S1x512x128) ![0, 128, 0] S1x128x128.size inb_S1x512x128_S1x128x128_0_128_0).toLoadRect f3),
        Scalar.muli (BitVec.ofNat 32 (i 2).val) 4#32, 1#32⟩

theorem q_eq {α : Type} {Q : α → sProp 𝕄} {x y : α} (h : x = y) : Q x ⊢ Q y := by
  subst h; exact Entails.refl _

/-- The first part's run: at a row's first point it stores the triangular matrix, and at any point leaves it in the buffer. -/
theorem part1_run (c : Dev nD) (i : grid0.Coords) (M3 : Memref sig .tc .vmem S1x512x128 .bf16) (h3 : M3.IsWhole) (M4 : Memref sig .tc .vmem S1x8192x128 .bf16) (h4 : M4.IsWhole) (M5 : Memref sig .tc .vmem S1x8192x128 .bf16) (h5 : M5.IsWhole) (M6 : Memref sig .tc .vmem S1x512x128 .bf16) (h6 : M6.IsWhole) (M7 : Memref sig .tc .vmem S8x128x128 .f32) (h7 : M7.IsWhole) (M8 : Memref sig .tc .vmem S768x384 .bf16) (h8 : M8.IsWhole)
    (f3 : Bf (F := F) c M3) (f8 : Bf (F := F) c M8) (hf8 : (i 2).val ≠ 0 → f8 = h8.unread (k0_pay42 (F := F))) (Q) :
    iprop(pt c M3 f3 ∗ pt c M8 f8 ∗ (iprop(pt c M3 f3 ∗ pt c M8 (h8.unread (k0_pay42 (F := F)))) -∗
       Q (part1_out c i M3 f3)))
     ⊢ wp frame (wpE (defs₀ (F := F)) 𝒱₀ (c : Thread nD τ) none) Set.univ (k0_part1 i M3 h3 M4 h4 M5 h5 M6 h6 M7 h7 M8 h8) Q := by
  have key : ∀ a : Fin 16, Scalar.cmpi .ne ((Scalar.extui (Scalar.cmpi .eq (BitVec.ofNat 32 a.val) 0#32)) : BitVec 32) 0#32 = if a.val = 0 then 1#1 else 0#1 := by decide +kernel
  by_cases h0 : (i 2).val = 0
  · have hc := (key (i 2)).trans (if_pos h0)
    sl_unfold [k0_part1]
    iintro ⟨H3, H8, Hk⟩
    sl_exec
    rw [h8.eq_unread (View.read_writes_full M8.view f8 inb_S768x384_S768x384_0_0 _ _), wp_ret]
    imodintro
    iapply (q_eq (Q := Q) (x := part1_out c i M3 f3) ?_)
    rotate_left
    · iapply Hk
      isplitl [H3]; · iexact H3
      iexact H8
    · rfl
  · have hc : ¬ Scalar.cmpi .ne ((Scalar.extui (Scalar.cmpi .eq (BitVec.ofNat 32 (i 2).val) 0#32)) : BitVec 32) 0#32 = 1#1 := by
      rw [(key (i 2)).trans (if_neg h0)]; decide
    obtain rfl := hf8 h0
    sl_unfold [k0_part1]
    iintro ⟨H3, H8, Hk⟩
    sl_exec
    rw [wp_ret]
    imodintro
    iapply (q_eq (Q := Q) (x := part1_out c i M3 f3) ?_)
    rotate_left
    · iapply Hk
      isplitl [H3]; · iexact H3
      iexact H8
    · rfl

set_option maxHeartbeats 4000000 in
theorem bodyRun (c : Dev nD) (i : grid0.Coords) (M3 : Memref sig .tc .vmem S1x512x128 .bf16) (h3 : M3.IsWhole) (M4 : Memref sig .tc .vmem S1x8192x128 .bf16) (h4 : M4.IsWhole) (M5 : Memref sig .tc .vmem S1x8192x128 .bf16) (h5 : M5.IsWhole) (M6 : Memref sig .tc .vmem S1x512x128 .bf16) (h6 : M6.IsWhole) (M7 : Memref sig .tc .vmem S8x128x128 .f32) (h7 : M7.IsWhole) (M8 : Memref sig .tc .vmem S768x384 .bf16) (h8 : M8.IsWhole)
    (f3 : Bf (F := F) c M3) (f4 : Bf (F := F) c M4) (f5 : Bf (F := F) c M5) (f6 : Bf (F := F) c M6) (f7 : Bf (F := F) c M7)
    (f8 : Bf (F := F) c M8) (hf8 : (i 2).val ≠ 0 → f8 = h8.unread (k0_pay42 (F := F))) (Q : PUnit → sProp 𝕄) :
    iprop(pt c M3 f3 ∗ pt c M4 f4 ∗ pt c M5 f5 ∗ pt c M6 f6 ∗ pt c M7 f7 ∗ pt c M8 f8
      ∗ ((∃ f6' f7', pt c M3 f3 ∗ pt c M4 f4 ∗ pt c M5 f5 ∗ pt c M6 f6' ∗ pt c M7 f7' ∗ pt c M8 (h8.unread (k0_pay42 (F := F)))) -∗ Q ⟨⟩))
     ⊢ wp frame (wpE (defs₀ (F := F)) 𝒱₀ (c : Thread nD τ) none) Set.univ (cc0_sb_attention i M3 h3 M4 h4 M5 h5 M6 h6 M7 h7 M8 h8) Q := by
  iintro ⟨H3, H4, H5, H6, H7, H8, Hk⟩
  rw [cc0_sb_attention_eq_skeleton]; unfold cc0_sb_attention_skel; rw [k0_part15_eq_skeleton]; unfold k0_part15_skel
  rw [wp_bind, wp_bind]
  iapply (part1_run c i M3 h3 M4 h4 M5 h5 M6 h6 M7 h7 M8 h8 f3 f8 hf8)
  isplitl [H3]; · iexact H3
  isplitl [H8]; · iexact H8
  iintro ⟨H3, H8⟩
  dsimp only [part1_out]
  sl_exec
  simp only [Prog.lift, Prog.bind_op, Prog.bind_ret, Prog.pure_eq_ret]
  iapply (call_1 c i M4 h4 _ M8 h8 M5 h5 f4 _ f5 _ _ _ _ (left (i 2) 0 _) _)
  isplitr; · ipureintro; exact at_first (i 2) 0 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_2 c i M4 h4 _ M8 h8 M5 h5 f4 _ f5 _ _ _ _ (left (i 2) 0 _) _)
  isplitr; · ipureintro; exact at_first (i 2) 0 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_3 c i M4 h4 _ M8 h8 M5 h5 f4 _ f5 _ _ _ _ (left (i 2) 1 _) _)
  isplitr; · ipureintro; exact at_first (i 2) 1 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_4 c i M4 h4 _ M8 h8 M5 h5 f4 _ f5 _ _ _ _ (left (i 2) 1 _) _)
  isplitr; · ipureintro; exact at_first (i 2) 1 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_5 c i M4 h4 _ M8 h8 M5 h5 f4 _ f5 _ _ _ _ (left (i 2) 2 _) _)
  isplitr; · ipureintro; exact at_first (i 2) 2 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_6 c i M4 h4 _ M8 h8 M5 h5 f4 _ f5 _ _ _ _ (left (i 2) 2 _) _)
  isplitr; · ipureintro; exact at_first (i 2) 2 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  dsimp only
  rw [wp_ret]; imodintro
  dsimp only
  sl_exec
  simp only [Prog.lift, Prog.bind_op, Prog.bind_ret, Prog.pure_eq_ret]
  iapply (call_7 c i M4 h4 _ M8 h8 M5 h5 f4 _ f5 _ _ _ _ (left (i 2) 3 _) _)
  isplitr; · ipureintro; exact at_first (i 2) 3 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_8 c i M4 h4 _ M8 h8 M5 h5 f4 _ f5 _ _ _ _ (left (i 2) 3 _) _)
  isplitr; · ipureintro; exact at_first (i 2) 3 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  rw [wp_ret]; imodintro
  iapply Hk
  iexists _, _
  isplitl [H3]; · iexact H3
  isplitl [H4]; · iexact H4
  isplitl [H5]; · iexact H5
  isplitl [H6]; · iexact H6
  isplitl [H7]; · iexact H7
  iexact H8

end Cert.Proof.KB

end
-- ==== Proof.KB.Launch.lean ====
/-
  The launch: the pipeline's proof data, the body's obligation at every grid point, the run of @main and its frame.
-/
module

public import proofs.«01_k».proof.Proof.KB.Body
public import Idealize.ShloMosaic.Lib.Claim

@[expose] public section

set_option maxRecDepth 16384

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them. -/
abbrev V (c : Dev nD) (b : Ref sig .tc) : Buf (Elt F) ((c.tc : Thread nD τ).loc b) := m ((c.tc : Thread nD τ).loc b)

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging memrefs are whole. -/
theorem hst0 (t : Fin (cfg0 (F := F)).N) : (st0_0 (F := F) t).IsWhole := hstage0_0 (((cfg0 (F := F)).slots t 0).cast nbuf0_0)
theorem hst1 (t : Fin (cfg0 (F := F)).N) : (st0_1 (F := F) t).IsWhole := hstage0_1 (((cfg0 (F := F)).slots t 1).cast nbuf0_1)
theorem hst2 (t : Fin (cfg0 (F := F)).N) : (st0_2 (F := F) t).IsWhole := hstage0_2 (((cfg0 (F := F)).slots t 2).cast nbuf0_2)
theorem hst3 (t : Fin (cfg0 (F := F)).N) : (st0_3 (F := F) t).IsWhole := hstage0_3 (((cfg0 (F := F)).slots t 3).cast nbuf0_3)

/-- A whole memref's cells are its buffer's. -/
theorem set_whole {sp : Space} {s : Shape} {e : EltTy} {M : Memref sig .tc sp s e} (h : M.IsWhole) : M.view.set = Finset.univ := by
  obtain ⟨b, rfl, rfl, rfl, hm⟩ := h; cases hm
  simp only [Memref.view_whole, View.set_whole]

section Kernel

variable (c : Dev nD) (i : grid0.Coords)
  (M3 : Memref sig .tc .vmem S1x512x128 .bf16) (h3 : M3.IsWhole) (M4 : Memref sig .tc .vmem S1x8192x128 .bf16) (h4 : M4.IsWhole)
  (M5 : Memref sig .tc .vmem S1x8192x128 .bf16) (h5 : M5.IsWhole) (M6 : Memref sig .tc .vmem S1x512x128 .bf16) (h6 : M6.IsWhole)
  (M7 : Memref sig .tc .vmem S8x128x128 .f32) (h7 : M7.IsWhole) (M8 : Memref sig .tc .vmem S768x384 .bf16) (h8 : M8.IsWhole)

/-- The body's triple on whole memrefs at read contents. -/
theorem sound_kernel (x0 : FVec F S1x512x128 .bf16) (x1 x2 : FVec F S1x8192x128 .bf16) (f7 : Bf (F := F) c M7) (f8 : Bf (F := F) c M8)
    (hf8 : (i 2).val ≠ 0 → f8 = h8.unread (k0_pay42 (F := F))) (K : PUnit → sProp 𝕄) :
    iprop(owns (c : Thread nD τ) M3 fullShare x0 ∗ owns (c : Thread nD τ) M4 fullShare x1 ∗ owns (c : Thread nD τ) M5 fullShare x2
        ∗ (∃ d, owns (c : Thread nD τ) M6 fullShare d) ∗ pt c M7 f7 ∗ pt c M8 f8
        ∗ (iprop(owns (c : Thread nD τ) M3 fullShare x0 ∗ owns (c : Thread nD τ) M4 fullShare x1 ∗ owns (c : Thread nD τ) M5 fullShare x2
            ∗ (∃ d, owns (c : Thread nD τ) M6 fullShare d)
            ∗ (∃ f7', pt c M7 f7') ∗ pt c M8 (h8.unread (k0_pay42 (F := F)))) -∗ K ⟨⟩))
      ⊢ wp frame (wpE (defs₀ (F := F)) 𝒱₀ (c : Thread nD τ) none) Set.univ (cc0_sb_attention i M3 h3 M4 h4 M5 h5 M6 h6 M7 h7 M8 h8) K := by
  unfold owns
  rw [set_whole h3, set_whole h4, set_whole h5, set_whole h6]
  iintro ⟨⟨%f3, %hf3, H3⟩, ⟨%f4, %hf4, H4⟩, ⟨%f5, %hf5, H5⟩, ⟨%d6, %f6, -, H6⟩, H7, H8, Hk⟩
  obtain rfl := h3.eq_unread hf3
  obtain rfl := h4.eq_unread hf4
  obtain rfl := h5.eq_unread hf5
  iapply (bodyRun c i M3 h3 M4 h4 M5 h5 M6 h6 M7 h7 M8 h8 (h3.unread x0) (h4.unread x1) (h5.unread x2) f6 f7 f8 hf8 K)
  isplitl [H3]; · iexact H3
  isplitl [H4]; · iexact H4
  isplitl [H5]; · iexact H5
  isplitl [H6]; · iexact H6
  isplitl [H7]; · iexact H7
  isplitl [H8]; · iexact H8
  iintro ⟨%f6', %f7', H3, H4, H5, H6, H7, H8⟩
  iapply Hk
  isplitl [H3]
  · iexists (h3.unread x0); isplitr; · ipureintro; exact h3.read_unread _
    iexact H3
  isplitl [H4]
  · iexists (h4.unread x1); isplitr; · ipureintro; exact h4.read_unread _
    iexact H4
  isplitl [H5]
  · iexists (h5.unread x2); isplitr; · ipureintro; exact h5.read_unread _
    iexact H5
  isplitl [H6]
  · iexists _, _; isplitr
    swap; · iexact H6
    ipureintro
    rfl
  isplitl [H7]; · iexists f7'; iexact H7
  iexact H8

end Kernel

/-! ## The pipeline's proof data -/

/-- The triangular matrix's buffer. -/
abbrev sufM : Memref sig .tc .vmem S768x384 .bf16 := Memref.whole cc0_scratch1
theorem hsuf : sufM.IsWhole := Memref.isWhole_whole _

/-- Before point `n`: the accumulators at anything, the triangular matrix in its buffer away from a row's first point,
    and the generator's register. -/
def PhiS (c : Dev nD) (n : ℕ) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ⌜n % 16 ≠ 0 → f = hsuf.unread (k0_pay42 (F := F))⌝ ∗ (((c : Thread nD τ).loc cc0_scratch1) ↦{fullShare} f))
    ∗ ∃ r, prngReg (c : Thread nD τ).1 r)

/-- The proof data of the one pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed 3 t
  Φ t := PhiS c t.val
  q w := Pipeline.shareOf spec0 w
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
/-- The output's window is the one the proof data say nothing of. -/
def fgt : Fin (cfg0 (F := F)).W → Bool
  | ⟨3, _⟩ => true
  | _ => false

/-- An input window's buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The grid position along the rows is the point's number modulo 16. -/
theorem coord2 : ∀ t : Fin grid0.N, ((grid0.coords t) 2).val = t.val % 16 := by decide +kernel

theorem Φ_castSucc (c : Dev nD) (t : Fin (cfg0 (F := F)).N) : (dats m 0 c).Φ t.castSucc = PhiS c t.val := by
  dsimp only [dats]; exact Pipeline.Dat.Φ_castSucc (fun n _ => PhiS c n) t
theorem Φ_succ (c : Dev nD) (t : Fin (cfg0 (F := F)).N) : (dats m 0 c).Φ t.succ = PhiS c (t.val + 1) := by
  dsimp only [dats]; rfl

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [Φ_castSucc, Φ_succ, show (dats m 0 c).owesAt () t.succ = (dats m 0 c).owesAt () t.castSucc from rfl,
    after0_0, after0_1, after0_2]
  unfold PhiS
  iintro ⟨⟨⟨%f7, H7⟩, ⟨%f8, %hf8, H8⟩, Hr⟩, Ho, ⟨%d0, H0⟩, ⟨%d1, H1⟩, ⟨%d2, H2⟩, ⟨%d3, H3⟩⟩
  iapply (sound_kernel c (grid0.coords t) (st0_0 t) (hst0 t) (st0_1 t) (hst1 t) (st0_2 t) (hst2 t) (st0_3 t) (hst3 t)
    (Memref.whole cc0_scratch0) (Memref.isWhole_whole _) sufM hsuf (iblk m c 0 t) (iblk m c 1 t) (iblk m c 2 t) f7 f8
    (fun h => hf8 (by rwa [coord2] at h)) _)
  isplitl [H0]; · iexact H0
  isplitl [H1]; · iexact H1
  isplitl [H2]; · iexact H2
  isplitl [H3]; · iexists d3; iexact H3
  isplitl [H7]; · iexact H7
  isplitl [H8]; · iexact H8
  iintro ⟨H0, H1, H2, H3, ⟨%f7', H7⟩, H8⟩
  isplitl [H7 H8 Hr]
  · isplitl [H7]; · iexists f7'; iexact H7
    isplitl [H8]
    · iexists (hsuf.unread (k0_pay42 (F := F))); isplitr; · ipureintro; exact fun _ => rfl
      iexact H8
    iexact Hr
  isplitl [Ho]; · iexact Ho
  isplitl [H0]; · iexact H0
  isplitl [H1]; · iexact H1
  isplitl [H2]; · iexact H2
  iexact H3

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation. -/
theorem body_obligation (c : Dev nD) : BodyObligation (dats (F := F) m 0 c) (defs₀ (F := F)) 𝒱₀ () Set.univ (fgt (F := F)) := fun t => by
  rw [bigSep_W0, bigSep_W0, defs₀_row]
  exact triple_restated (sound_body m c t) rfl .rfl fun _ => .rfl

theorem phi_in (c : Dev nD) : Pipeline.ΦA spec0 c ⊢ (dats (F := F) m 0 c).Φ 0 := by
  show Pipeline.ΦA spec0 c ⊢ PhiS c 0
  unfold Pipeline.ΦA PhiS
  rw [scopedRest0_eq]
  iintro ⟨⟨H0, ⟨%f, H1⟩⟩, Hr⟩
  isplitl [H0]; · iexact H0
  isplitl [H1]
  · iexists f; isplitr; · ipureintro; intro h; exact absurd rfl h
    iexact H1
  iexact Hr

theorem phi_out (c : Dev nD) : (dats (F := F) m 0 c).Φ (Fin.last (cfg0 (F := F)).N) ⊢ Pipeline.ΦA spec0 c := by
  show PhiS c (cfg0 (F := F)).N ⊢ Pipeline.ΦA spec0 c
  unfold Pipeline.ΦA PhiS
  rw [scopedRest0_eq]
  iintro ⟨H0, ⟨%f, -, H1⟩, Hr⟩
  isplitl [H0 H1]
  · isplitl [H0]; · iexact H0
    iexists f; iexact H1
  iexact Hr

/-- The launch: every run ends with the input arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  Pipeline.θ_run_frame_track_forget_shared (Q' := _) cfgs (dats m) (0 : Fin 1) launch₀0 defs₀ 𝒱₀ (fgt (F := F)) m ρ main
    (hbody := fun c => (body_obligation m c).loose) (hq := fun c w _ => rfl)
    (howed := fun _ _ => rfl) (V := V m) (hmain := Pipeline.hmain_region cfgs 0 defs₀ 𝒱₀ m main fun c => rfl) (hA := A_eq m)
    (hin := phi_in m) (hout := phi_out m)
    (hQ' := fun r h => ⟨fun c => (congrFun (((dats m 0 c).toRForget fgt).ArrAt_in 0 rfl (cfg0 (F := F)).N) _).mp ((h.1 c).1 0), h.2⟩)

end Cert.Proof.KB

end
-- ==== Proof.KI.Loop.lean ====
/-
  The kernel's eight loops. Each walks the key tiles below a query tile's window from the nearest one down to the first,
  carrying the sum of the log skip chances read so far and the weighted values; it stops at the first tile, or once no
  row's carried sum is above the threshold. The eight labels have one body (`whileP`, whose own call is a parameter), so
  one lemma (`whileP_meets`) says what a body does given what its call does, and each label's theorem (`meets_k`) is an
  induction on the number of tiles left.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The labels' variants are natural numbers: the tiles left. -/
abbrev 𝒱₀ : Variants := Variants.nat

/-- A loop's state: the tile's number, the carried sums, the weighted values. -/
abbrev St (F : FTy → Type) : Type := BitVec 32 × FVec F S128x1 .f32 × FVec F S128x128 .f32

/-- A memref's contents type on core `c`. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The word `kb` is the tile just below `n` tiles: tile `n - 1`, or some negative word when none is left. -/
def At (n : ℕ) (kb : BitVec 32) : Prop := (n = 0 ∧ kb.toInt < 0) ∨ ∃ m, n = m + 1 ∧ m < 64 ∧ kb = BitVec.ofNat 32 m

theorem At.pred {m : ℕ} (hm : m < 64) : At m (Scalar.subi (BitVec.ofNat 32 m) 1#32) := by
  obtain rfl | ⟨k, rfl⟩ : m = 0 ∨ ∃ k, m = k + 1 := by cases m <;> simp
  · exact .inl ⟨rfl, by decide⟩
  · refine .inr ⟨k, rfl, by omega, ?_⟩
    have h : ∀ k : Fin 64, Scalar.subi (BitVec.ofNat 32 (k.val + 1)) 1#32 = BitVec.ofNat 32 k.val := by decide +kernel
    exact h ⟨k, by omega⟩

theorem chk_of_lt {m : ℕ} (hm : m < 64) : k0_chk1 (BitVec.ofNat 32 m) :=
  (by decide +kernel : ∀ m : Fin 64, k0_chk1 (BitVec.ofNat 32 m.val)) ⟨m, hm⟩

theorem sge_of_lt {m : ℕ} (hm : m < 64) : Scalar.cmpi .sge (BitVec.ofNat 32 m) 0#32 = 1#1 :=
  (by decide +kernel : ∀ m : Fin 64, Scalar.cmpi .sge (BitVec.ofNat 32 m.val) 0#32 = 1#1) ⟨m, hm⟩

theorem not_sge {kb : BitVec 32} (h : kb.toInt < 0) : Scalar.cmpi .sge kb 0#32 = 0#1 := by
  unfold Scalar.cmpi
  have : ¬ (0#32).sle kb = true := by rw [BitVec.sle_iff_toInt_le]; simpa using h
  have h2 : (0#32).sle kb = false := by simpa using this
  show BitVec.ofBool ((0#32).sle kb) = 0#1
  rw [h2]; rfl

theorem andi_zero (b : BitVec 1) : Scalar.andi 0#1 b ≠ 1#1 := by revert b; decide

/-- A call at the end of a program, one variant below, through a specification its body meets. -/
theorem call_step (c : Dev nD) (ℓ : (Λ₀ F).Label) (a : (Λ₀ F).Args ℓ) (m : ℕ) (E : Set ℕ) (S : sWPT 𝕄 ((Λ₀ F).Result ℓ))
    (h : S ≤ wp frame (wpE (defs₀ (F := F)) 𝒱₀ (c : Thread nD τ) (some m)) E (defs₀ (F := F) .tc ℓ a)) (K : (Λ₀ F).Result ℓ → sProp 𝕄) :
    S K ⊢ wp frame (wpE (defs₀ (F := F)) 𝒱₀ (c : Thread nD τ) (some (m + 1))) E (Prog.lift (.call ℓ a)) K := by
  have hw : ∀ x, K x ⊢ wp frame (wpE (defs₀ (F := F)) 𝒱₀ (c : Thread nD τ) (some (m + 1))) E (Prog.ret x) K := fun x => by
    rw [wp_ret]; exact BI.fupd_intro
  exact (S.mono hw).trans (wp_call_spec 𝒱₀ (c : Thread nD τ) (some (m + 1)) E S m (fun u hu => by cases hu; exact Nat.lt_succ_self m) h)

section Body

variable (c : Dev nD) (i : grid0.Coords)
  (aK : Memref sig .tc .vmem S1x8192x128 .bf16) (hK : aK.IsWhole) (q : FVec F S128x128 .bf16)
  (aS : Memref sig .tc .vmem S768x384 .bf16) (hS : aS.IsWhole)
  (aV : Memref sig .tc .vmem S1x8192x128 .bf16) (hV : aV.IsWhole)
  (fK : Bf (F := F) c aK) (fS : Bf (F := F) c aS) (fV : Bf (F := F) c aV)

/-- The tile of 128 rows at the word `kb`, as a load of it reads a buffer of keys or values. -/
def tile (c : Dev nD) (M : Memref sig .tc .vmem S1x8192x128 .bf16) (f : Bf (F := F) c M) (kb : BitVec 32) : Vec F S1x128x128 .bf16 :=
  if h : k0_chk1 kb then
    M.view.readAt (Elt F) (Rect.unit (s := S1x8192x128) (k0_off2 kb) S1x128x128.size (k0_off2_inb kb h)).toLoadRect f
  else fun _ => Scalar.ofBits .bf16 0#16

/-- The first 128 by 128 corner of the triangular matrix's upper half, and of its lower half. -/
def cornerU (c : Dev nD) (M : Memref sig .tc .vmem S768x384 .bf16) (f : Bf (F := F) c M) : Vec F S128x128 .bf16 :=
  M.view.readAt (Elt F) (Rect.unit (s := S768x384) ![0, 0] S128x128.size inb_S768x384_S128x128_0_0).toLoadRect f
@[inherit_doc cornerU]
def cornerL (c : Dev nD) (M : Memref sig .tc .vmem S768x384 .bf16) (f : Bf (F := F) c M) : Vec F S128x128 .bf16 :=
  M.view.readAt (Elt F) (Rect.unit (s := S768x384) ![384, 0] S128x128.size inb_S768x384_S128x128_384_0).toLoadRect f

/-- The weighted values a loop leaves with `n` tiles left, from carried sums `cr` and weighted values `acc`. -/
def run : ℕ → FVec F S128x1 .f32 → FVec F S128x128 .f32 → FVec F S128x128 .f32
  | 0, _, acc => acc
  | n + 1, cr, acc =>
    if Scalar.cmpf .ogt (k0_pay2 cr) (Named.named κ "skip" 0xC2C80000#32 : F .f32) = 1#1 then
      run n (k0_pay5 q cr (tile c aK fK (BitVec.ofNat 32 n)) (cornerU c aS fS) (cornerL c aS fS))
        (k0_pay6 q cr acc (tile c aK fK (BitVec.ofNat 32 n)) (cornerU c aS fS) (cornerL c aS fS) (tile c aV fV (BitVec.ofNat 32 n)))
    else acc

/-- A loop's body, its own call a parameter. -/
def whileP (call : BitVec 32 → FVec F S128x1 .f32 → FVec F S128x128 .f32 → Prog (TpuEff nD τ sig (Elt F) (Λ₀ F) .tc) (St F))
    (kb : BitVec 32) (cr : FVec F S128x1 .f32) (acc : FVec F S128x128 .f32) : Prog (TpuEff nD τ sig (Elt F) (Λ₀ F) .tc) (St F) := do
  if Scalar.andi (Scalar.cmpi .sge kb 0#32) (Scalar.cmpf .ogt (k0_pay2 cr) (Named.named κ "skip" 0xC2C80000#32 : F .f32)) = 1#1 then do
    have hw : k0_chk1 kb := (← Prog.lift (TpuEff.assume (k0_chk1 kb) (k0_chk1.dec kb))).down
    let x : Vec F S1x128x128 .bf16 ← Prog.lift (.load aK (Rect.unit (s := S1x8192x128) (k0_off2 kb) S1x128x128.size (k0_off2_inb kb hw)).toLoadRect (View.loadsAt_vmem h_S1x128x128))
    let u : Vec F S128x128 .bf16 ← Prog.lift (.load aS (Rect.unit (s := S768x384) ![0, 0] S128x128.size inb_S768x384_S128x128_0_0).toLoadRect (View.loadsAt_vmem h_S128x128))
    let l : Vec F S128x128 .bf16 ← Prog.lift (.load aS (Rect.unit (s := S768x384) ![384, 0] S128x128.size inb_S768x384_S128x128_384_0).toLoadRect (View.loadsAt_vmem h_S128x128))
    let y : Vec F S1x128x128 .bf16 ← Prog.lift (.load aV (Rect.unit (s := S1x8192x128) (k0_off2 kb) S1x128x128.size (k0_off2_inb kb hw)).toLoadRect (View.loadsAt_vmem h_S1x128x128))
    call (Scalar.subi kb 1#32) (k0_pay5 q cr x u l) (k0_pay6 q cr acc x u l y)
  else pure (kb, cr, acc)

/-- The three buffers a loop reads. -/
abbrev held : sProp 𝕄 := iprop(pt c aK fK ∗ pt c aS fS ∗ pt c aV fV)

/-- A loop's specification with `n` tiles left: it hands the buffers back and returns a state whose weighted values are `run`'s. -/
def spec (n : ℕ) (cr : FVec F S128x1 .f32) (acc : FVec F S128x128 .f32) : sWPT 𝕄 (St F) := do
  sWPT.consume (held c aK aS aV fK fS fV)
  let r ← sWPT.arbitrary
  sWPT.assume (r.2.2 = run c aK q aS aV fK fS fV n cr acc)
  sWPT.produce (held c aK aS aV fK fS fV)
  pure r

theorem spec_apply (n : ℕ) (cr : FVec F S128x1 .f32) (acc : FVec F S128x128 .f32) (K : St F → sProp 𝕄) :
    spec c aK q aS aV fK fS fV n cr acc K
      = iprop(held c aK aS aV fK fS fV
        ∗ ∀ r : St F, ⌜r.2.2 = run c aK q aS aV fK fS fV n cr acc⌝ -∗ (held c aK aS aV fK fS fV -∗ K r)) := rfl

/-- A body whose call meets the specification one tile further down meets it. -/
theorem whileP_meets (bd : Option ℕ) (E : Set ℕ)
    (call : BitVec 32 → FVec F S128x1 .f32 → FVec F S128x128 .f32 → Prog (TpuEff nD τ sig (Elt F) (Λ₀ F) .tc) (St F))
    (n : ℕ) (kb : BitVec 32) (hat : At n kb) (cr : FVec F S128x1 .f32) (acc : FVec F S128x128 .f32) (K : St F → sProp 𝕄)
    (hcall : ∀ m, n = m + 1 → ∀ kb', At m kb' → ∀ cr' acc', spec c aK q aS aV fK fS fV m cr' acc' K
      ⊢ wp frame (wpE (defs₀ (F := F)) 𝒱₀ (c : Thread nD τ) bd) E (call kb' cr' acc') K) :
    spec c aK q aS aV fK fS fV n cr acc K
      ⊢ wp frame (wpE (defs₀ (F := F)) 𝒱₀ (c : Thread nD τ) bd) E (whileP aK q aS aV call kb cr acc) K := by
  rw [spec_apply]
  unfold whileP
  obtain ⟨rfl, hneg⟩ | ⟨m, rfl, hm, rfl⟩ := hat
  · have ht : ¬ Scalar.andi (Scalar.cmpi .sge kb 0#32) (Scalar.cmpf .ogt (k0_pay2 cr) (Named.named κ "skip" 0xC2C80000#32 : F .f32)) = 1#1 := by
      rw [not_sge hneg]; exact andi_zero _
    simp only [ht, ↓reduceIte, Prog.pure_eq_ret]
    iintro ⟨H, Hk⟩
    rw [wp_ret]; imodintro
    iapply Hk
    · ipureintro; rfl
    · iexact H
  · by_cases hc : Scalar.cmpf .ogt (k0_pay2 cr) (Named.named κ "skip" 0xC2C80000#32 : F .f32) = 1#1
    · have ht : Scalar.andi (Scalar.cmpi .sge (BitVec.ofNat 32 m) 0#32) (Scalar.cmpf .ogt (k0_pay2 cr) (Named.named κ "skip" 0xC2C80000#32 : F .f32)) = 1#1 := by
        rw [sge_of_lt hm, hc]; rfl
      simp only [ht, ↓reduceIte, Prog.lift, Prog.bind_op, Prog.bind_ret, Prog.pure_eq_ret]
      iintro ⟨⟨HK, HS, HV⟩, Hk⟩
      iapply (wp_assume 𝒱₀ (c : Thread nD τ) bd E (chk_of_lt hm))
      iapply (wp_load 𝒱₀ (c : Thread nD τ) bd E (m := aK) (Finset.subset_univ _)) $$ HK; iintro HK
      iapply (wp_load 𝒱₀ (c : Thread nD τ) bd E (m := aS) (Finset.subset_univ _)) $$ HS; iintro HS
      iapply (wp_load 𝒱₀ (c : Thread nD τ) bd E (m := aS) (Finset.subset_univ _)) $$ HS; iintro HS
      iapply (wp_load 𝒱₀ (c : Thread nD τ) bd E (m := aV) (Finset.subset_univ _)) $$ HV; iintro HV
      iapply (hcall m rfl _ (At.pred hm) _ _)
      rw [spec_apply]
      isplitl [HK HS HV]
      · isplitl [HK]; · iexact HK
        isplitl [HS]; · iexact HS
        iexact HV
      iintro %r %hr H
      iapply Hk
      · ipureintro
        rw [hr, run, if_pos hc]
        unfold tile
        simp only [dif_pos (chk_of_lt hm)]
        rfl
      · iexact H
    · have ht : ¬ Scalar.andi (Scalar.cmpi .sge (BitVec.ofNat 32 m) 0#32) (Scalar.cmpf .ogt (k0_pay2 cr) (Named.named κ "skip" 0xC2C80000#32 : F .f32)) = 1#1 := by
        rw [sge_of_lt hm]
        intro h; apply hc
        revert h; generalize Scalar.cmpf .ogt (k0_pay2 cr) (Named.named κ "skip" 0xC2C80000#32 : F .f32) = b
        revert b; decide
      simp only [ht, ↓reduceIte, Prog.pure_eq_ret]
      iintro ⟨H, Hk⟩
      rw [wp_ret]; imodintro
      iapply Hk
      · ipureintro; rw [run, if_neg hc]
      · iexact H

/-- A label's body meets its specification: if the body is `whileP` at a call that is answered, one variant further down,
    by what the body itself meets. -/
theorem loop_meets (E : Set ℕ)
    (body call : BitVec 32 → FVec F S128x1 .f32 → FVec F S128x128 .f32 → Prog (TpuEff nD τ sig (Elt F) (Λ₀ F) .tc) (St F))
    (hbody : ∀ kb cr acc, body kb cr acc = whileP aK q aS aV call kb cr acc)
    (hcall : ∀ m kb cr acc,
      (spec c aK q aS aV fK fS fV m cr acc ≤ wp frame (wpE (defs₀ (F := F)) 𝒱₀ (c : Thread nD τ) (some m)) E (body kb cr acc)) →
      ∀ K, spec c aK q aS aV fK fS fV m cr acc K
        ⊢ wp frame (wpE (defs₀ (F := F)) 𝒱₀ (c : Thread nD τ) (some (m + 1))) E (call kb cr acc) K) :
    ∀ n kb, At n kb → ∀ cr acc,
      spec c aK q aS aV fK fS fV n cr acc ≤ wp frame (wpE (defs₀ (F := F)) 𝒱₀ (c : Thread nD τ) (some n)) E (body kb cr acc) := by
  intro n
  induction n with
  | zero =>
    intro kb hat cr acc K
    rw [hbody]
    exact whileP_meets c aK q aS aV fK fS fV (some 0) E call 0 kb hat cr acc K (fun m h => by omega)
  | succ n ih =>
    intro kb hat cr acc K
    rw [hbody]
    refine whileP_meets c aK q aS aV fK fS fV (some (n + 1)) E call (n + 1) kb hat cr acc K (fun m h kb' hat' cr' acc' => ?_)
    obtain rfl : n = m := by omega
    exact hcall n kb' cr' acc' (ih kb' hat' cr' acc') K

/-- Loop 1's label meets the specification, entered at the number of tiles left. -/
theorem meets_1 (E : Set ℕ) : ∀ n kb, At n kb → ∀ cr acc, spec c aK q aS aV fK fS fV n cr acc
    ≤ wp frame (wpE (defs₀ (F := F)) 𝒱₀ (c : Thread nD τ) (some n)) E (cc0_while1 i aK hK q aS hS aV hV kb cr acc) :=
  loop_meets c aK q aS aV fK fS fV E (fun kb cr acc => cc0_while1 i aK hK q aS hS aV hV kb cr acc)
    (fun kb cr acc => Prog.lift (TpuEff.call (Λ := Λ₀ F) (1 : Fin 9) ⟨i, aK, hK, q, aS, hS, aV, hV, kb, cr, acc⟩))
    (fun _ _ _ => by rw [cc0_while1_eq_skeleton]; rfl)
    (fun m kb cr acc h K => call_step c (1 : Fin 9) ⟨i, aK, hK, q, aS, hS, aV, hV, kb, cr, acc⟩ m E _ h K)

/-- Loop 2's label meets the specification, entered at the number of tiles left. -/
theorem meets_2 (E : Set ℕ) : ∀ n kb, At n kb → ∀ cr acc, spec c aK q aS aV fK fS fV n cr acc
    ≤ wp frame (wpE (defs₀ (F := F)) 𝒱₀ (c : Thread nD τ) (some n)) E (cc0_while2 i aK hK q aS hS aV hV kb cr acc) :=
  loop_meets c aK q aS aV fK fS fV E (fun kb cr acc => cc0_while2 i aK hK q aS hS aV hV kb cr acc)
    (fun kb cr acc => Prog.lift (TpuEff.call (Λ := Λ₀ F) (2 : Fin 9) ⟨i, aK, hK, q, aS, hS, aV, hV, kb, cr, acc⟩))
    (fun _ _ _ => by rw [cc0_while2_eq_skeleton]; rfl)
    (fun m kb cr acc h K => call_step c (2 : Fin 9) ⟨i, aK, hK, q, aS, hS, aV, hV, kb, cr, acc⟩ m E _ h K)

/-- Loop 3's label meets the specification, entered at the number of tiles left. -/
theorem meets_3 (E : Set ℕ) : ∀ n kb, At n kb → ∀ cr acc, spec c aK q aS aV fK fS fV n cr acc
    ≤ wp frame (wpE (defs₀ (F := F)) 𝒱₀ (c : Thread nD τ) (some n)) E (cc0_while3 i aK hK q aS hS aV hV kb cr acc) :=
  loop_meets c aK q aS aV fK fS fV E (fun kb cr acc => cc0_while3 i aK hK q aS hS aV hV kb cr acc)
    (fun kb cr acc => Prog.lift (TpuEff.call (Λ := Λ₀ F) (3 : Fin 9) ⟨i, aK, hK, q, aS, hS, aV, hV, kb, cr, acc⟩))
    (fun _ _ _ => by rw [cc0_while3_eq_skeleton]; rfl)
    (fun m kb cr acc h K => call_step c (3 : Fin 9) ⟨i, aK, hK, q, aS, hS, aV, hV, kb, cr, acc⟩ m E _ h K)

/-- Loop 4's label meets the specification, entered at the number of tiles left. -/
theorem meets_4 (E : Set ℕ) : ∀ n kb, At n kb → ∀ cr acc, spec c aK q aS aV fK fS fV n cr acc
    ≤ wp frame (wpE (defs₀ (F := F)) 𝒱₀ (c : Thread nD τ) (some n)) E (cc0_while4 i aK hK q aS hS aV hV kb cr acc) :=
  loop_meets c aK q aS aV fK fS fV E (fun kb cr acc => cc0_while4 i aK hK q aS hS aV hV kb cr acc)
    (fun kb cr acc => Prog.lift (TpuEff.call (Λ := Λ₀ F) (4 : Fin 9) ⟨i, aK, hK, q, aS, hS, aV, hV, kb, cr, acc⟩))
    (fun _ _ _ => by rw [cc0_while4_eq_skeleton]; rfl)
    (fun m kb cr acc h K => call_step c (4 : Fin 9) ⟨i, aK, hK, q, aS, hS, aV, hV, kb, cr, acc⟩ m E _ h K)

/-- Loop 5's label meets the specification, entered at the number of tiles left. -/
theorem meets_5 (E : Set ℕ) : ∀ n kb, At n kb → ∀ cr acc, spec c aK q aS aV fK fS fV n cr acc
    ≤ wp frame (wpE (defs₀ (F := F)) 𝒱₀ (c : Thread nD τ) (some n)) E (cc0_while5 i aK hK q aS hS aV hV kb cr acc) :=
  loop_meets c aK q aS aV fK fS fV E (fun kb cr acc => cc0_while5 i aK hK q aS hS aV hV kb cr acc)
    (fun kb cr acc => Prog.lift (TpuEff.call (Λ := Λ₀ F) (5 : Fin 9) ⟨i, aK, hK, q, aS, hS, aV, hV, kb, cr, acc⟩))
    (fun _ _ _ => by rw [cc0_while5_eq_skeleton]; rfl)
    (fun m kb cr acc h K => call_step c (5 : Fin 9) ⟨i, aK, hK, q, aS, hS, aV, hV, kb, cr, acc⟩ m E _ h K)

/-- Loop 6's label meets the specification, entered at the number of tiles left. -/
theorem meets_6 (E : Set ℕ) : ∀ n kb, At n kb → ∀ cr acc, spec c aK q aS aV fK fS fV n cr acc
    ≤ wp frame (wpE (defs₀ (F := F)) 𝒱₀ (c : Thread nD τ) (some n)) E (cc0_while6 i aK hK q aS hS aV hV kb cr acc) :=
  loop_meets c aK q aS aV fK fS fV E (fun kb cr acc => cc0_while6 i aK hK q aS hS aV hV kb cr acc)
    (fun kb cr acc => Prog.lift (TpuEff.call (Λ := Λ₀ F) (6 : Fin 9) ⟨i, aK, hK, q, aS, hS, aV, hV, kb, cr, acc⟩))
    (fun _ _ _ => by rw [cc0_while6_eq_skeleton]; rfl)
    (fun m kb cr acc h K => call_step c (6 : Fin 9) ⟨i, aK, hK, q, aS, hS, aV, hV, kb, cr, acc⟩ m E _ h K)

/-- Loop 7's label meets the specification, entered at the number of tiles left. -/
theorem meets_7 (E : Set ℕ) : ∀ n kb, At n kb → ∀ cr acc, spec c aK q aS aV fK fS fV n cr acc
    ≤ wp frame (wpE (defs₀ (F := F)) 𝒱₀ (c : Thread nD τ) (some n)) E (cc0_while7 i aK hK q aS hS aV hV kb cr acc) :=
  loop_meets c aK q aS aV fK fS fV E (fun kb cr acc => cc0_while7 i aK hK q aS hS aV hV kb cr acc)
    (fun kb cr acc => Prog.lift (TpuEff.call (Λ := Λ₀ F) (7 : Fin 9) ⟨i, aK, hK, q, aS, hS, aV, hV, kb, cr, acc⟩))
    (fun _ _ _ => by rw [cc0_while7_eq_skeleton]; rfl)
    (fun m kb cr acc h K => call_step c (7 : Fin 9) ⟨i, aK, hK, q, aS, hS, aV, hV, kb, cr, acc⟩ m E _ h K)

/-- Loop 8's label meets the specification, entered at the number of tiles left. -/
theorem meets_8 (E : Set ℕ) : ∀ n kb, At n kb → ∀ cr acc, spec c aK q aS aV fK fS fV n cr acc
    ≤ wp frame (wpE (defs₀ (F := F)) 𝒱₀ (c : Thread nD τ) (some n)) E (cc0_while8 i aK hK q aS hS aV hV kb cr acc) :=
  loop_meets c aK q aS aV fK fS fV E (fun kb cr acc => cc0_while8 i aK hK q aS hS aV hV kb cr acc)
    (fun kb cr acc => Prog.lift (TpuEff.call (Λ := Λ₀ F) (8 : Fin 9) ⟨i, aK, hK, q, aS, hS, aV, hV, kb, cr, acc⟩))
    (fun _ _ _ => by rw [cc0_while8_eq_skeleton]; rfl)
    (fun m kb cr acc h K => call_step c (8 : Fin 9) ⟨i, aK, hK, q, aS, hS, aV, hV, kb, cr, acc⟩ m E _ h K)

end Body

end Cert.Proof.KI

end
-- ==== Proof.KI.Body.lean ====
/-
  The kernel body's run at a grid point, from whole buffers at any contents.
-/
module

public import proofs.«01_k».proof.Proof.KI.Loop
public import Idealize.ShloMosaic.Lib.VecWindow
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The tiles a loop starts with, at grid position `a` along the rows and subtile `t`: all of those below the window. -/
def left (a : Fin 16) (t : Fin 4) (b : BitVec 1) : ℕ := if b = 1#1 then 4 * a.val + t.val - 2 else 0

/-- A loop's first word is the tile below its window, or `-1` when the kernel skips the loops. -/
theorem at_first (a : Fin 16) (t : Fin 4) (b : BitVec 1) :
    At (left a t b) (Scalar.select b (Scalar.subi (Scalar.addi (Scalar.muli (BitVec.ofNat 32 a.val) 4#32) (BitVec.ofNat 32 t.val)) 3#32) 4294967295#32) := by
  have hb : b = 1#1 ∨ b = 0#1 := by revert b; decide
  obtain rfl | rfl := hb
  · have h1 : ∀ a : Fin 16, ∀ t : Fin 4, 4 * a.val + t.val - 2 = 0 →
        (Scalar.subi (Scalar.addi (Scalar.muli (BitVec.ofNat 32 a.val) 4#32) (BitVec.ofNat 32 t.val)) 3#32).toInt < 0 := by decide +kernel
    have h2 : ∀ a : Fin 16, ∀ t : Fin 4, Scalar.subi (Scalar.addi (Scalar.muli (BitVec.ofNat 32 a.val) 4#32) (BitVec.ofNat 32 t.val)) 3#32
        = BitVec.ofNat 32 (4 * a.val + t.val - 2 - 1) ∨ 4 * a.val + t.val - 2 = 0 := by decide +kernel
    show At (4 * a.val + t.val - 2) (Scalar.subi (Scalar.addi (Scalar.muli (BitVec.ofNat 32 a.val) 4#32) (BitVec.ofNat 32 t.val)) 3#32)
    by_cases h : 4 * a.val + t.val - 2 = 0
    · exact .inl ⟨h, h1 a t h⟩
    · exact .inr ⟨_, by omega, by omega, (h2 a t).resolve_right h⟩
  · exact .inl ⟨rfl, (by decide : (4294967295#32).toInt < 0)⟩

section Calls

variable (c : Dev nD) (i : grid0.Coords)
  (aK : Memref sig .tc .vmem S1x8192x128 .bf16) (hK : aK.IsWhole) (q : FVec F S128x128 .bf16)
  (aS : Memref sig .tc .vmem S768x384 .bf16) (hS : aS.IsWhole)
  (aV : Memref sig .tc .vmem S1x8192x128 .bf16) (hV : aV.IsWhole)
  (fK : Bf (F := F) c aK) (fS : Bf (F := F) c aS) (fV : Bf (F := F) c aV)
  (cr : FVec F S128x1 .f32) (acc : FVec F S128x128 .f32)

/-- What a call of a loop from the body asks: the word is the tile below `n` tiles, the buffers, and the rest of the body
    from any state whose weighted values are `run`'s. -/
abbrev Asks {α : Type} (k : St F → Prog (TpuEff nD τ sig (Elt F) (Λ₀ F) .tc) α) (Q : α → sProp 𝕄) (n : ℕ) (kb : BitVec 32) : sProp 𝕄 :=
  iprop(⌜At n kb⌝ ∗ spec c aK q aS aV fK fS fV n cr acc fun r =>
    wp frame (wpE (defs₀ (F := F)) 𝒱₀ (c : Thread nD τ) none) Set.univ (k r) Q)

/-- Loop 1 called from the body. -/
theorem call_1 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (1 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_1 c i aK hK q aS hS aV hV fK fS fV Set.univ n kb hat cr acc))
  iexact H
/-- Loop 2 called from the body. -/
theorem call_2 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (2 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_2 c i aK hK q aS hS aV hV fK fS fV Set.univ n kb hat cr acc))
  iexact H
/-- Loop 3 called from the body. -/
theorem call_3 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (3 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_3 c i aK hK q aS hS aV hV fK fS fV Set.univ n kb hat cr acc))
  iexact H
/-- Loop 4 called from the body. -/
theorem call_4 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (4 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_4 c i aK hK q aS hS aV hV fK fS fV Set.univ n kb hat cr acc))
  iexact H
/-- Loop 5 called from the body. -/
theorem call_5 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (5 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_5 c i aK hK q aS hS aV hV fK fS fV Set.univ n kb hat cr acc))
  iexact H
/-- Loop 6 called from the body. -/
theorem call_6 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (6 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_6 c i aK hK q aS hS aV hV fK fS fV Set.univ n kb hat cr acc))
  iexact H
/-- Loop 7 called from the body. -/
theorem call_7 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (7 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_7 c i aK hK q aS hS aV hV fK fS fV Set.univ n kb hat cr acc))
  iexact H
/-- Loop 8 called from the body. -/
theorem call_8 {α : Type} (k : St F → Prog (TpuEff nD τ sig (Elt F) (Λ₀ F) .tc) α) (Q : α → sProp 𝕄) (n : ℕ) (kb : BitVec 32) :
    Asks c aK q aS aV fK fS fV cr acc k Q n kb ⊢ wp frame (wpE (defs₀ (F := F)) 𝒱₀ (c : Thread nD τ) none) Set.univ
        (.op (TpuEff.call (Λ := Λ₀ F) (8 : Fin 9) ⟨i, aK, hK, q, aS, hS, aV, hV, kb, cr, acc⟩) k) Q := by
  iintro ⟨%hat, H⟩
  iapply (wp_call_spec 𝒱₀ (c : Thread nD τ) none Set.univ (spec c aK q aS aV fK fS fV n cr acc) n (fun u hu => nomatch hu)
    (meets_8 c i aK hK q aS hS aV hV fK fS fV Set.univ n kb hat cr acc))
  iexact H

end Calls

/-- What the body's first part hands on: the position, the lane numbers, the first window's tile and row, the scaled first
    query tile masked to either head, and the scaled second one. -/
def part1_out (c : Dev nD) (i : grid0.Coords) (M3 : Memref sig .tc .vmem S1x512x128 .bf16) (f3 : Bf (F := F) c M3) :
    Σ' (arg2 : BitVec 32) (v0 : IVec S128x128 32) (v9 : BitVec 32) (v13 : BitVec 32) (v20 : FVec F S128x128 .bf16) (v27 : FVec F S128x128 .bf16) (v31 : FVec F S128x128 .bf16) (v32 : BitVec 32), BitVec 32 :=
  ⟨BitVec.ofNat 32 (i 2).val, iota .tc S128x128 32 [1] iota_S128x128_d1_w32, Scalar.addi (Scalar.muli (BitVec.ofNat 32 (i 2).val) 4#32) 0#32,
        Scalar.muli (Scalar.maxsi (Scalar.subi (Scalar.addi (Scalar.muli (BitVec.ofNat 32 (i 2).val) 4#32) 0#32) 2#32) 0#32) 128#32,
        k0_pay44 (M3.view.readAt (Elt F) (Rect.unit (s := S1x512x128) ![0, 0, 0] S1x128x128.size inb_S1x512x128_S1x128x128_0_0_0).toLoadRect f3),
        k0_pay45 (M3.view.readAt (Elt F) (Rect.unit (s := S1x512x128) ![0, 0, 0] S1x128x128.size inb_S1x512x128_S1x128x128_0_0_0).toLoadRect f3),
        k0_pay46 (M3.view.readAt (Elt F) (Rect.unit (s := S1x512x128) ![0, 128, 0] S1x128x128.size inb_S1x512x128_S1x128x128_0_128_0).toLoadRect f3),
        Scalar.muli (BitVec.ofNat 32 (i 2).val) 4#32, 1#32⟩

theorem q_eq {α : Type} {Q : α → sProp 𝕄} {x y : α} (h : x = y) : Q x ⊢ Q y := by
  subst h; exact Entails.refl _

/-- The first part's run: at a row's first point it stores the triangular matrix, and at any point leaves it in the buffer. -/
theorem part1_run (c : Dev nD) (i : grid0.Coords) (M3 : Memref sig .tc .vmem S1x512x128 .bf16) (h3 : M3.IsWhole) (M4 : Memref sig .tc .vmem S1x8192x128 .bf16) (h4 : M4.IsWhole) (M5 : Memref sig .tc .vmem S1x8192x128 .bf16) (h5 : M5.IsWhole) (M6 : Memref sig .tc .vmem S1x512x128 .bf16) (h6 : M6.IsWhole) (M7 : Memref sig .tc .vmem S8x128x128 .f32) (h7 : M7.IsWhole) (M8 : Memref sig .tc .vmem S768x384 .bf16) (h8 : M8.IsWhole)
    (f3 : Bf (F := F) c M3) (f8 : Bf (F := F) c M8) (hf8 : (i 2).val ≠ 0 → f8 = h8.unread (k0_pay42 (F := F))) (Q) :
    iprop(pt c M3 f3 ∗ pt c M8 f8 ∗ (iprop(pt c M3 f3 ∗ pt c M8 (h8.unread (k0_pay42 (F := F)))) -∗
       Q (part1_out c i M3 f3)))
     ⊢ wp frame (wpE (defs₀ (F := F)) 𝒱₀ (c : Thread nD τ) none) Set.univ (k0_part1 i M3 h3 M4 h4 M5 h5 M6 h6 M7 h7 M8 h8) Q := by
  have key : ∀ a : Fin 16, Scalar.cmpi .ne ((Scalar.extui (Scalar.cmpi .eq (BitVec.ofNat 32 a.val) 0#32)) : BitVec 32) 0#32 = if a.val = 0 then 1#1 else 0#1 := by decide +kernel
  by_cases h0 : (i 2).val = 0
  · have hc := (key (i 2)).trans (if_pos h0)
    sl_unfold [k0_part1]
    iintro ⟨H3, H8, Hk⟩
    sl_exec
    rw [h8.eq_unread (View.read_writes_full M8.view f8 inb_S768x384_S768x384_0_0 _ _), wp_ret]
    imodintro
    iapply (q_eq (Q := Q) (x := part1_out c i M3 f3) ?_)
    rotate_left
    · iapply Hk
      isplitl [H3]; · iexact H3
      iexact H8
    · rfl
  · have hc : ¬ Scalar.cmpi .ne ((Scalar.extui (Scalar.cmpi .eq (BitVec.ofNat 32 (i 2).val) 0#32)) : BitVec 32) 0#32 = 1#1 := by
      rw [(key (i 2)).trans (if_neg h0)]; decide
    obtain rfl := hf8 h0
    sl_unfold [k0_part1]
    iintro ⟨H3, H8, Hk⟩
    sl_exec
    rw [wp_ret]
    imodintro
    iapply (q_eq (Q := Q) (x := part1_out c i M3 f3) ?_)
    rotate_left
    · iapply Hk
      isplitl [H3]; · iexact H3
      iexact H8
    · rfl

section Vals

/-- The word of the query tile's number: four tiles a grid point. -/
abbrev tileW (a : Fin 16) (t : Fin 4) : BitVec 32 := Scalar.addi (Scalar.muli (BitVec.ofNat 32 a.val) 4#32) (BitVec.ofNat 32 t.val)

/-- The word of the first key of a query tile's window: two tiles before it, or the first. -/
abbrev startW (a : Fin 16) (t : Fin 4) : BitVec 32 := Scalar.muli (Scalar.maxsi (Scalar.subi (tileW a t) 2#32) 0#32) 128#32

/-- The queries of subtile `t`, as the body loads them. -/
def rowsQ (c : Dev nD) (M3 : Memref sig .tc .vmem S1x512x128 .bf16) (f3 : Bf (F := F) c M3) : Fin 4 → FVec F S1x128x128 .bf16
  | 0 => M3.view.readAt (Elt F) (Rect.unit (s := S1x512x128) ![0, 0, 0] S1x128x128.size inb_S1x512x128_S1x128x128_0_0_0).toLoadRect f3
  | 1 => M3.view.readAt (Elt F) (Rect.unit (s := S1x512x128) ![0, 128, 0] S1x128x128.size inb_S1x512x128_S1x128x128_0_128_0).toLoadRect f3
  | 2 => M3.view.readAt (Elt F) (Rect.unit (s := S1x512x128) ![0, 256, 0] S1x128x128.size inb_S1x512x128_S1x128x128_0_256_0).toLoadRect f3
  | 3 => M3.view.readAt (Elt F) (Rect.unit (s := S1x512x128) ![0, 384, 0] S1x128x128.size inb_S1x512x128_S1x128x128_0_384_0).toLoadRect f3

/-- The scaled queries with the other head's lanes cleared. -/
def headQ (x : FVec F S1x128x128 .bf16) : Fin 2 → FVec F S128x128 .bf16
  | 0 => k0_pay44 x
  | 1 => k0_pay45 x

/-- The window of 384 keys or values of subtile `t`. -/
def wnd (c : Dev nD) (i : grid0.Coords) (M : Memref sig .tc .vmem S1x8192x128 .bf16) (f : Bf (F := F) c M) (t : Fin 4) : FVec F S1x384x128 .bf16 :=
  M.view.readAt (Elt F) (Rect.unit (s := S1x8192x128) (k0_off1 i (BitVec.ofNat 32 t.val)) S1x384x128.size (k0_off1_inb i t)).toLoadRect f

/-- The triangular matrix, as the body loads it. -/
def sufV (c : Dev nD) (M8 : Memref sig .tc .vmem S768x384 .bf16) (f8 : Bf (F := F) c M8) : FVec F S768x384 .bf16 :=
  M8.view.readAt (Elt F) (Rect.unit (s := S768x384) ![0, 0] S768x384.size inb_S768x384_S768x384_0_0).toLoadRect f8

/-- A problem's logits over its window. -/
def logitW (q : FVec F S128x128 .bf16) (xK : FVec F S1x384x128 .bf16) : FVec F S128x384 .f32 := k0_pay56 q xK

/-- A problem's tail sums of the log skip chances over its window. -/
def tailW (a : Fin 16) (t : Fin 4) (q : FVec F S128x128 .bf16) (xK : FVec F S1x384x128 .bf16) (s : FVec F S768x384 .bf16) : FVec F S128x384 .f32 :=
  k0_pay69 (tileW a t) (startW a t) (logitW q xK) s

/-- What a problem's loop starts from: the window's whole sum, and its weighted values. -/
def carry0 (a : Fin 16) (t : Fin 4) (q : FVec F S128x128 .bf16) (xK : FVec F S1x384x128 .bf16) (s : FVec F S768x384 .bf16) : FVec F S128x1 .f32 :=
  k0_pay87 (tailW a t q xK s)
def acc0 (a : Fin 16) (t : Fin 4) (q : FVec F S128x128 .bf16) (xK xV : FVec F S1x384x128 .bf16) (s : FVec F S768x384 .bf16) : FVec F S128x128 .f32 :=
  k0_pay104 (k0_pay88 (logitW q xK) (k0_pay68 (tileW a t) (startW a t)) (tailW a t q xK s)) xV

variable (c : Dev nD) (i : grid0.Coords)
  (M3 : Memref sig .tc .vmem S1x512x128 .bf16) (M4 M5 : Memref sig .tc .vmem S1x8192x128 .bf16)
  (M8 : Memref sig .tc .vmem S768x384 .bf16)
  (f3 : Bf (F := F) c M3) (f4 : Bf (F := F) c M4) (f5 : Bf (F := F) c M5) (f8 : Bf (F := F) c M8)

def probQ (t : Fin 4) (h : Fin 2) : FVec F S128x128 .bf16 := headQ (rowsQ c M3 f3 t) h

def probC (t : Fin 4) (h : Fin 2) : FVec F S128x1 .f32 :=
  carry0 (i 2) t (probQ c M3 f3 t h) (wnd c i M4 f4 t) (sufV c M8 f8)

/-- Whether the loops run: some row of some problem is above the threshold, and there is a tile below some window. -/
def goes : BitVec 1 :=
  Scalar.andi (Scalar.cmpi .sge (Scalar.subi (Scalar.addi (Scalar.muli (BitVec.ofNat 32 (i 2).val) 4#32) 4#32) 1#32) 3#32)
    (Scalar.cmpf .ogt (k0_pay123 (k0_pay122 (k0_pay113 (probC c i M3 M4 M8 f3 f4 f8 0 0) (probC c i M3 M4 M8 f3 f4 f8 0 1)
      (probC c i M3 M4 M8 f3 f4 f8 1 0) (probC c i M3 M4 M8 f3 f4 f8 1 1) (probC c i M3 M4 M8 f3 f4 f8 2 0) (probC c i M3 M4 M8 f3 f4 f8 2 1)
      (probC c i M3 M4 M8 f3 f4 f8 3 0) (probC c i M3 M4 M8 f3 f4 f8 3 1)))) (Named.named κ "skip" 0xC2C80000#32 : F .f32))

/-- A problem's weighted values after its loop. -/
def probL (t : Fin 4) (h : Fin 2) : FVec F S128x128 .f32 :=
  run c M4 (probQ c M3 f3 t h) M8 M5 f4 f8 f5 (left (i 2) t (goes c i M3 M4 M8 f3 f4 f8)) (probC c i M3 M4 M8 f3 f4 f8 t h)
    (acc0 (i 2) t (probQ c M3 f3 t h) (wnd c i M4 f4 t) (wnd c i M5 f5 t) (sufV c M8 f8))

/-- The tile subtile `t` stores: each head's lanes from its own problem. -/
def tileOut (t : Fin 4) : FVec F S1x128x128 .bf16 :=
  k0_pay132 (iota .tc S128x128 32 [1] iota_S128x128_d1_w32)
    (k0_pay124 (probL c i M3 M4 M5 M8 f3 f4 f5 f8 t 0)) (k0_pay124 (probL c i M3 M4 M5 M8 f3 f4 f5 f8 t 1))

/-- The output block's pieces, the last store first. -/
def outPieces : List (View.Piece (Elt F) S1x512x128 .bf16) :=
  [⟨Rect.unit (s := S1x512x128) ![0, 384, 0] S1x128x128.size inb_S1x512x128_S1x128x128_0_384_0, tileOut c i M3 M4 M5 M8 f3 f4 f5 f8 3⟩,
   ⟨Rect.unit (s := S1x512x128) ![0, 256, 0] S1x128x128.size inb_S1x512x128_S1x128x128_0_256_0, tileOut c i M3 M4 M5 M8 f3 f4 f5 f8 2⟩,
   ⟨Rect.unit (s := S1x512x128) ![0, 128, 0] S1x128x128.size inb_S1x512x128_S1x128x128_0_128_0, tileOut c i M3 M4 M5 M8 f3 f4 f5 f8 1⟩,
   ⟨Rect.unit (s := S1x512x128) ![0, 0, 0] S1x128x128.size inb_S1x512x128_S1x128x128_0_0_0, tileOut c i M3 M4 M5 M8 f3 f4 f5 f8 0⟩]

theorem four {s : Shape} {e : EltTy} {r0 r1 r2 r3 : Rect s} {p0 q0 : r0.shape.Idx → Elt F e} {p1 q1 : r1.shape.Idx → Elt F e}
    {p2 q2 : r2.shape.Idx → Elt F e} {p3 q3 : r3.shape.Idx → Elt F e} (h3 : p3 = q3) (h2 : p2 = q2) (h1 : p1 = q1) (h0 : p0 = q0) :
    ([⟨r3, p3⟩, ⟨r2, p2⟩, ⟨r1, p1⟩, ⟨r0, p0⟩] : List (View.Piece (Elt F) s e)) = [⟨r3, q3⟩, ⟨r2, q2⟩, ⟨r1, q1⟩, ⟨r0, q0⟩] := by
  subst h0; subst h1; subst h2; subst h3; rfl

/-- A stored tile, its two problems read back from the accumulators. -/
theorem tile_eq (t : Fin 4) {A B : FVec F S1x128x128 .f32}
    (hA : A = k0_pay124 (probL c i M3 M4 M5 M8 f3 f4 f5 f8 t 0)) (hB : B = k0_pay124 (probL c i M3 M4 M5 M8 f3 f4 f5 f8 t 1)) :
    k0_pay132 (iota .tc S128x128 32 [1] iota_S128x128_d1_w32) A B = tileOut c i M3 M4 M5 M8 f3 f4 f5 f8 t := by
  rw [hA, hB]; rfl

/-- The output buffer with equal lists of pieces written. -/
theorem pieces_eq (M6 : Memref sig .tc .vmem S1x512x128 .bf16) (f6 : Bf (F := F) c M6) {L L' : List (View.Piece (Elt F) S1x512x128 .bf16)}
    (h : L = L') : (pt c M6 (M6.view.writes (Elt F) f6 L) : sProp 𝕄) ⊢ pt c M6 (M6.view.writes (Elt F) f6 L') := by
  subst h; exact Entails.refl _

end Vals

set_option maxHeartbeats 4000000 in
theorem bodyRun (c : Dev nD) (i : grid0.Coords) (M3 : Memref sig .tc .vmem S1x512x128 .bf16) (h3 : M3.IsWhole) (M4 : Memref sig .tc .vmem S1x8192x128 .bf16) (h4 : M4.IsWhole) (M5 : Memref sig .tc .vmem S1x8192x128 .bf16) (h5 : M5.IsWhole) (M6 : Memref sig .tc .vmem S1x512x128 .bf16) (h6 : M6.IsWhole) (M7 : Memref sig .tc .vmem S8x128x128 .f32) (h7 : M7.IsWhole) (M8 : Memref sig .tc .vmem S768x384 .bf16) (h8 : M8.IsWhole)
    (f3 : Bf (F := F) c M3) (f4 : Bf (F := F) c M4) (f5 : Bf (F := F) c M5) (f6 : Bf (F := F) c M6) (f7 : Bf (F := F) c M7)
    (f8 : Bf (F := F) c M8) (hf8 : (i 2).val ≠ 0 → f8 = h8.unread (k0_pay42 (F := F))) (Q : PUnit → sProp 𝕄) :
    iprop(pt c M3 f3 ∗ pt c M4 f4 ∗ pt c M5 f5 ∗ pt c M6 f6 ∗ pt c M7 f7 ∗ pt c M8 f8
      ∗ ((∃ f7', pt c M3 f3 ∗ pt c M4 f4 ∗ pt c M5 f5
          ∗ pt c M6 (M6.view.writes (Elt F) f6 (outPieces c i M3 M4 M5 M8 f3 f4 f5 (h8.unread (k0_pay42 (F := F))))) ∗ pt c M7 f7' ∗ pt c M8 (h8.unread (k0_pay42 (F := F)))) -∗ Q ⟨⟩))
     ⊢ wp frame (wpE (defs₀ (F := F)) 𝒱₀ (c : Thread nD τ) none) Set.univ (cc0_sb_attention i M3 h3 M4 h4 M5 h5 M6 h6 M7 h7 M8 h8) Q := by
  iintro ⟨H3, H4, H5, H6, H7, H8, Hk⟩
  rw [cc0_sb_attention_eq_skeleton]; unfold cc0_sb_attention_skel; rw [k0_part15_eq_skeleton]; unfold k0_part15_skel
  rw [wp_bind, wp_bind]
  iapply (part1_run c i M3 h3 M4 h4 M5 h5 M6 h6 M7 h7 M8 h8 f3 f8 hf8)
  isplitl [H3]; · iexact H3
  isplitl [H8]; · iexact H8
  iintro ⟨H3, H8⟩
  dsimp only [part1_out]
  sl_exec
  simp only [Prog.lift, Prog.bind_op, Prog.bind_ret, Prog.pure_eq_ret]
  iapply (call_1 c i M4 h4 _ M8 h8 M5 h5 f4 _ f5 _ _ _ _ (left (i 2) 0 _) _)
  isplitr; · ipureintro; exact at_first (i 2) 0 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_2 c i M4 h4 _ M8 h8 M5 h5 f4 _ f5 _ _ _ _ (left (i 2) 0 _) _)
  isplitr; · ipureintro; exact at_first (i 2) 0 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_3 c i M4 h4 _ M8 h8 M5 h5 f4 _ f5 _ _ _ _ (left (i 2) 1 _) _)
  isplitr; · ipureintro; exact at_first (i 2) 1 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_4 c i M4 h4 _ M8 h8 M5 h5 f4 _ f5 _ _ _ _ (left (i 2) 1 _) _)
  isplitr; · ipureintro; exact at_first (i 2) 1 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_5 c i M4 h4 _ M8 h8 M5 h5 f4 _ f5 _ _ _ _ (left (i 2) 2 _) _)
  isplitr; · ipureintro; exact at_first (i 2) 2 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_6 c i M4 h4 _ M8 h8 M5 h5 f4 _ f5 _ _ _ _ (left (i 2) 2 _) _)
  isplitr; · ipureintro; exact at_first (i 2) 2 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  dsimp only
  rw [wp_ret]; imodintro
  dsimp only
  sl_exec
  simp only [Prog.lift, Prog.bind_op, Prog.bind_ret, Prog.pure_eq_ret]
  iapply (call_7 c i M4 h4 _ M8 h8 M5 h5 f4 _ f5 _ _ _ _ (left (i 2) 3 _) _)
  isplitr; · ipureintro; exact at_first (i 2) 3 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  simp only [Prog.lift, Prog.bind_op, Prog.bind_ret, Prog.pure_eq_ret]
  iapply (call_8 c i M4 h4 _ M8 h8 M5 h5 f4 _ f5 _ _ _ _ (left (i 2) 3 _) _)
  isplitr; · ipureintro; exact at_first (i 2) 3 _
  rw [spec_apply]
  isplitl [H4 H8 H5]
  · isplitl [H4]; · iexact H4
    isplitl [H8]; · iexact H8
    iexact H5
  iintro %r %hr ⟨H4, H8, H5⟩
  obtain ⟨r0, r1, r2⟩ := r
  obtain rfl := hr
  sl_exec
  rw [wp_ret]; imodintro
  iapply Hk
  iexists _
  isplitl [H3]; · iexact H3
  isplitl [H4]; · iexact H4
  isplitl [H5]; · iexact H5
  isplitl [H6]
  · iapply (pieces_eq (F := F) c M6 f6 ?_)
    rotate_left
    · iexact H6
    · unfold outPieces
      refine four (F := F) (s := S1x512x128) (e := .bf16) ?_ ?_ ?_ ?_
      · refine tile_eq c i M3 M4 M5 M8 f3 f4 f5 _ 3 ?_ ?_
        · refine (View.readCov_skip _ _ _ _ _ (by decide)).trans ?_
          refine (View.readCov_cons_toLoadRect _ _ _ _).trans ?_
          rfl
        · refine (View.readCov_cons_toLoadRect _ _ _ _).trans ?_
          rfl
      · refine tile_eq c i M3 M4 M5 M8 f3 f4 f5 _ 2 ?_ ?_
        · refine (View.readCov_skip _ _ _ _ _ (by decide)).trans ?_
          refine (View.readCov_skip _ _ _ _ _ (by decide)).trans ?_
          refine (View.readCov_skip _ _ _ _ _ (by decide)).trans ?_
          refine (View.readCov_cons_toLoadRect _ _ _ _).trans ?_
          rfl
        · refine (View.readCov_skip _ _ _ _ _ (by decide)).trans ?_
          refine (View.readCov_skip _ _ _ _ _ (by decide)).trans ?_
          refine (View.readCov_cons_toLoadRect _ _ _ _).trans ?_
          rfl
      · refine tile_eq c i M3 M4 M5 M8 f3 f4 f5 _ 1 ?_ ?_
        · refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_cons_toLoadRect _ _ _ _).trans ?_
          rfl
        · refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_cons_toLoadRect _ _ _ _).trans ?_
          rfl
      · refine tile_eq c i M3 M4 M5 M8 f3 f4 f5 _ 0 ?_ ?_
        · refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_cons_toLoadRect _ _ _ _).trans ?_
          rfl
        · refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_skip _ _ _ _ _ (by decide)).trans ?_
          refine (View.readCov_cons_toLoadRect _ _ _ _).trans ?_
          rfl
  isplitl [H7]; · iexact H7
  iexact H8

end Cert.Proof.KI

end
-- ==== Proof.KI.Launch.lean ====
/-
  The launch: the pipeline's proof data, the body's obligation at every grid point, the run of @main and its frame.
-/
module

public import proofs.«01_k».proof.Proof.KI.Body
public import Idealize.ShloMosaic.Lib.Claim

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the region finds them. -/
abbrev V (c : Dev nD) (b : Ref sig .tc) : Buf (Elt F) ((c.tc : Thread nD τ).loc b) := m ((c.tc : Thread nD τ).loc b)

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The staging memrefs are whole. -/
theorem hst0 (t : Fin (cfg0 (F := F)).N) : (st0_0 (F := F) t).IsWhole := hstage0_0 (((cfg0 (F := F)).slots t 0).cast nbuf0_0)
theorem hst1 (t : Fin (cfg0 (F := F)).N) : (st0_1 (F := F) t).IsWhole := hstage0_1 (((cfg0 (F := F)).slots t 1).cast nbuf0_1)
theorem hst2 (t : Fin (cfg0 (F := F)).N) : (st0_2 (F := F) t).IsWhole := hstage0_2 (((cfg0 (F := F)).slots t 2).cast nbuf0_2)
theorem hst3 (t : Fin (cfg0 (F := F)).N) : (st0_3 (F := F) t).IsWhole := hstage0_3 (((cfg0 (F := F)).slots t 3).cast nbuf0_3)

/-- A whole memref's cells are its buffer's. -/
theorem set_whole {sp : Space} {s : Shape} {e : EltTy} {M : Memref sig .tc sp s e} (h : M.IsWhole) : M.view.set = Finset.univ := by
  obtain ⟨b, rfl, rfl, rfl, hm⟩ := h; cases hm
  simp only [Memref.view_whole, View.set_whole]

section Kernel

variable (c : Dev nD) (i : grid0.Coords)
  (M3 : Memref sig .tc .vmem S1x512x128 .bf16) (h3 : M3.IsWhole) (M4 : Memref sig .tc .vmem S1x8192x128 .bf16) (h4 : M4.IsWhole)
  (M5 : Memref sig .tc .vmem S1x8192x128 .bf16) (h5 : M5.IsWhole) (M6 : Memref sig .tc .vmem S1x512x128 .bf16) (h6 : M6.IsWhole)
  (M7 : Memref sig .tc .vmem S8x128x128 .f32) (h7 : M7.IsWhole) (M8 : Memref sig .tc .vmem S768x384 .bf16) (h8 : M8.IsWhole)

/-- The output block, from the blocks of queries, keys and values. -/
def outBlock (x0 : FVec F S1x512x128 .bf16) (x1 x2 : FVec F S1x8192x128 .bf16) : FVec F S1x512x128 .bf16 :=
  View.canon (outPieces c i M3 M4 M5 M8 (h3.unread x0) (h4.unread x1) (h5.unread x2) (h8.unread (k0_pay42 (F := F))))

theorem outPieces_cover (f3 : Bf (F := F) c M3) (f4 : Bf (F := F) c M4) (f5 : Bf (F := F) c M5) (f8 : Bf (F := F) c M8) (y : S1x512x128.Idx) :
    ∃ p ∈ outPieces c i M3 M4 M5 M8 f3 f4 f5 f8, y ∈ p.1.set :=
  View.cover_of_tiled (s := S1x512x128) (outPieces c i M3 M4 M5 M8 f3 f4 f5 f8) ![1, 128, 128] (by rfl) y

/-- The body's triple on whole memrefs at read contents. -/
theorem sound_kernel (x0 : FVec F S1x512x128 .bf16) (x1 x2 : FVec F S1x8192x128 .bf16) (f7 : Bf (F := F) c M7) (f8 : Bf (F := F) c M8)
    (hf8 : (i 2).val ≠ 0 → f8 = h8.unread (k0_pay42 (F := F))) (K : PUnit → sProp 𝕄) :
    iprop(owns (c : Thread nD τ) M3 fullShare x0 ∗ owns (c : Thread nD τ) M4 fullShare x1 ∗ owns (c : Thread nD τ) M5 fullShare x2
        ∗ (∃ d, owns (c : Thread nD τ) M6 fullShare d) ∗ pt c M7 f7 ∗ pt c M8 f8
        ∗ (iprop(owns (c : Thread nD τ) M3 fullShare x0 ∗ owns (c : Thread nD τ) M4 fullShare x1 ∗ owns (c : Thread nD τ) M5 fullShare x2
            ∗ owns (c : Thread nD τ) M6 fullShare (outBlock c i M3 h3 M4 h4 M5 h5 M8 h8 x0 x1 x2)
            ∗ (∃ f7', pt c M7 f7') ∗ pt c M8 (h8.unread (k0_pay42 (F := F)))) -∗ K ⟨⟩))
      ⊢ wp frame (wpE (defs₀ (F := F)) 𝒱₀ (c : Thread nD τ) none) Set.univ (cc0_sb_attention i M3 h3 M4 h4 M5 h5 M6 h6 M7 h7 M8 h8) K := by
  unfold owns
  rw [set_whole h3, set_whole h4, set_whole h5, set_whole h6]
  iintro ⟨⟨%f3, %hf3, H3⟩, ⟨%f4, %hf4, H4⟩, ⟨%f5, %hf5, H5⟩, ⟨%d6, %f6, -, H6⟩, H7, H8, Hk⟩
  obtain rfl := h3.eq_unread hf3
  obtain rfl := h4.eq_unread hf4
  obtain rfl := h5.eq_unread hf5
  iapply (bodyRun c i M3 h3 M4 h4 M5 h5 M6 h6 M7 h7 M8 h8 (h3.unread x0) (h4.unread x1) (h5.unread x2) f6 f7 f8 hf8 K)
  isplitl [H3]; · iexact H3
  isplitl [H4]; · iexact H4
  isplitl [H5]; · iexact H5
  isplitl [H6]; · iexact H6
  isplitl [H7]; · iexact H7
  isplitl [H8]; · iexact H8
  iintro ⟨%f7', H3, H4, H5, H6, H7, H8⟩
  iapply Hk
  isplitl [H3]
  · iexists (h3.unread x0); isplitr; · ipureintro; exact h3.read_unread _
    iexact H3
  isplitl [H4]
  · iexists (h4.unread x1); isplitr; · ipureintro; exact h4.read_unread _
    iexact H4
  isplitl [H5]
  · iexists (h5.unread x2); isplitr; · ipureintro; exact h5.read_unread _
    iexact H5
  isplitl [H6]
  · iexists _; isplitr
    swap; · iexact H6
    ipureintro
    exact View.read_writes_eq_canon _ _ _ (outPieces_cover c i M3 M4 M5 M8 _ _ _ _)
  isplitl [H7]; · iexists f7'; iexact H7
  iexact H8

end Kernel

/-! ## The pipeline's proof data -/

/-- The triangular matrix's buffer. -/
abbrev sufM : Memref sig .tc .vmem S768x384 .bf16 := Memref.whole cc0_scratch1
theorem hsuf : sufM.IsWhole := Memref.isWhole_whole _

/-- What the body leaves in the output's buffer at point `t`. -/
def out0 (c : Dev nD) (t : Fin (cfg0 (F := F)).N) : FVec F S1x512x128 .bf16 :=
  outBlock c (grid0.coords t) (st0_0 (F := F) t) (hst0 t) (st0_1 (F := F) t) (hst1 t) (st0_2 (F := F) t) (hst2 t) sufM hsuf
    (iblk m c 0 t) (iblk m c 1 t) (iblk m c 2 t)

/-- Before point `n`: the accumulators at anything, the triangular matrix in its buffer away from a row's first point,
    and the generator's register. -/
def PhiS (c : Dev nD) (n : ℕ) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ⌜n % 16 ≠ 0 → f = hsuf.unread (k0_pay42 (F := F))⌝ ∗ (((c : Thread nD τ).loc cc0_scratch1) ↦{fullShare} f))
    ∗ ∃ r, prngReg (c : Thread nD τ).1 r)

/-- The proof data of the one pipeline. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0 m c t
  Φ t := PhiS c t.val
  q w := Pipeline.shareOf spec0 w
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = out0 m c t := by dsimp only [dats]; rfl

/-- An input window's buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The grid position along the rows is the point's number modulo 16. -/
theorem coord2 : ∀ t : Fin grid0.N, ((grid0.coords t) 2).val = t.val % 16 := by decide +kernel

theorem Φ_castSucc (c : Dev nD) (t : Fin (cfg0 (F := F)).N) : (dats m 0 c).Φ t.castSucc = PhiS c t.val := by
  dsimp only [dats]; exact Pipeline.Dat.Φ_castSucc (fun n _ => PhiS c n) t
theorem Φ_succ (c : Dev nD) (t : Fin (cfg0 (F := F)).N) : (dats m 0 c).Φ t.succ = PhiS c (t.val + 1) := by
  dsimp only [dats]; rfl

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [Φ_castSucc, Φ_succ, show (dats m 0 c).owesAt () t.succ = (dats m 0 c).owesAt () t.castSucc from rfl,
    after0_0, after0_1, after0_2, after0_3]
  unfold PhiS
  iintro ⟨⟨⟨%f7, H7⟩, ⟨%f8, %hf8, H8⟩, Hr⟩, Ho, ⟨%d0, H0⟩, ⟨%d1, H1⟩, ⟨%d2, H2⟩, ⟨%d3, H3⟩⟩
  iapply (sound_kernel c (grid0.coords t) (st0_0 t) (hst0 t) (st0_1 t) (hst1 t) (st0_2 t) (hst2 t) (st0_3 t) (hst3 t)
    (Memref.whole cc0_scratch0) (Memref.isWhole_whole _) sufM hsuf (iblk m c 0 t) (iblk m c 1 t) (iblk m c 2 t) f7 f8
    (fun h => hf8 (by rwa [coord2] at h)) _)
  isplitl [H0]; · iexact H0
  isplitl [H1]; · iexact H1
  isplitl [H2]; · iexact H2
  isplitl [H3]; · iexists _; iexact H3
  isplitl [H7]; · iexact H7
  isplitl [H8]; · iexact H8
  iintro ⟨H0, H1, H2, H3, ⟨%f7', H7⟩, H8⟩
  isplitl [H7 H8 Hr]
  · isplitl [H7]; · iexists f7'; iexact H7
    isplitl [H8]
    · iexists (hsuf.unread (k0_pay42 (F := F))); isplitr; · ipureintro; exact fun _ => rfl
      iexact H8
    iexact Hr
  isplitl [Ho]; · iexact Ho
  isplitl [H0]; · iexact H0
  isplitl [H1]; · iexact H1
  isplitl [H2]; · iexact H2
  iexact H3

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem phi_in (c : Dev nD) : Pipeline.ΦA spec0 c ⊢ (dats (F := F) m 0 c).Φ 0 := by
  show Pipeline.ΦA spec0 c ⊢ PhiS c 0
  unfold Pipeline.ΦA PhiS
  rw [scopedRest0_eq]
  iintro ⟨⟨H0, ⟨%f, H1⟩⟩, Hr⟩
  isplitl [H0]; · iexact H0
  isplitl [H1]
  · iexists f; isplitr; · ipureintro; intro h; exact absurd rfl h
    iexact H1
  iexact Hr

theorem phi_out (c : Dev nD) : (dats (F := F) m 0 c).Φ (Fin.last (cfg0 (F := F)).N) ⊢ Pipeline.ΦA spec0 c := by
  show PhiS c (cfg0 (F := F)).N ⊢ Pipeline.ΦA spec0 c
  unfold Pipeline.ΦA PhiS
  rw [scopedRest0_eq]
  iintro ⟨H0, ⟨%f, -, H1⟩, Hr⟩
  isplitl [H0 H1]
  · isplitl [H0]; · iexact H0
    iexists f; iexact H1
  iexact Hr

/-- The launch: every run ends with the arrays at what the proof data say and every counter at zero. -/
theorem run_main_quiescent : θ_run defs (onTc (τ := τ) (main (F := F))) ⟨m, fun _ => 0, ρ⟩
    (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun c w _ => rfl)
    (howed := fun _ _ => rfl) (V := V m) (hmain := Pipeline.hmain_region cfgs 0 defs₀ 𝒱₀ m main fun c => rfl) (hA := A_eq m)
    (hin := phi_in m) (hout := phi_out m)

/-- The frame: the argument array ends unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => ((h.1 c).1 0).trans ((dats m 0 c).arrAt_in 0 rfl _), h.2⟩) (run_main_quiescent m ρ)

/-- The result array ends at what the proof data say of the output window. -/
theorem result : θ_run defs (onTc (τ := τ) (main (F := F))) ⟨m, fun _ => 0, ρ⟩ (fun r => ∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0)) :=
  (θ_run defs _ _).mono (fun r h c => ⟨(h.1 c).1 3, ((h.1 c).1 0).trans ((dats m 0 c).arrAt_in 0 rfl _)⟩) (run_main_quiescent m ρ)

end Cert.Proof.KI

end
-- ==== Proof.Math.lean ====
/-
  The attention's numbers, over the extended reals: softplus, the sums of the log skip chances, the weights, and the
  weighted values.
-/
module

public import Idealize.ShloMosaic.PureOps.Ideal.Laws
public import Idealize.ShloMosaic.Lib.IdealHost

@[expose] public section

noncomputable section

namespace Cert.Proof.Math

open Idealize.ShloMosaic Finset

/-! ## Sums -/

/-- The entries of a run of `W` from `w`, those from the `l`th on. -/
theorem sum_from {M : Type} [AddCommMonoid M] (f : ℕ → M) (w W l : ℕ) :
    ∑ k : Fin W, (if l ≤ k.val then f (w + k.val) else 0) = ∑ j ∈ Ico (w + l) (w + W), f j := by
  rw [Fin.sum_univ_eq_sum_range (fun k => if l ≤ k then f (w + k) else 0) W, ← sum_filter]
  rw [show (range W).filter (fun k => l ≤ k) = Ico l W by ext k; simp; omega, add_comm w l, add_comm w W]
  exact sum_Ico_add f l W w

/-- The entries of a run of `W` from `w`. -/
theorem sum_run {M : Type} [AddCommMonoid M] (f : ℕ → M) (w W : ℕ) :
    ∑ k : Fin W, f (w + k.val) = ∑ j ∈ Ico w (w + W), f j := by
  have h := sum_from f w W 0
  simpa using h

/-- A finite nonnegative factor comes out of a sum. -/
theorem sum_mul_coe {ι : Type} (s : Finset ι) (f : ι → EReal) (r : ℝ) (hr : 0 ≤ r) : (∑ k ∈ s, f k) * (r : EReal) = ∑ k ∈ s, f k * (r : EReal) := by
  classical
  induction s using Finset.induction_on with
  | empty => simp
  | insert a s ha ih =>
    rw [sum_insert ha, sum_insert ha, ← ih]
    exact EReal.right_distrib_of_nonneg_of_ne_top (EReal.coe_nonneg.mpr hr) (EReal.coe_ne_top r) _ _

/-! ## Softplus -/

/-- `log (1 + exp x)` of a real, as a sum that does not overflow. -/
def spR (x : ℝ) : ℝ := max x 0 + Real.log (1 + Real.exp (-|x|))

theorem spR_neg (x : ℝ) : spR (-x) = spR x - x := by
  unfold spR
  rw [abs_neg]
  have : max (-x) 0 = max x 0 - x := by
    rcases le_total x 0 with h | h
    · rw [max_eq_left (by linarith), max_eq_right h]; ring
    · rw [max_eq_right (by linarith), max_eq_left h]; ring
  rw [this]; ring

theorem max_coe (x y : ℝ) : max (x : EReal) (y : EReal) = ((max x y : ℝ) : EReal) :=
  (EReal.coe_strictMono.monotone.map_max (a := x) (b := y)).symm

theorem abs_coe (x : ℝ) : max (x : EReal) (-(x : EReal)) = ((|x| : ℝ) : EReal) := by
  rw [← EReal.coe_neg, max_coe]; rfl

theorem log_one_add_exp (x : ℝ) : Ideal.log (1 + Ideal.exp (x : EReal)) = ((Real.log (1 + Real.exp x) : ℝ) : EReal) := by
  have h : ¬ (1 + Real.exp x ≤ 0) := by have := Real.exp_pos x; linarith
  rw [Ideal.exp_coe, ← EReal.coe_one, ← EReal.coe_add, Ideal.log_coe, if_neg h]

/-- The same of an extended real. -/
def sp (x : EReal) : EReal := max x 0 + Ideal.log (1 + Ideal.exp (-max x (-x)))

theorem sp_coe (x : ℝ) : sp (x : EReal) = ((spR x : ℝ) : EReal) := by
  unfold sp
  rw [abs_coe, ← EReal.coe_zero, max_coe, ← EReal.coe_neg, log_one_add_exp, ← EReal.coe_add]; rfl

theorem log_one : Ideal.log 1 = 0 := by
  rw [← EReal.coe_one, Ideal.log_coe, if_neg (by norm_num), Real.log_one, EReal.coe_zero]

theorem sp_top : sp ⊤ = ⊤ := by
  unfold sp
  rw [max_eq_left le_top, max_eq_left le_top, EReal.neg_top, Ideal.exp_bot, add_zero, log_one, add_zero]

theorem sp_bot : sp ⊥ = 0 := by
  unfold sp
  rw [max_eq_right bot_le, max_eq_right bot_le, EReal.neg_bot, EReal.neg_top, Ideal.exp_bot, add_zero, log_one, add_zero]

theorem neg_sp_ne_top (x : EReal) : -sp x ≠ ⊤ := by
  induction x with
  | bot => rw [sp_bot, neg_zero]; exact EReal.zero_ne_top
  | top => rw [sp_top, EReal.neg_top]; exact bot_ne_top
  | coe r => rw [sp_coe, ← EReal.coe_neg]; exact EReal.coe_ne_top _

/-- The kernel's softplus. -/
theorem softplus_kernel (x : EReal) : max x 0 + Ideal.log (1 + Ideal.exp (0 - max x (-x))) = sp x := by
  rw [zero_sub]; rfl

/-- The reference's softplus. -/
theorem softplus_reference (x : EReal) : max x 0 + Ideal.log1p (Ideal.exp (-max (x - 0) (-(x - 0)))) = sp x := by
  rw [sub_zero]; rfl

/-- A number and what rounding it to itself leaves. -/
theorem add_sub_self_of_ne_top {x : EReal} (h : x ≠ ⊤) : x + (x - x) = x := by
  induction x with
  | bot => rfl
  | top => exact absurd rfl h
  | coe r => rw [← EReal.coe_sub, sub_self, EReal.coe_zero, add_zero]

/-- The log of a weight in the reference's form: `t` is the sum of the log skip chances from the key on. -/
theorem log_weight (z t : EReal) (h : t ≠ ⊤) (hz : z = ⊤ → t = ⊥) : -sp (-z) + (t - -sp z) = z + t := by
  induction z with
  | bot => rw [EReal.neg_bot, sp_top, EReal.neg_top, EReal.bot_add, EReal.bot_add]
  | top =>
    rw [hz rfl, EReal.neg_top, sp_bot, sp_top, EReal.neg_top, EReal.add_bot]; simp
  | coe r =>
    induction t with
    | top => exact absurd rfl h
    | bot => rw [EReal.bot_sub, EReal.add_bot, EReal.add_bot]
    | coe t =>
      rw [← EReal.coe_neg, sp_coe, sp_coe, ← EReal.coe_neg, ← EReal.coe_neg, ← EReal.coe_sub, ← EReal.coe_add, ← EReal.coe_add, spR_neg]
      congr 1; ring

/-! ## The attention of one row -/

/-- The log of the chance that query `i` skips key `j`: keys at or after the query take no part. -/
def sk (z : ℕ → EReal) (i j : ℕ) : EReal := if j < i then -sp (z j) else 0

/-- The log skip chances from key `j` on. -/
def T (z : ℕ → EReal) (i j : ℕ) : EReal := ∑ l ∈ Ico j 8192, sk z i l

/-- The weight of key `j`. -/
def A (z : ℕ → EReal) (i j : ℕ) : EReal := if j < i then Ideal.exp (z j + T z i j) else 0

/-- The weighted values from key `a` on. -/
def outFrom (z : ℕ → EReal) (i : ℕ) (v : ℕ → EReal) (a : ℕ) : EReal := ∑ j ∈ Ico a 8192, A z i j * v j

theorem sk_ne_top (z : ℕ → EReal) (i j : ℕ) : sk z i j ≠ ⊤ := by
  unfold sk; split
  · exact neg_sp_ne_top _
  · exact EReal.zero_ne_top

theorem T_ne_top (z : ℕ → EReal) (i j : ℕ) : T z i j ≠ ⊤ := by
  unfold T
  refine Finset.sum_induction _ (· ≠ ⊤) (fun a b ha hb => (EReal.add_lt_top ha hb).ne) EReal.zero_ne_top fun l _ => sk_ne_top z i l

theorem sk_ge (z : ℕ → EReal) {i j : ℕ} (h : i ≤ j) : sk z i j = 0 := if_neg (by omega)
theorem A_ge (z : ℕ → EReal) {i j : ℕ} (h : i ≤ j) : A z i j = 0 := if_neg (by omega)

theorem T_split (z : ℕ → EReal) (i : ℕ) {a b : ℕ} (h : a ≤ b) (h' : b ≤ 8192) : T z i a = ∑ l ∈ Ico a b, sk z i l + T z i b :=
  (sum_Ico_consecutive _ h h').symm

theorem T_ge (z : ℕ → EReal) {i a : ℕ} (h : i ≤ a) : T z i a = 0 :=
  sum_eq_zero fun l hl => sk_ge z (by simp at hl; omega)

theorem outFrom_split (z : ℕ → EReal) (i : ℕ) (v : ℕ → EReal) {a b : ℕ} (h : a ≤ b) (h' : b ≤ 8192) :
    outFrom z i v a = ∑ l ∈ Ico a b, A z i l * v l + outFrom z i v b :=
  (sum_Ico_consecutive _ h h').symm

theorem outFrom_ge (z : ℕ → EReal) {i : ℕ} (v : ℕ → EReal) {a : ℕ} (h : i ≤ a) : outFrom z i v a = 0 :=
  sum_eq_zero fun l hl => by rw [A_ge z (by simp at hl; omega)]; simp

/-- The skip sums within a run of `W` keys from `w`, from the `l`th on, and those after it. -/
theorem T_run (z : ℕ → EReal) (i w W l : ℕ) (hl : l ≤ W) (h : w + W ≤ 8192) :
    T z i (w + l) = (∑ k : Fin W, if l ≤ k.val then sk z i (w + k.val) else 0) + T z i (w + W) := by
  rw [sum_from, T_split z i (b := w + W) (by omega) h]

/-- The weighted values of a run of `W` keys from `w`, and those after it. -/
theorem outFrom_run (z : ℕ → EReal) (i : ℕ) (v : ℕ → EReal) (w W : ℕ) (h : w + W ≤ 8192) :
    outFrom z i v w = (∑ k : Fin W, A z i (w + k.val) * v (w + k.val)) + outFrom z i v (w + W) := by
  rw [sum_run (fun j => A z i j * v j), outFrom_split z i v (b := w + W) (by omega) h]

/-- Nothing is left before a key from which on the log skip chances sum to minus infinity. -/
theorem outFrom_bot (z : ℕ → EReal) (i : ℕ) (v : ℕ → EReal) {a : ℕ} (h : a ≤ 8192) (hT : T z i a = ⊥) : outFrom z i v 0 = outFrom z i v a := by
  rw [outFrom_split z i v (Nat.zero_le a) h]
  refine (congrArg (· + outFrom z i v a) (sum_eq_zero fun l hl => ?_)).trans (zero_add _)
  have hl' : l ≤ a := by simp at hl; omega
  have e : A z i l = 0 := by
    unfold A; split
    · rw [T_split z i hl' h, hT, EReal.add_bot, EReal.add_bot, Ideal.exp_bot]
    · rfl
  rw [e, zero_mul]

/-- A key of infinite logit before the query: the log skip chances from it on sum to minus infinity. -/
theorem T_top (z : ℕ → EReal) {i j : ℕ} (h : j < i) (hj : j < 8192) (hz : z j = ⊤) : T z i j = ⊥ := by
  unfold T
  rw [sum_eq_sum_Ico_succ_bot hj]
  unfold sk
  rw [if_pos h, hz, sp_top, EReal.neg_top, EReal.bot_add]

/-- The reference's weight. -/
theorem A_reference (z : ℕ → EReal) {i j : ℕ} (h : j < i) (hj : j < 8192) :
    Ideal.exp (-sp (-z j) + (T z i j - sk z i j)) = A z i j := by
  have e : sk z i j = -sp (z j) := if_pos h
  rw [e, log_weight _ _ (T_ne_top z i j) (T_top z h hj), A, if_pos h]

/-- The whole attention as a sum over all keys. -/
theorem outFrom_zero (z : ℕ → EReal) (i : ℕ) (v : ℕ → EReal) :
    outFrom z i v 0 = ∑ j : Fin 8192, A z i j.val * v j.val := by
  have h := outFrom_run z i v 0 8192 (by norm_num)
  simp only [Nat.zero_add] at h
  rw [h]
  have : outFrom z i v 8192 = 0 := by unfold outFrom; simp
  rw [this, add_zero]

end Cert.Proof.Math

end
-- ==== Proof.KI.Pay.lean ====
/-
  The body's values over the extended reals, read at an index: the window's sums and weighted values, one turn of a
  loop, and a whole loop.
-/
module

public import proofs.«01_k».proof.Proof.KI.Launch
public import proofs.«01_k».proof.Proof.Math
public import Idealize.ShloMosaic.Lib.Pointwise
public import Idealize.ShloMosaic.Lib.IdealHost
public import Idealize.ShloMosaic.Lib.WordCmp
public import Mathlib.Data.Finset.Fold

@[expose] public section

set_option maxRecDepth 16384

noncomputable section

namespace Cert.Proof.KI

open Cert.KernelIdeal Cert.KernelIdeal.Gen
open Idealize.ShloMosaic
open Cert.Proof.Math

/-! ## Words -/

theorem sel_one {α : Type} (x y : α) : Scalar.select 1#1 x y = x := rfl
theorem sel_zero {α : Type} (x y : α) : Scalar.select 0#1 x y = y := rfl

theorem sge_word (x y : ℕ) (hx : x < 2 ^ 20) (hy : y < 2 ^ 20) :
    IntOp.cmpi .sge (BitVec.ofNat 32 x) (BitVec.ofNat 32 y) = if y ≤ x then 1#1 else 0#1 := by
  have ex : (BitVec.ofNat 32 x).toInt = x := WordCmp.toInt_ofNat_of_lt (by norm_num; omega)
  have ey : (BitVec.ofNat 32 y).toInt = y := WordCmp.toInt_ofNat_of_lt (by norm_num; omega)
  unfold IntOp.cmpi
  simp only [BitVec.sle, ex, ey, Int.ofNat_le]
  by_cases h : y ≤ x <;> simp [h]

theorem slt_word (x y : ℕ) (hx : x < 2 ^ 20) (hy : y < 2 ^ 20) :
    IntOp.cmpi .slt (BitVec.ofNat 32 x) (BitVec.ofNat 32 y) = if x < y then 1#1 else 0#1 := by
  have ex : (BitVec.ofNat 32 x).toInt = x := WordCmp.toInt_ofNat_of_lt (by norm_num; omega)
  have ey : (BitVec.ofNat 32 y).toInt = y := WordCmp.toInt_ofNat_of_lt (by norm_num; omega)
  unfold IntOp.cmpi
  simp only [BitVec.slt, ex, ey, Int.ofNat_lt]
  by_cases h : x < y <;> simp [h]

theorem slt_sub_word (x r b : ℕ) (hx : x < 2 ^ 20) (hr : r < 2 ^ 20) (hb : b < 2 ^ 20) :
    IntOp.cmpi .slt (IntOp.subi (BitVec.ofNat 32 x) (BitVec.ofNat 32 r)) (BitVec.ofNat 32 b) = if x < b + r then 1#1 else 0#1 := by
  have ex : (BitVec.ofNat 32 x).toInt = x := WordCmp.toInt_ofNat_of_lt (by norm_num; omega)
  have er : (BitVec.ofNat 32 r).toInt = r := WordCmp.toInt_ofNat_of_lt (by norm_num; omega)
  have eb : (BitVec.ofNat 32 b).toInt = b := WordCmp.toInt_ofNat_of_lt (by norm_num; omega)
  have es : (IntOp.subi (BitVec.ofNat 32 x) (BitVec.ofNat 32 r)).toInt = (x : ℤ) - r := by
    show (BitVec.ofNat 32 x - BitVec.ofNat 32 r).toInt = _
    rw [BitVec.toInt_sub, ex, er, Int.bmod]
    norm_num
    split <;> omega
  unfold IntOp.cmpi
  simp only [BitVec.slt, es, eb]
  by_cases h : x < b + r
  · rw [if_pos h, decide_eq_true (by omega)]; rfl
  · rw [if_neg h, decide_eq_false (by omega)]; rfl

/-- The first key of a query tile's window. -/
def startN (a : Fin 16) (t : Fin 4) : ℕ := 128 * (4 * a.val + t.val - 2)

/-- How far the query tile is behind the start of its window. -/
theorem lead_word : ∀ (a : Fin 16) (t : Fin 4),
    Scalar.subi (Scalar.muli (tileW a t) 128#32) (startW a t) = BitVec.ofNat 32 (128 * (4 * a.val + t.val) - startN a t) := by
  decide +kernel

/-- A key of the window takes part when it is before the query. -/
theorem seen_word (a : Fin 16) (t : Fin 4) (x : Fin 384) (r : Fin 128) :
    IntOp.cmpi .slt (IntOp.subi (BitVec.ofNat 32 x.val) (BitVec.ofNat 32 r.val))
        (Scalar.subi (Scalar.muli (tileW a t) 128#32) (startW a t))
      = if startN a t + x.val < 128 * (4 * a.val + t.val) + r.val then 1#1 else 0#1 := by
  have hx := x.isLt; have hr := r.isLt; have ha := a.isLt; have ht := t.isLt
  rw [lead_word, slt_sub_word _ _ _ (by omega) (by omega) (by omega)]
  refine if_congr ?_ rfl rfl
  unfold startN; omega

/-! ## Constants and the triangular matrix -/

theorem neg_inf_f32 : Ideal.ofBits .f32 0xFF800000#32 = ⊥ := by simp [Ideal.ofBits, Ideal.ieee]

theorem eighth_bf16 : Ideal.ofBits .bf16 0x3E00#16 = ((1 / 8 : ℝ) : EReal) := by
  simp [Ideal.ofBits, Ideal.ieee, -EReal.coe_mul]; norm_num

theorem pay42_apply (k : Fin 768) (l : Fin 384) : k0_pay42 (F := Ideal) (ix2 k l) = if l.val ≤ k.val % 384 then 1 else 0 := by
  have hk := k.isLt; have hl := l.isLt
  pointwise [k0_pay42]
  have e : Scalar.select (IntOp.cmpi .sge (BitVec.ofNat 32 k.val) 384#32) (IntOp.subi (BitVec.ofNat 32 k.val) 384#32) (BitVec.ofNat 32 k.val)
      = BitVec.ofNat 32 (k.val % 384) := by
    rw [sge_word k.val 384 (by omega) (by omega)]
    by_cases h : 384 ≤ k.val
    · rw [if_pos h, sel_one]
      show BitVec.ofNat 32 k.val - 384#32 = _
      apply BitVec.eq_of_toNat_eq
      rw [BitVec.toNat_sub, BitVec.toNat_ofNat, BitVec.toNat_ofNat, BitVec.toNat_ofNat]
      norm_num
      omega
    · rw [if_neg h, sel_zero, Nat.mod_eq_of_lt (by omega)]
  rw [e, sge_word _ _ (by omega) (by omega)]
  by_cases h : l.val ≤ k.val % 384
  · rw [if_pos h, if_pos h]
    show ((((1#1 : BitVec 1).setWidth 32).toInt : ℝ) : EReal) = 1
    norm_num
  · rw [if_neg h, if_neg h]
    show ((((0#1 : BitVec 1).setWidth 32).toInt : ℝ) : EReal) = 0
    norm_num

theorem select_mul (c : BitVec 1) (x s : EReal) : Scalar.select c (x * s) 0 = Scalar.select c x 0 * s := by
  unfold Scalar.select; split <;> simp

/-- The kernel's log skip chance of one logit, under the window's mask. -/
theorem skip_apply (c : Prop) [Decidable c] (ζ : EReal) :
    Scalar.select (if c then 1#1 else 0#1) (0 - (max ζ 0 + Ideal.log (1 + Ideal.exp (0 - max ζ (-ζ))))) 0 = if c then -sp ζ else 0 := by
  rw [softplus_kernel]
  by_cases h : c
  · rw [if_pos h, if_pos h, sel_one, zero_sub]
  · rw [if_neg h, if_neg h, sel_zero]

/-- The high and the low part of a log skip chance under the triangular matrix, together. -/
theorem high_low (x : EReal) (h : x ≠ ⊤) (c : Prop) [Decidable c] :
    x * (if c then 1 else 0) + (x - x) * (if c then 1 else 0) = if c then x else 0 := by
  split
  · rw [mul_one, mul_one, add_sub_self_of_ne_top h]
  · rw [mul_zero, mul_zero, add_zero]

/-! ## The window -/

section Window

variable (a : Fin 16) (t : Fin 4) (q : FVec Ideal S128x128 .bf16) (xK xV : FVec Ideal S1x384x128 .bf16)
  (Z : Fin 128 → ℕ → EReal) (v : Fin 128 → ℕ → EReal)

/-- The query a row of the tile stands for. -/
def rowN (r : Fin 128) : ℕ := 128 * (4 * a.val + t.val) + r.val

theorem rowN_lt (r : Fin 128) : rowN a t r < startN a t + 384 := by
  unfold rowN startN; omega

theorem startN_le : startN a t + 384 ≤ 8192 := by
  unfold startN; omega

variable (hz : ∀ r l, logitW q xK (ix2 r l) = Z r (startN a t + l.val))
include hz

theorem tailW_apply (r : Fin 128) (l : Fin 384) :
    tailW a t q xK (k0_pay42 (F := Ideal)) (ix2 r l) = T (Z r) (rowN a t r) (startN a t + l.val) := by
  rw [T_run (Z r) _ _ 384 l.val (by omega) (startN_le a t), T_ge (Z r) (rowN_lt a t r).le, add_zero]
  unfold tailW
  generalize logitW q xK = z at hz
  pointwise [k0_pay69, k0_pay68]
  simp only [hz, Ideal.absf_def, seen_word, select_mul, skip_apply, pay42_apply]
  rw [← Finset.sum_add_distrib]
  refine Finset.sum_congr rfl fun x _ => ?_
  have e1 : x.val % 384 = x.val := Nat.mod_eq_of_lt x.isLt
  have e2 : (384 + x.val) % 384 = x.val := by have := x.isLt; omega
  have hs : (if startN a t + x.val < 128 * (4 * a.val + t.val) + r.val then -sp (Z r (startN a t + x.val)) else 0)
      = sk (Z r) (rowN a t r) (startN a t + x.val) := rfl
  simp only [hs, e1, e2]
  exact high_low (sk (Z r) (rowN a t r) (startN a t + x.val)) (sk_ne_top _ _ _) (l.val ≤ x.val)

theorem carry0_apply (r : Fin 128) :
    carry0 a t q xK (k0_pay42 (F := Ideal)) (ix2 r 0) = T (Z r) (rowN a t r) (startN a t) := by
  have h := tailW_apply a t q xK Z hz r 0
  unfold carry0
  generalize tailW a t q xK (k0_pay42 (F := Ideal)) = s at h
  pointwise [k0_pay87]
  exact h

theorem acc0_apply (hv : ∀ l d, xV (ix3 0 l d) = v d (startN a t + l.val)) (r d : Fin 128) :
    acc0 a t q xK xV (k0_pay42 (F := Ideal)) (ix2 r d) = outFrom (Z r) (rowN a t r) (v d) (startN a t) := by
  have h := tailW_apply a t q xK Z hz
  rw [outFrom_run (Z r) _ _ _ 384 (startN_le a t), outFrom_ge (Z r) _ (rowN_lt a t r).le, add_zero]
  unfold acc0
  generalize tailW a t q xK (k0_pay42 (F := Ideal)) = s at h
  generalize logitW q xK = z at hz
  pointwise [k0_pay104, k0_pay88, k0_pay68]
  refine Finset.sum_congr rfl fun x _ => ?_
  rw [hz, h, hv, seen_word, neg_inf_f32]
  congr 1
  unfold A
  by_cases hc : startN a t + x.val < 128 * (4 * a.val + t.val) + r.val
  · rw [if_pos hc, if_pos (by exact hc), sel_one]
  · rw [if_neg hc, if_neg (by exact hc), sel_zero]; rfl

end Window

/-! ## The loop -/

section Turn

variable (n : ℕ) (i : Fin 128 → ℕ) (hi : ∀ r, 128 * n + 128 ≤ i r) (hn : 128 * n + 128 ≤ 8192)
  (q : FVec Ideal S128x128 .bf16) (cr : FVec Ideal S128x1 .f32) (acc : FVec Ideal S128x128 .f32)
  (xK xV : FVec Ideal S1x128x128 .bf16) (U L : FVec Ideal S128x128 .bf16)
  (Z : Fin 128 → ℕ → EReal) (v : Fin 128 → ℕ → EReal)
  (hU : ∀ k l : Fin 128, U (ix2 k l) = if l.val ≤ k.val then 1 else 0)
  (hL : ∀ k l : Fin 128, L (ix2 k l) = if l.val ≤ k.val then 1 else 0)
  (hz : ∀ r l, k0_pay3 q xK (ix2 r l) = Z r (128 * n + l.val))
  (hc : ∀ r, cr (ix2 r 0) = T (Z r) (i r) (128 * n + 128))
include hi hn hU hL hz

theorem pay4_apply (r l : Fin 128) :
    k0_pay4 q xK U L (ix2 r l) = ∑ k : Fin 128, if l.val ≤ k.val then sk (Z r) (i r) (128 * n + k.val) else 0 := by
  pointwise [k0_pay4]
  simp only [hz, Ideal.absf_def, softplus_kernel]
  simp only [zero_sub, hU, hL]
  rw [← Finset.sum_add_distrib]
  refine Finset.sum_congr rfl fun x _ => ?_
  have e : sk (Z r) (i r) (128 * n + x.val) = -sp (Z r (128 * n + x.val)) := if_pos (by have := hi r; have := x.isLt; omega)
  rw [← e]
  exact high_low (sk (Z r) (i r) (128 * n + x.val)) (sk_ne_top _ _ _) (l.val ≤ x.val)

include hc

theorem pay5_apply (r : Fin 128) : k0_pay5 q cr xK U L (ix2 r 0) = T (Z r) (i r) (128 * n) := by
  have h := pay4_apply n i hi hn q xK U L Z hU hL hz r 0
  pointwise [k0_pay5]
  rw [h, hc, add_comm]
  exact (T_run (Z r) (i r) (128 * n) 128 0 (by omega) hn).symm

theorem pay6_apply (hv : ∀ l d, xV (ix3 0 l d) = v d (128 * n + l.val))
    (ha : ∀ r d, acc (ix2 r d) = outFrom (Z r) (i r) (v d) (128 * n + 128)) (r d : Fin 128) :
    k0_pay6 q cr acc xK U L xV (ix2 r d) = outFrom (Z r) (i r) (v d) (128 * n) := by
  have h := pay4_apply n i hi hn q xK U L Z hU hL hz
  pointwise [k0_pay6]
  rw [ha, outFrom_run (Z r) (i r) (v d) (128 * n) 128 hn, add_comm]
  congr 1
  refine Finset.sum_congr rfl fun x _ => ?_
  rw [hz, h, hv, hc, A, if_pos (by have := hi r; have := x.isLt; omega), T_run (Z r) (i r) (128 * n) 128 x.val (by omega) hn, add_assoc,
    add_comm (Math.T _ _ _)]

end Turn

/-- The guard: the bound being minus infinity, it fails only when every carry is minus infinity. -/
theorem pay2_bot (cr : FVec Ideal S128x1 .f32) (h : Scalar.cmpf .ogt (k0_pay2 cr) (Named.named κ "skip" 0xC2C80000#32 : Ideal .f32) ≠ 1#1) (r : Fin 128) :
    cr (ix2 r 0) = ⊥ := by
  have hk : (Named.named κ "skip" 0xC2C80000#32 : Ideal .f32) = (⊥ : EReal) := rfl
  by_contra hr
  refine h ?_
  have hp : (⊥ : EReal) < k0_pay2 cr := by
    pointwise [k0_pay2]
    exact (Finset.lt_fold_max _).mpr (Or.inr ⟨(r, 0), Finset.mem_univ _, bot_lt_iff_ne_bot.mpr hr⟩)
  rw [hk]
  show BitVec.ofBool (decide ((⊥ : EReal) < k0_pay2 cr)) = 1#1
  rw [decide_eq_true hp]; rfl

/-- A loop over the `n` first tiles ends at the whole attention. -/
theorem run_apply (c : Dev nD) (aK aV : Memref sig .tc .vmem S1x8192x128 .bf16) (aS : Memref sig .tc .vmem S768x384 .bf16)
    (q : FVec Ideal S128x128 .bf16) (fK : Bf (F := Ideal) c aK) (fS : Bf (F := Ideal) c aS) (fV : Bf (F := Ideal) c aV)
    (i : Fin 128 → ℕ) (Z : Fin 128 → ℕ → EReal) (v : Fin 128 → ℕ → EReal)
    (hU : ∀ k l : Fin 128, cornerU c aS fS (ix2 k l) = if l.val ≤ k.val then 1 else 0)
    (hL : ∀ k l : Fin 128, cornerL c aS fS (ix2 k l) = if l.val ≤ k.val then 1 else 0)
    (N : ℕ) (hN : 128 * N ≤ 8192) (hi : ∀ r, 128 * N ≤ i r)
    (hz : ∀ n < N, ∀ r l, k0_pay3 q (tile c aK fK (BitVec.ofNat 32 n)) (ix2 r l) = Z r (128 * n + l.val))
    (hv : ∀ n < N, ∀ l d, tile c aV fV (BitVec.ofNat 32 n) (ix3 0 l d) = v d (128 * n + l.val)) :
    ∀ n ≤ N, ∀ (cr : FVec Ideal S128x1 .f32) (acc : FVec Ideal S128x128 .f32),
      (∀ r, cr (ix2 r 0) = T (Z r) (i r) (128 * n)) →
      (∀ r d, acc (ix2 r d) = outFrom (Z r) (i r) (v d) (128 * n)) →
      ∀ r d, run c aK q aS aV fK fS fV n cr acc (ix2 r d) = outFrom (Z r) (i r) (v d) 0
  | 0, _, cr, acc, _, ha, r, d => ha r d
  | n + 1, h, cr, acc, hc, ha, r, d => by
    have e : 128 * (n + 1) = 128 * n + 128 := by ring
    rw [e] at hc ha
    unfold run
    split
    rotate_left
    · next hg =>
      rw [ha, outFrom_bot (Z r) (i r) (v d) (a := 128 * n + 128) (by omega) ((hc r).symm.trans (pay2_bot cr hg r))]
    have hi' : ∀ r, 128 * n + 128 ≤ i r := fun r => by have := hi r; omega
    refine run_apply c aK aV aS q fK fS fV i Z v hU hL N hN hi hz hv n (by omega) _ _ (fun r => ?_) (fun r d => ?_) r d
    · exact pay5_apply n i hi' (by omega) q cr _ _ _ Z hU hL (hz n (by omega)) hc r
    · exact pay6_apply n i hi' (by omega) q cr acc _ _ _ _ Z v hU hL (hz n (by omega)) hc (hv n (by omega)) ha r d

end Cert.Proof.KI
end
-- ==== Proof.Target.lean ====
/-
  The attention of one row as a function of the whole argument array: what the kernel's result and the reference's are
  each shown to be.
-/
module

public import proofs.«01_k».proof.Proof.Math
public import Idealize.ShloMosaic.Lib.Pointwise

@[expose] public section

noncomputable section

namespace Cert.Proof

open Idealize.ShloMosaic
open Cert.Proof.Math

/-- The array's element at natural coordinates, zero outside it. -/
def at3 (x : (⟨3, ![4, 8192, 768]⟩ : Shape).Idx → EReal) (b j c : ℕ) : EReal :=
  if h : (b < 4 ∧ j < 8192) ∧ c < 768 then x (ix3 ⟨b, h.1.1⟩ ⟨j, h.1.2⟩ ⟨c, h.2⟩) else 0

theorem at3_val (x : (⟨3, ![4, 8192, 768]⟩ : Shape).Idx → EReal) (b : Fin 4) (j : Fin 8192) (c : Fin 768) :
    at3 x b.val j.val c.val = x (ix3 b j c) := dif_pos ⟨⟨b.isLt, j.isLt⟩, c.isLt⟩

theorem at3_of (x : (⟨3, ![4, 8192, 768]⟩ : Shape).Idx → EReal) (y : (⟨3, ![4, 8192, 768]⟩ : Shape).Idx) {b j c : ℕ} (h0 : (y 0).val = b)
    (h1 : (y 1).val = j) (h2 : (y 2).val = c) : x y = at3 x b j c := by
  subst h0 h1 h2
  refine Eq.trans (congrArg x ?_) (at3_val x (y 0) (y 1) (y 2)).symm
  funext a
  fin_cases a <;> rfl

/-- A head's logit over its 64 lanes. -/
def zb (Q K : ℕ → ℕ → EReal) (h : ℕ) (r j : ℕ) : EReal := (∑ k : Fin 64, Q r (64 * h + k.val) * K j (64 * h + k.val)) * ((1 / 8 : ℝ) : EReal)

/-- The logit of row `i` and key `j` in head `h` of batch `b`. -/
def zAt (x : (⟨3, ![4, 8192, 768]⟩ : Shape).Idx → EReal) (b h i j : ℕ) : EReal :=
  zb (fun i k => at3 x b i k) (fun j k => at3 x b j (256 + k)) h i j

/-- The attention's lane `c` of row `i` in batch `b`. -/
def attn (x : (⟨3, ![4, 8192, 768]⟩ : Shape).Idx → EReal) (b i c : ℕ) : EReal :=
  outFrom (zAt x b (c / 64) i) i (fun j => at3 x b j (512 + c)) 0

end Cert.Proof
end
-- ==== Proof.KI.Value.lean ====
/-
  The output block over the extended reals: each element is the attention of its row, from the blocks of queries, keys
  and values.
-/
module

public import proofs.«01_k».proof.Proof.KI.Pay
public import proofs.«01_k».proof.Proof.Target
public import Idealize.ShloMosaic.Lib.WholeRead
public import Idealize.ShloMosaic.Lib.Pipeline.ValueKit.Geometry

@[expose] public section

set_option maxRecDepth 16384

noncomputable section

namespace Cert.Proof.KI

open Cert.KernelIdeal Cert.KernelIdeal.Gen
open Idealize.ShloMosaic
open Cert.Proof.Math

/-! ## Loads of whole buffers -/

theorem rowsQ_apply (c : Dev nD) (M : Memref sig .tc .vmem S1x512x128 .bf16) (h : M.IsWhole) (x : FVec Ideal S1x512x128 .bf16)
    (t : Fin 4) (r k : Fin 128) : rowsQ (F := Ideal) c M (h.unread x) t (ix3 0 r k) = x (ix3 0 ⟨128 * t.val + r.val, by omega⟩ k) := by
  have e : ∀ (o : ℕ) (b : ∀ a, (![0, o, 0] : Fin 3 → ℕ) a + S1x128x128.size a ≤ S1x512x128.size a) (ho : o = 128 * t.val),
      View.readAt (Elt Ideal) M.view (Rect.unit (s := S1x512x128) ![0, o, 0] S1x128x128.size b).toLoadRect (h.unread x) (ix3 0 r k)
        = x (ix3 0 ⟨128 * t.val + r.val, by omega⟩ k) := fun o b ho => by
    rw [Memref.IsWhole.readAt_unread]
    subst ho
    pointwise
  match t, e with
  | 0, e => exact e 0 _ rfl
  | 1, e => exact e 128 _ rfl
  | 2, e => exact e 256 _ rfl
  | 3, e => exact e 384 _ rfl

theorem startW_toNat : ∀ (a : Fin 16) (t : Fin 4), (startW a t).toNat = startN a t := by
  decide +kernel

theorem off1_eq (i : grid0.Coords) (t : Fin 4) : k0_off1 i (BitVec.ofNat 32 t.val) = ![0, startN (i 2) t, 0] := by
  exact congrArg (fun z => (![0, z, 0] : Fin 3 → ℕ)) (startW_toNat (i 2) t)

theorem off2_eq (n : ℕ) (hn : n < 64) : k0_off2 (BitVec.ofNat 32 n) = ![0, 128 * n, 0] := by
  have h : ∀ n : Fin 64, (Scalar.muli (BitVec.ofNat 32 n.val) 128#32).toNat = 128 * n.val := by decide +kernel
  rw [← h ⟨n, hn⟩]; rfl

section Loads

variable (c : Dev nD) (M : Memref sig .tc .vmem S1x8192x128 .bf16) (h : M.IsWhole) (x : FVec Ideal S1x8192x128 .bf16)

theorem rows_apply (off : Fin 3 → ℕ) (o : ℕ) (e : off = ![0, o, 0]) (R : ℕ) (b) (r : Fin R) (ho : o + R ≤ 8192) (k : Fin 128) :
    View.readAt (Elt Ideal) M.view (Rect.unit (s := S1x8192x128) off ((⟨3, ![1, R, 128]⟩ : Shape).size) b).toLoadRect (h.unread x) (ix3 0 r k)
      = x (ix3 0 ⟨o + r.val, by omega⟩ k) := by
  subst e
  rw [Memref.IsWhole.readAt_unread]
  refine congrArg x (funext fun a => Fin.ext ?_)
  match a with
  | ⟨0, _⟩ => rfl
  | ⟨1, _⟩ => show o + 1 * r.val = o + r.val; omega
  | ⟨2, _⟩ => show 0 + 1 * k.val = k.val; omega

theorem wnd_apply (i : grid0.Coords) (t : Fin 4) (l : Fin 384) (k : Fin 128) :
    wnd (F := Ideal) c i M (h.unread x) t (ix3 0 l k) = x (ix3 0 ⟨startN (i 2) t + l.val, by have := startN_le (i 2) t; omega⟩ k) :=
  rows_apply M h x _ _ (off1_eq i t) 384 _ l (startN_le (i 2) t) k

theorem tile_apply (n : ℕ) (hn : n < 64) (l k : Fin 128) :
    tile (F := Ideal) c M (h.unread x) (BitVec.ofNat 32 n) (ix3 0 l k) = x (ix3 0 ⟨128 * n + l.val, by omega⟩ k) := by
  unfold tile
  rw [dif_pos (chk_of_lt hn)]
  exact rows_apply M h x _ _ (off2_eq n hn) 128 _ l (by omega) k

end Loads

theorem sufV_eq (c : Dev nD) (M : Memref sig .tc .vmem S768x384 .bf16) (h : M.IsWhole) :
    sufV (F := Ideal) c M (h.unread (k0_pay42 (F := Ideal))) = k0_pay42 (F := Ideal) := by
  funext y
  idx_vars y
  unfold sufV
  rw [Memref.IsWhole.readAt_unread]
  pointwise

theorem cornerU_apply (c : Dev nD) (M : Memref sig .tc .vmem S768x384 .bf16) (h : M.IsWhole) (k l : Fin 128) :
    cornerU (F := Ideal) c M (h.unread (k0_pay42 (F := Ideal))) (ix2 k l) = if l.val ≤ k.val then 1 else 0 := by
  unfold cornerU
  rw [Memref.IsWhole.readAt_unread]
  have e := pay42_apply ⟨k.val, by omega⟩ ⟨l.val, by omega⟩
  dsimp only at e
  rw [Nat.mod_eq_of_lt (by omega)] at e
  rw [← e]
  generalize k0_pay42 (F := Ideal) = s
  pointwise

theorem cornerL_apply (c : Dev nD) (M : Memref sig .tc .vmem S768x384 .bf16) (h : M.IsWhole) (k l : Fin 128) :
    cornerL (F := Ideal) c M (h.unread (k0_pay42 (F := Ideal))) (ix2 k l) = if l.val ≤ k.val then 1 else 0 := by
  unfold cornerL
  rw [Memref.IsWhole.readAt_unread]
  have e := pay42_apply ⟨384 + k.val, by omega⟩ ⟨l.val, by omega⟩
  dsimp only at e
  rw [show (384 + k.val) % 384 = k.val by omega] at e
  rw [← e]
  generalize k0_pay42 (F := Ideal) = s
  pointwise

/-! ## A head's logits -/

theorem headQ_apply (x : FVec Ideal S1x128x128 .bf16) (h : Fin 2) (r k : Fin 128) :
    headQ x h (ix2 r k) = if 64 * h.val ≤ k.val ∧ k.val < 64 * h.val + 64 then x (ix3 0 r k) * ((1 / 8 : ℝ) : EReal) else 0 := by
  have hk := k.isLt
  have key : ∀ (lo hi : ℕ) (y : EReal) (hlo : lo < 2 ^ 20) (hhi : hi < 2 ^ 20),
      Scalar.select (IntOp.andi (IntOp.cmpi .sge (BitVec.ofNat 32 k.val) (BitVec.ofNat 32 lo)) (IntOp.cmpi .slt (BitVec.ofNat 32 k.val) (BitVec.ofNat 32 hi))) y 0
        = if lo ≤ k.val ∧ k.val < hi then y else 0 := fun lo hi y hlo hhi => by
    rw [sge_word _ _ (by omega) hlo, slt_word _ _ (by omega) hhi]
    by_cases h1 : lo ≤ k.val <;> by_cases h2 : k.val < hi <;> simp [h1, h2, IntOp.andi, Scalar.select]
  match h with
  | 0 =>
    show k0_pay44 (F := Ideal) x (ix2 r k) = _
    pointwise [k0_pay44, k0_pay43]
    rw [eighth_bf16]
    exact (key 0 64 _ (by norm_num) (by norm_num)).trans (if_congr (by omega) rfl rfl)
  | 1 =>
    show k0_pay45 (F := Ideal) x (ix2 r k) = _
    pointwise [k0_pay45, k0_pay43]
    rw [eighth_bf16]
    exact (key 64 128 _ (by norm_num) (by norm_num)).trans (if_congr (by omega) rfl rfl)

/-- A sum over 128 lanes of what is zero off one head's. -/
theorem sum_head (h : Fin 2) (f : ℕ → EReal) :
    ∑ k : Fin 128, (if 64 * h.val ≤ k.val ∧ k.val < 64 * h.val + 64 then f k.val else 0) = ∑ k : Fin 64, f (64 * h.val + k.val) := by
  rw [sum_run f (64 * h.val) 64, Fin.sum_univ_eq_sum_range (fun k => if 64 * h.val ≤ k ∧ k < 64 * h.val + 64 then f k else 0) 128,
    ← Finset.sum_filter]
  refine Finset.sum_congr ?_ fun _ _ => rfl
  ext k; have := h.isLt; simp; omega

theorem head_dot (x : FVec Ideal S1x128x128 .bf16) (h : Fin 2) (r : Fin 128) (Y : Fin 128 → EReal) (q y : ℕ → EReal)
    (hq : ∀ k : Fin 128, x (ix3 0 r k) = q k.val) (hy : ∀ k : Fin 128, Y k = y k.val) :
    ∑ k : Fin 128, headQ x h (ix2 r k) * Y k = (∑ k : Fin 64, q (64 * h.val + k.val) * y (64 * h.val + k.val)) * ((1 / 8 : ℝ) : EReal) := by
  rw [← sum_head h (fun k => q k * y k), sum_mul_coe _ _ _ (by norm_num)]
  refine Finset.sum_congr rfl fun k _ => ?_
  rw [headQ_apply, hq, hy]
  split
  · rw [mul_assoc, mul_assoc, mul_comm ((1 / 8 : ℝ) : EReal)]
  · simp

/-! ## The block -/

section Block

variable (c : Dev nD) (i : grid0.Coords)
  (M3 : Memref sig .tc .vmem S1x512x128 .bf16) (h3 : M3.IsWhole) (M4 : Memref sig .tc .vmem S1x8192x128 .bf16) (h4 : M4.IsWhole)
  (M5 : Memref sig .tc .vmem S1x8192x128 .bf16) (h5 : M5.IsWhole) (M8 : Memref sig .tc .vmem S768x384 .bf16) (h8 : M8.IsWhole)
  (x0 : FVec Ideal S1x512x128 .bf16) (x1 x2 : FVec Ideal S1x8192x128 .bf16)
  (Q K : ℕ → ℕ → EReal) (v : ℕ → ℕ → EReal)
  (hx0 : ∀ (r : Fin 512) (k : Fin 128), x0 (ix3 0 r k) = Q r.val k.val)
  (hx1 : ∀ (j : Fin 8192) (k : Fin 128), x1 (ix3 0 j k) = K j.val k.val)
  (hx2 : ∀ (j : Fin 8192) (d : Fin 128), x2 (ix3 0 j d) = v d.val j.val)

include hx0 hx1

theorem logitW_apply (t : Fin 4) (h : Fin 2) (r : Fin 128) (l : Fin 384) :
    logitW (F := Ideal) (probQ (F := Ideal) c M3 (h3.unread x0) t h) (wnd (F := Ideal) c i M4 (h4.unread x1) t) (ix2 r l)
      = zb Q K h.val (128 * t.val + r.val) (startN (i 2) t + l.val) := by
  unfold logitW probQ
  have hw : ∀ k, wnd (F := Ideal) c i M4 (h4.unread x1) t (ix3 0 l k) = _ := fun k => (wnd_apply c M4 h4 x1 i t l k).trans (hx1 _ k)
  have hq : ∀ k, rowsQ (F := Ideal) c M3 (h3.unread x0) t (ix3 0 r k) = _ := fun k => (rowsQ_apply c M3 h3 x0 t r k).trans (hx0 _ k)
  generalize wnd (F := Ideal) c i M4 (h4.unread x1) t = xK at hw
  generalize rowsQ (F := Ideal) c M3 (h3.unread x0) t = x at hq
  have hd := head_dot x h r (fun k => xK (ix3 0 l k)) _ _ hq hw
  generalize headQ x h = y at hd
  pointwise [k0_pay56]
  exact hd

theorem probC_apply (t : Fin 4) (h : Fin 2) (r : Fin 128) :
    probC (F := Ideal) c i M3 M4 M8 (h3.unread x0) (h4.unread x1) (h8.unread (k0_pay42 (F := Ideal))) t h (ix2 r 0)
      = T (zb Q K h.val (128 * t.val + r.val)) (rowN (i 2) t r) (startN (i 2) t) := by
  unfold probC
  rw [sufV_eq]
  exact carry0_apply (i 2) t _ _ (fun r => zb Q K h.val (128 * t.val + r.val)) (logitW_apply c i M3 h3 M4 h4 x0 x1 Q K hx0 hx1 t h) r

/-- The kernel skips the walks only when every carry is minus infinity. -/
theorem goes_bot (hg : goes (F := Ideal) c i M3 M4 M8 (h3.unread x0) (h4.unread x1) (h8.unread (k0_pay42 (F := Ideal))) ≠ 1#1)
    (t : Fin 4) (h : Fin 2) (r : Fin 128) : T (zb Q K h.val (128 * t.val + r.val)) (rowN (i 2) t r) (startN (i 2) t) = ⊥ := by
  have h1 : ∀ a : Fin 16, Scalar.cmpi .sge (Scalar.subi (Scalar.addi (Scalar.muli (BitVec.ofNat 32 a.val) 4#32) 4#32) 1#32) 3#32 = 1#1 := by
    decide +kernel
  rw [← probC_apply c i M3 h3 M4 h4 M8 h8 x0 x1 Q K hx0 hx1 t h r]
  by_contra hr
  refine hg ?_
  unfold goes
  refine (congrArg₂ Scalar.andi (h1 (i 2)) (?_ : _ = 1#1)).trans rfl
  generalize probC (F := Ideal) c i M3 M4 M8 (h3.unread x0) (h4.unread x1) (h8.unread (k0_pay42 (F := Ideal))) = P at hr
  have hk : (Named.named κ "skip" 0xC2C80000#32 : Ideal .f32) = (⊥ : EReal) := rfl
  have hb : (⊥ : EReal) < P t h (ix2 r 0) := bot_lt_iff_ne_bot.mpr hr
  have hp : (⊥ : EReal) < k0_pay123 (k0_pay122 (k0_pay113 (P 0 0) (P 0 1) (P 1 0) (P 1 1) (P 2 0) (P 2 1) (P 3 0) (P 3 1))) := by
    pointwise [k0_pay123, k0_pay122, k0_pay113]
    refine (Finset.lt_fold_max _).mpr (Or.inr ⟨(r, 0), Finset.mem_univ _, ?_⟩)
    simp only [lt_max_iff]
    fin_cases t <;> fin_cases h <;> first | exact (by simp only [hb, true_or, or_true]) | (dsimp at hb; simp only [hb, true_or, or_true])
  rw [hk]
  show BitVec.ofBool (decide ((⊥ : EReal) < _)) = 1#1
  rw [decide_eq_true hp]; rfl

include hx2

theorem probL_apply (t : Fin 4) (h : Fin 2) (r d : Fin 128) :
    probL (F := Ideal) c i M3 M4 M5 M8 (h3.unread x0) (h4.unread x1) (h5.unread x2) (h8.unread (k0_pay42 (F := Ideal))) t h (ix2 r d)
      = outFrom (zb Q K h.val (128 * t.val + r.val)) (rowN (i 2) t r) (v d.val) 0 := by
  have hacc := fun r d => acc0_apply (i 2) t (probQ (F := Ideal) c M3 (h3.unread x0) t h) _ (wnd (F := Ideal) c i M5 (h5.unread x2) t)
    (fun r => zb Q K h.val (128 * t.val + r.val)) (fun d => v d.val)
    (logitW_apply c i M3 h3 M4 h4 x0 x1 Q K hx0 hx1 t h) (fun l d => (wnd_apply c M5 h5 x2 i t l d).trans (hx2 _ d)) r d
  unfold probL
  rw [sufV_eq]
  by_cases hg : goes (F := Ideal) c i M3 M4 M8 (h3.unread x0) (h4.unread x1) (h8.unread (k0_pay42 (F := Ideal))) = 1#1
  rotate_left
  · rw [show left (i 2) t (goes (F := Ideal) c i M3 M4 M8 (h3.unread x0) (h4.unread x1) (h8.unread (k0_pay42 (F := Ideal)))) = 0 from if_neg hg]
    rw [outFrom_bot _ _ _ (by have := startN_le (i 2) t; omega) (goes_bot c i M3 h3 M4 h4 M8 h8 x0 x1 Q K hx0 hx1 hg t h r)]
    exact hacc r d
  rw [hg]
  have hl : left (i 2) t 1#1 = 4 * (i 2).val + t.val - 2 := rfl
  have hi := (i 2).isLt
  have hi' : (i 2).val < 16 := hi
  have ht := t.isLt
  rw [hl]
  refine run_apply c M4 M5 M8 (probQ (F := Ideal) c M3 (h3.unread x0) t h) _ _ _ (rowN (i 2) t) (fun r => zb Q K h.val (128 * t.val + r.val)) (fun d => v d.val)
    (cornerU_apply c M8 h8) (cornerL_apply c M8 h8) (4 * (i 2).val + t.val - 2) (by omega) (fun r => by unfold rowN; omega) (fun n hn r l => ?_) (fun n hn l d => ?_)
    _ le_rfl _ _ (fun r => ?_) (fun r d => ?_) r d
  · unfold probQ
    have hw : ∀ k, tile (F := Ideal) c M4 (h4.unread x1) (BitVec.ofNat 32 n) (ix3 0 l k) = _ := fun k => (tile_apply c M4 h4 x1 n (by omega) l k).trans (hx1 _ k)
    have hq : ∀ k, rowsQ (F := Ideal) c M3 (h3.unread x0) t (ix3 0 r k) = _ := fun k => (rowsQ_apply c M3 h3 x0 t r k).trans (hx0 _ k)
    generalize tile (F := Ideal) c M4 (h4.unread x1) (BitVec.ofNat 32 n) = xK at hw
    generalize rowsQ (F := Ideal) c M3 (h3.unread x0) t = x at hq
    have hd := head_dot x h r (fun k => xK (ix3 0 l k)) _ _ hq hw
    generalize headQ x h = y at hd
    pointwise [k0_pay3]
    exact hd
  · exact (tile_apply c M5 h5 x2 n (by omega) l d).trans (hx2 _ d)
  · exact probC_apply c i M3 h3 M4 h4 M8 h8 x0 x1 Q K hx0 hx1 t h r
  · exact hacc r d

theorem tileOut_apply (t : Fin 4) (r d : Fin 128) :
    tileOut (F := Ideal) c i M3 M4 M5 M8 (h3.unread x0) (h4.unread x1) (h5.unread x2) (h8.unread (k0_pay42 (F := Ideal))) t (ix3 0 r d)
      = outFrom (zb Q K (d.val / 64) (128 * t.val + r.val)) (rowN (i 2) t r) (v d.val) 0 := by
  have hp := fun h => probL_apply c i M3 h3 M4 h4 M5 h5 M8 h8 x0 x1 x2 Q K v hx0 hx1 hx2 t h r d
  unfold tileOut
  generalize probL (F := Ideal) c i M3 M4 M5 M8 (h3.unread x0) (h4.unread x1) (h5.unread x2) (h8.unread (k0_pay42 (F := Ideal))) t = P at hp
  have hd := d.isLt
  pointwise [k0_pay132, k0_pay124]
  rw [sge_word d.val 64 (by omega) (by norm_num), hp, hp]
  by_cases hc : 64 ≤ d.val
  · rw [if_pos hc, sel_one, show d.val / 64 = 1 by omega]; rfl
  · rw [if_neg hc, sel_zero, show d.val / 64 = 0 by omega]; rfl

/-- Each element of the output block is the attention of its row. -/
theorem outBlock_apply (r : Fin 512) (d : Fin 128) :
    outBlock c i M3 h3 M4 h4 M5 h5 M8 h8 x0 x1 x2 (ix3 0 r d)
      = outFrom (zb Q K (d.val / 64) r.val) (512 * (i 2).val + r.val) (v d.val) 0 := by
  let G : S1x512x128.Idx → Elt Ideal .bf16 := fun y => outFrom (zb Q K ((y 2).val / 64) (y 1).val) (512 * (i 2).val + (y 1).val) (v (y 2).val) 0
  have e : ∀ (t : Fin 4) (o : ℕ) (b) (ho : o = 128 * t.val) (x : S1x128x128.Idx),
      tileOut (F := Ideal) c i M3 M4 M5 M8 (h3.unread x0) (h4.unread x1) (h5.unread x2) (h8.unread (k0_pay42 (F := Ideal))) t x
        = G ((Rect.unit (s := S1x512x128) ![0, o, 0] S1x128x128.size b).emb x) := fun t o b ho x => by
    subst ho
    obtain ⟨x', r, d, rfl⟩ : ∃ (x' : Fin 1) (r d : Fin 128), x = ix3 x' r d := ⟨x 0, x 1, x 2, by funext a; fin_cases a <;> rfl⟩
    obtain rfl : x' = 0 := Subsingleton.elim _ _
    refine (tileOut_apply c i M3 h3 M4 h4 M5 h5 M8 h8 x0 x1 x2 Q K v hx0 hx1 hx2 t r d).trans ?_
    have e1 : ((Rect.unit (s := S1x512x128) ![0, 128 * t.val, 0] S1x128x128.size b).emb (ix3 0 r d) 1).val = 128 * t.val + r.val := by
      show 128 * t.val + 1 * r.val = _; omega
    have e2 : ((Rect.unit (s := S1x512x128) ![0, 128 * t.val, 0] S1x128x128.size b).emb (ix3 0 r d) 2).val = d.val := by
      show 0 + 1 * d.val = _; omega
    show _ = outFrom (zb Q K (_ / 64) _) (_ + _) (v _) 0
    rw [e1, e2]
    unfold rowN
    congr 1; omega
  refine View.canon_apply_of_pieces (Val := Elt Ideal) G _ (fun p hp x => ?_) (ix3 0 r d) (outPieces_cover c i M3 M4 M5 M8 _ _ _ _ _)
  unfold outPieces at hp
  simp only [List.mem_cons, List.not_mem_nil, or_false] at hp
  rcases hp with rfl | rfl | rfl | rfl
  · exact e 3 384 inb_S1x512x128_S1x128x128_0_384_0 rfl x
  · exact e 2 256 inb_S1x512x128_S1x128x128_0_256_0 rfl x
  · exact e 1 128 inb_S1x512x128_S1x128x128_0_128_0 rfl x
  · exact e 0 0 inb_S1x512x128_S1x128x128_0_0_0 rfl x

end Block

/-! ## The array -/

variable (m : (ℓ : Loc nD τ sig) → Buf (Elt Ideal) ℓ)

theorem index0 : ∀ t, win0_0.index t = ![((grid0.coords t) 0).val, ((grid0.coords t) 2).val, ((grid0.coords t) 1).val] := by decide +kernel
theorem index1 : ∀ t, win0_1.index t = ![((grid0.coords t) 0).val, 0, 2 + ((grid0.coords t) 1).val] := by decide +kernel
theorem index2 : ∀ t, win0_2.index t = ![((grid0.coords t) 0).val, 0, 4 + ((grid0.coords t) 1).val] := by decide +kernel
theorem index3 : ∀ t, win0_3.index t = ![((grid0.coords t) 0).val, ((grid0.coords t) 2).val, ((grid0.coords t) 1).val] := by decide +kernel

theorem arr_eq (c : Dev nD) :
    (dats (F := Ideal) m 0 c).arrAt 3 (cfg0 (F := Ideal)).N
      = fun y => attn (m ((c.tc : Thread nD τ).loc main_arg0)) (y 0).val (y 1).val (y 2).val := by
  let X : (⟨3, ![4, 8192, 768]⟩ : Shape).Idx → EReal := m ((c.tc : Thread nD τ).loc main_arg0)
  refine (dats (F := Ideal) m 0 c).arrAt_eq_of_covers 3 _ (by decide +kernel) fun t _ y => ?_
  blk_simp
  rw [after0_3]
  unfold out0
  obtain ⟨y0, r, d, rfl⟩ : ∃ (y0 : Fin 1) (r : Fin 512) (d : Fin 128), y = ix3 y0 r d := ⟨y 0, y 1, y 2, by funext a; fin_cases a <;> rfl⟩
  obtain rfl : y0 = 0 := Subsingleton.elim _ _
  have b0 : ((grid0.coords t) 0).val < 4 := ((grid0.coords t) 0).isLt
  have b1 : ((grid0.coords t) 1).val < 2 := ((grid0.coords t) 1).isLt
  have b2 : ((grid0.coords t) 2).val < 16 := ((grid0.coords t) 2).isLt
  have h0 : ∀ (r : Fin 512) (k : Fin 128), iblk m c 0 t (ix3 0 r k)
      = at3 X ((grid0.coords t) 0).val (512 * ((grid0.coords t) 2).val + r.val) (128 * ((grid0.coords t) 1).val + k.val) := by
    intro r k
    blk_simp [iblk]
    refine at3_of _ _ ?_ ?_ ?_
    · blk_simp [index0]; rfl
    · blk_simp [index0]; show _ * 512 + r.val = _; omega
    · blk_simp [index0]; show _ * 128 + k.val = _; omega
  have h1 : ∀ (j : Fin 8192) (k : Fin 128), iblk m c 1 t (ix3 0 j k)
      = at3 X ((grid0.coords t) 0).val j.val (256 + (128 * ((grid0.coords t) 1).val + k.val)) := by
    intro j k
    blk_simp [iblk]
    refine at3_of _ _ ?_ ?_ ?_
    · blk_simp [index1]; rfl
    · blk_simp [index1]
    · blk_simp [index1]; show _ * 128 + k.val = _; omega
  have h2 : ∀ (j : Fin 8192) (d : Fin 128), iblk m c 2 t (ix3 0 j d)
      = at3 X ((grid0.coords t) 0).val j.val (512 + (128 * ((grid0.coords t) 1).val + d.val)) := by
    intro j d
    blk_simp [iblk]
    refine at3_of _ _ ?_ ?_ ?_
    · blk_simp [index2]; rfl
    · blk_simp [index2]
    · blk_simp [index2]; show _ * 128 + d.val = _; omega
  refine (outBlock_apply c (grid0.coords t) _ (hst0 t) _ (hst1 t) _ (hst2 t) sufM hsuf _ _ _
    (fun r k => at3 X ((grid0.coords t) 0).val (512 * ((grid0.coords t) 2).val + r) (128 * ((grid0.coords t) 1).val + k))
    (fun j k => at3 X ((grid0.coords t) 0).val j (256 + (128 * ((grid0.coords t) 1).val + k)))
    (fun d j => at3 X ((grid0.coords t) 0).val j (512 + (128 * ((grid0.coords t) 1).val + d)))
    h0 h1 h2 r d).trans ?_
  have hd := d.isLt
  simp only [index3]
  show _ = attn X ((grid0.coords t) 0).val (((grid0.coords t) 2).val * 512 + r.val) (((grid0.coords t) 1).val * 128 + d.val)
  rw [show ((grid0.coords t) 2).val * 512 + r.val = 512 * ((grid0.coords t) 2).val + r.val by omega,
    show ((grid0.coords t) 1).val * 128 + d.val = 128 * ((grid0.coords t) 1).val + d.val by omega]
  unfold attn
  congr 1
  funext j
  unfold zAt zb
  refine congrArg (· * ((1 / 8 : ℝ) : EReal)) (Finset.sum_congr rfl fun k _ => ?_)
  have e : 64 * ((128 * ((grid0.coords t) 1).val + d.val) / 64) + k.val = 128 * ((grid0.coords t) 1).val + (64 * (d.val / 64) + k.val) := by omega
  rw [e]

/-- The kernel: its result is the attention, its argument unchanged. -/
theorem value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (fun y => attn (m ((c.tc : Thread nD τ).loc main_arg0)) (y 0).val (y 1).val (y 2).val)
      ∧ r.2.mem ((c.tc : Thread nD τ).loc main_arg0) = m ((c.tc : Thread nD τ).loc main_arg0)) :=
  (θ_run defs _ _).mono (fun r h c => ⟨(h c).1.trans (arr_eq m c), (h c).2⟩) (result m ρ)

end Cert.Proof.KI
end
-- ==== Proof.Reference.lean ====
/-
  The reference over the extended reals: each element of its result is the attention of its
  row.
-/
module

public import proofs.«01_k».proof.Proof.Gen.ReferenceIdeal.Run
public import proofs.«01_k».proof.Proof.Target
public import proofs.«01_k».proof.Proof.KI.Pay

@[expose] public section

set_option maxRecDepth 16384

noncomputable section

namespace Cert.Proof.Ref

open Cert.ReferenceIdeal Cert.ReferenceIdeal.Gen
open Idealize.ShloMosaic
open Cert.Proof.Math
open Cert.Proof.KI (slt_word sel_one sel_zero)

/-- Scores: one number for each batch, head, query and key. -/
abbrev Scores := FVec Ideal S4x4x8192x8192 .f32

/-- A block of lanes by heads. -/
def heads (x : FVec Ideal S4x8192x256 .bf16) : FVec Ideal S4x4x8192x64 .f32 :=
  transpose S4x4x8192x64 [0, 2, 1, 3] (shapeCast S4x8192x4x64 (extf .f32 x bitsLt_bf16_f32) shapeCasts_S4x8192x256_S4x8192x4x64)
    transposes_S4x8192x4x64_S4x4x8192x64_0_2_1_3

/-- The logits. -/
def logits (x : FVec Ideal S4x8192x768 .bf16) : Scores :=
  mulf (Host.dotGeneral dot_S4x4x8192x64_S4x4x8192x64_S4x4x8192x8192_3_3_2_2_01_01 none
      (heads (extractStridedSlice S4x8192x256 ![0, 0, 0] x slices_S4x8192x768_S4x8192x256_0_0_0))
      (heads (extractStridedSlice S4x8192x256 ![0, 0, 256] x slices_S4x8192x768_S4x8192x256_0_0_256)))
    (broadcastInDim S4x4x8192x8192 ![] bcast_S_S4x4x8192x8192 (constant S_ .f32 0x3E000000#32))

/-- Zero at every score. -/
def zeros : Scores := broadcastInDim S4x4x8192x8192 ![] bcast_S_S4x4x8192x8192 (constant S_ .f32 0x00000000#32)

/-- Softplus at every score. -/
def softplus (z : Scores) : Scores :=
  select (cmpf .une (subf z zeros) (subf z zeros)) (addf z zeros)
    (addf (maximumf z zeros) (Host.log1p (Host.exp (Host.negf (Host.absf (subf z zeros))))))

/-- Which keys lie before their query. -/
def before : IVec S4x4x8192x8192 1 :=
  broadcastInDim S4x4x8192x8192 ![2, 3] bcast_S8192x8192_S4x4x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The log skip chances. -/
def logSkip (z : Scores) : Scores := select before (Host.negf (softplus (Host.negf (Host.negf z)))) zeros

/-- Their sums from each key on. -/
def sums (s : Scores) : Scores :=
  Host.reduceWindowAdd ![1, 1, 1, 8192] ![1, 1, 1, 1] ![0, 0, 0, 0] ![0, 0, 0, 8191] s (broadcastInDim S_ ![] bcast_S_S_ (constant S_ .f32 0x00000000#32))
    reduceWindows_S4x4x8192x8192_S4x4x8192x8192_w1s1p0_0_w1s1p0_0_w1s1p0_0_w8192s1p0_8191 h_S_

/-- The weights. -/
def weights (z : Scores) : Scores :=
  select before (Host.exp (addf (Host.negf (softplus (Host.negf z))) (subf (sums (logSkip z)) (logSkip z)))) zeros

/-- The result. -/
def result (x : FVec Ideal S4x8192x768 .bf16) : FVec Ideal S4x8192x256 .bf16 :=
  truncf .bf16 (shapeCast S4x8192x256 (transpose S4x8192x4x64 [0, 2, 1, 3]
    (Host.dotGeneral dot_S4x4x8192x8192_S4x4x8192x64_S4x4x8192x64_3_2_2_3_01_01 none (weights (logits x))
      (heads (extractStridedSlice S4x8192x256 ![0, 0, 512] x slices_S4x8192x768_S4x8192x256_0_0_512)))
    transposes_S4x4x8192x64_S4x8192x4x64_0_2_1_3) shapeCasts_S4x8192x4x64_S4x8192x256) bitsLt_bf16_f32

theorem result_eq (m : (ℓ : Loc nD τ sig) → Buf (Elt Ideal) ℓ) (c : Dev nD) :
    Cert.ReferenceIdeal.Value.res_main_v34 (F := Ideal) m c = result (m ((c.tc : Thread nD τ).loc main_arg0)) := by
  unfold Cert.ReferenceIdeal.Value.res_main_v34
  rfl

theorem zero_f32 : Ideal.ofBits .f32 0#32 = 0 := by simp [Ideal.ofBits, Ideal.ieee]

theorem eighth_f32 : Ideal.ofBits .f32 0x3E000000#32 = ((1 / 8 : ℝ) : EReal) := by
  simp [Ideal.ofBits, Ideal.ieee, -EReal.coe_mul]; norm_num

theorem heads_apply (x : FVec Ideal S4x8192x256 .bf16) (b h : Fin 4) (i : Fin 8192) (k : Fin 64) :
    heads x (ix4 b h i k) = x (ix3 b i ⟨64 * h.val + k.val, by omega⟩) := by
  pointwise [heads]
  refine congrArg (fun l => x (ix3 b i l)) (Fin.ext ?_)
  show h.val * 64 + k.val = 64 * h.val + k.val; omega

theorem zeros_apply (j : S4x4x8192x8192.Idx) : zeros j = 0 := by
  idx_vars j
  pointwise [zeros]

theorem softplus_apply (z : Scores) (j : S4x4x8192x8192.Idx) (r : EReal) (h : z j = r) : softplus z j = sp r := by
  have e : softplus z j = Scalar.select (BitVec.ofBool (decide (z j - zeros j ≠ z j - zeros j))) (z j + zeros j)
      (max (z j) (zeros j) + Ideal.log1p (Ideal.exp (-max (z j - zeros j) (-(z j - zeros j))))) := rfl
  rw [e, zeros_apply, h]
  rw [show BitVec.ofBool (decide (r - 0 ≠ r - 0)) = 0#1 by simp, sel_zero]
  exact softplus_reference r

theorem before_apply (b h : Fin 4) (i j : Fin 8192) : before (ix4 b h i j) = if j.val < i.val then 1#1 else 0#1 := by
  pointwise [before]
  exact slt_word _ _ (by omega) (by omega)

section Row

variable (z : Scores) (b h : Fin 4) (i : Fin 8192) (Z : ℕ → EReal) (hz : ∀ j : Fin 8192, z (ix4 b h i j) = Z j.val)
include hz

theorem logSkip_apply (j : Fin 8192) : logSkip z (ix4 b h i j) = sk Z i.val j.val := by
  have e : logSkip z (ix4 b h i j) = Scalar.select (before (ix4 b h i j)) (-softplus (Host.negf (Host.negf z)) (ix4 b h i j)) (zeros (ix4 b h i j)) := rfl
  have hn : Host.negf (Host.negf z) (ix4 b h i j) = Z j.val := by
    show -(-(z (ix4 b h i j))) = _
    rw [hz, neg_neg]
  rw [e, softplus_apply _ _ _ hn, before_apply, zeros_apply]
  unfold sk
  split
  · rw [sel_one]
  · rw [sel_zero]

end Row

/-- A window sum over the last axis, padded high by one less than its width: the sum of the entries from the index on. -/
theorem window_sum (B H R N M : ℕ) (x : (⟨4, ![B, H, R, N]⟩ : Shape).Idx → EReal) (f : ℕ → EReal) (b : Fin B) (h : Fin H) (i : Fin R)
    (hx : ∀ j : Fin N, x (ix4 b h i j) = f j.val)
    (hw : (⟨4, ![B, H, R, N]⟩ : Shape).ReduceWindows (![1, 1, 1, N] : Fin 4 → ℕ) ![1, 1, 1, 1] ![0, 0, 0, 0] ![0, 0, 0, M] ⟨4, ![B, H, R, N]⟩) (j : Fin N) :
    Ideal.hostReduceWindowAdd ![1, 1, 1, N] ![1, 1, 1, 1] ![0, 0, 0, 0] ![0, 0, 0, M] hw x 0 (ix4 b h i j)
      = ∑ l ∈ Finset.Ico j.val N, f l := by
  have hj := j.isLt
  unfold Ideal.hostReduceWindowAdd Host.reduceWindow
  dsimp only
  refine Eq.trans ?_ ((sum_idx_eq_foldl (⟨4, ![1, 1, 1, N]⟩ : Shape) (fun y =>
      if hin : ∀ a : Fin 4, (![0, 0, 0, 0] : Fin 4 → ℕ) a ≤ (ix4 b h i j a).val * (![1, 1, 1, 1] : Fin 4 → ℕ) a + (y a).val
          ∧ (ix4 b h i j a).val * (![1, 1, 1, 1] : Fin 4 → ℕ) a + (y a).val - (![0, 0, 0, 0] : Fin 4 → ℕ) a < (⟨4, ![B, H, R, N]⟩ : Shape).size a
        then x (fun a => ⟨(ix4 b h i j a).val * (![1, 1, 1, 1] : Fin 4 → ℕ) a + (y a).val - (![0, 0, 0, 0] : Fin 4 → ℕ) a, (hin a).2⟩)
        else (0 : EReal))).symm.trans ?_)
  · refine congrArg (fun F => List.foldl F (0 : EReal) (List.finRange (⟨4, ![1, 1, 1, N]⟩ : Shape).numel)) ?_
    funext r n
    exact congrArg (r + ·) (dite_congr rfl (fun _ => rfl) (fun _ => rfl))
  rw [sum_idx4]
  simp only [Finset.univ_unique, Finset.sum_singleton]
  have e : ∀ n : Fin N, (if hin : ∀ a : Fin 4, (![0, 0, 0, 0] : Fin 4 → ℕ) a ≤ (ix4 b h i j a).val * (![1, 1, 1, 1] : Fin 4 → ℕ) a + (ix4 (0 : Fin 1) (0 : Fin 1) (0 : Fin 1) n a).val
          ∧ (ix4 b h i j a).val * (![1, 1, 1, 1] : Fin 4 → ℕ) a + (ix4 (0 : Fin 1) (0 : Fin 1) (0 : Fin 1) n a).val - (![0, 0, 0, 0] : Fin 4 → ℕ) a < (⟨4, ![B, H, R, N]⟩ : Shape).size a
        then x (fun a => ⟨(ix4 b h i j a).val * (![1, 1, 1, 1] : Fin 4 → ℕ) a + (ix4 (0 : Fin 1) (0 : Fin 1) (0 : Fin 1) n a).val - (![0, 0, 0, 0] : Fin 4 → ℕ) a, (hin a).2⟩)
        else (0 : EReal)) = if n.val < N - j.val then f (j.val + n.val) else 0 := fun n => by
    split
    · next hin =>
      have h3 := hin 3
      change 0 ≤ j.val * 1 + n.val ∧ j.val * 1 + n.val - 0 < N at h3
      rw [if_pos (by omega)]
      refine (congrArg x (funext fun a => Fin.ext ?_)).trans (hx ⟨j.val + n.val, by omega⟩)
      match a with
      | ⟨0, _⟩ => show b.val * 1 + 0 - 0 = b.val; omega
      | ⟨1, _⟩ => show h.val * 1 + 0 - 0 = h.val; omega
      | ⟨2, _⟩ => show i.val * 1 + 0 - 0 = i.val; omega
      | ⟨3, _⟩ => show j.val * 1 + n.val - 0 = j.val + n.val; omega
    · next hin =>
      rw [if_neg fun hlt => hin fun a => by
        match a with
        | ⟨0, _⟩ => show 0 ≤ b.val * 1 + 0 ∧ b.val * 1 + 0 - 0 < B; omega
        | ⟨1, _⟩ => show 0 ≤ h.val * 1 + 0 ∧ h.val * 1 + 0 - 0 < H; omega
        | ⟨2, _⟩ => show 0 ≤ i.val * 1 + 0 ∧ i.val * 1 + 0 - 0 < R; omega
        | ⟨3, _⟩ => show 0 ≤ j.val * 1 + n.val ∧ j.val * 1 + n.val - 0 < N; omega]
  refine (Finset.sum_congr rfl fun n _ => e n).trans ?_
  rw [Fin.sum_univ_eq_sum_range (fun n => if n < N - j.val then f (j.val + n) else 0) N, ← Finset.sum_filter,
    show (Finset.range N).filter (fun n => n < N - j.val) = Finset.Ico 0 (N - j.val) by ext k; simp; omega, Finset.sum_Ico_add]
  congr 1
  congr 1 <;> omega

theorem sums_apply (s : Scores) (b h : Fin 4) (i : Fin 8192) (S : ℕ → EReal) (hs : ∀ j : Fin 8192, s (ix4 b h i j) = S j.val) (j : Fin 8192) :
    sums s (ix4 b h i j) = ∑ l ∈ Finset.Ico j.val 8192, S l := by
  have e : sums s (ix4 b h i j) = Ideal.hostReduceWindowAdd ![1, 1, 1, 8192] ![1, 1, 1, 1] ![0, 0, 0, 0] ![0, 0, 0, 8191]
      reduceWindows_S4x4x8192x8192_S4x4x8192x8192_w1s1p0_0_w1s1p0_0_w1s1p0_0_w8192s1p0_8191 s (Ideal.ofBits .f32 0#32) (ix4 b h i j) := by
    unfold sums Host.reduceWindowAdd
    rw [Ideal.hostReduceWindowAdd_def]
    rfl
  rw [e, show Ideal.ofBits .f32 0#32 = 0 from zero_f32]
  exact window_sum 4 4 8192 8192 8191 s S b h i hs _ j

theorem logits_apply (x : FVec Ideal S4x8192x768 .bf16) (b h : Fin 4) (i j : Fin 8192) :
    logits x (ix4 b h i j) = zAt x b.val h.val i.val j.val := by
  have hq : ∀ k : Fin 64, heads (extractStridedSlice S4x8192x256 ![0, 0, 0] x slices_S4x8192x768_S4x8192x256_0_0_0) (ix4 b h i k)
      = at3 x b.val i.val (64 * h.val + k.val) := fun k => by
    rw [heads_apply]
    pointwise
    exact at3_of x _ rfl rfl rfl
  have hk : ∀ k : Fin 64, heads (extractStridedSlice S4x8192x256 ![0, 0, 256] x slices_S4x8192x768_S4x8192x256_0_0_256) (ix4 b h j k)
      = at3 x b.val j.val (256 + (64 * h.val + k.val)) := fun k => by
    rw [heads_apply]
    pointwise
    exact at3_of x _ rfl rfl rfl
  unfold logits
  generalize heads (extractStridedSlice S4x8192x256 ![0, 0, 0] x slices_S4x8192x768_S4x8192x256_0_0_0) = Q at hq
  generalize heads (extractStridedSlice S4x8192x256 ![0, 0, 256] x slices_S4x8192x768_S4x8192x256_0_0_256) = K at hk
  pointwise
  rw [eighth_f32]
  unfold zAt zb
  refine congrArg (· * ((1 / 8 : ℝ) : EReal)) (Finset.sum_congr rfl fun k _ => ?_)
  rw [hq, hk]

theorem weights_apply (z : Scores) (b h : Fin 4) (i : Fin 8192) (Z : ℕ → EReal) (hz : ∀ j : Fin 8192, z (ix4 b h i j) = Z j.val) (j : Fin 8192) :
    weights z (ix4 b h i j) = A Z i.val j.val := by
  have e : weights z (ix4 b h i j) = Scalar.select (before (ix4 b h i j))
      (Ideal.exp (-softplus (Host.negf z) (ix4 b h i j) + (sums (logSkip z) (ix4 b h i j) - logSkip z (ix4 b h i j)))) (zeros (ix4 b h i j)) := rfl
  have hn : Host.negf z (ix4 b h i j) = -Z j.val := by
    show -(z (ix4 b h i j)) = _
    rw [hz]
  rw [e, softplus_apply _ _ _ hn, before_apply, zeros_apply, logSkip_apply z b h i Z hz, sums_apply _ b h i (sk Z i.val) (logSkip_apply z b h i Z hz)]
  by_cases hlt : j.val < i.val
  · rw [if_pos hlt, sel_one]
    exact A_reference Z hlt j.isLt
  · rw [if_neg hlt, sel_zero, A, if_neg hlt]

theorem result_apply (x : FVec Ideal S4x8192x768 .bf16) (b : Fin 4) (i : Fin 8192) (c : Fin 256) :
    result x (ix3 b i c) = attn x b.val i.val c.val := by
  have hw : ∀ (h : Fin 4) (j : Fin 8192), weights (logits x) (ix4 b h i j) = A (zAt x b.val h.val i.val) i.val j.val := fun h j =>
    weights_apply _ b h i (zAt x b.val h.val i.val) (fun j => logits_apply x b h i j) j
  have hv : ∀ (h : Fin 4) (j : Fin 8192) (d : Fin 64), heads (extractStridedSlice S4x8192x256 ![0, 0, 512] x slices_S4x8192x768_S4x8192x256_0_0_512) (ix4 b h j d)
      = at3 x b.val j.val (512 + (64 * h.val + d.val)) := fun h j d => by
    rw [heads_apply]
    pointwise
    exact at3_of x _ rfl rfl rfl
  unfold result attn
  generalize weights (logits x) = W at hw
  generalize heads (extractStridedSlice S4x8192x256 ![0, 0, 512] x slices_S4x8192x768_S4x8192x256_0_0_512) = V at hv
  pointwise
  rw [outFrom_zero]
  refine Finset.sum_congr rfl fun j _ => ?_
  rw [hw, hv]
  dsimp only
  rw [show 64 * (c.val / 64) + c.val % 64 = c.val by omega]

end Cert.Proof.Ref
end
-- ==== Proof.TI.Rows.lean ====
/-
  The layer's tail of one row, over the extended reals: what the kernel's blocks and the reference's arrays are each
  shown to hold.
-/
module

public import Idealize.ShloMosaic.Lib.Pointwise

@[expose] public section

noncomputable section

namespace Cert.Proof.Tail

open Idealize.ShloMosaic

/-- A matrix at natural coordinates, zero outside it. -/
def at2 {A B : ℕ} (x : (⟨2, ![A, B]⟩ : Shape).Idx → EReal) (i j : ℕ) : EReal :=
  if h : i < A ∧ j < B then x (ix2 ⟨i, h.1⟩ ⟨j, h.2⟩) else 0

theorem at2_val {A B : ℕ} (x : (⟨2, ![A, B]⟩ : Shape).Idx → EReal) (i : Fin A) (j : Fin B) : at2 x i.val j.val = x (ix2 i j) :=
  dif_pos ⟨i.isLt, j.isLt⟩

theorem at2_of {A B : ℕ} (x : (⟨2, ![A, B]⟩ : Shape).Idx → EReal) (y : (⟨2, ![A, B]⟩ : Shape).Idx) {i j : ℕ} (h0 : (y 0).val = i)
    (h1 : (y 1).val = j) : x y = at2 x i j := by
  subst h0 h1
  refine Eq.trans (congrArg x ?_) (at2_val x (y 0) (y 1)).symm
  funext a
  fin_cases a <;> rfl

/-- A vector at a natural coordinate, zero outside it. -/
def at1 {A : ℕ} (x : (⟨1, ![A]⟩ : Shape).Idx → EReal) (i : ℕ) : EReal := if h : i < A then x (ix1 ⟨i, h⟩) else 0

theorem at1_val {A : ℕ} (x : (⟨1, ![A]⟩ : Shape).Idx → EReal) (i : Fin A) : at1 x i.val = x (ix1 i) := dif_pos i.isLt

/-- An array of three axes at natural coordinates, zero outside it. -/
def at3 {A B C : ℕ} (x : (⟨3, ![A, B, C]⟩ : Shape).Idx → EReal) (i j k : ℕ) : EReal :=
  if h : (i < A ∧ j < B) ∧ k < C then x (ix3 ⟨i, h.1.1⟩ ⟨j, h.1.2⟩ ⟨k, h.2⟩) else 0

theorem at3_val {A B C : ℕ} (x : (⟨3, ![A, B, C]⟩ : Shape).Idx → EReal) (i : Fin A) (j : Fin B) (k : Fin C) :
    at3 x i.val j.val k.val = x (ix3 i j k) := dif_pos ⟨⟨i.isLt, j.isLt⟩, k.isLt⟩

theorem at3_of {A B C : ℕ} (x : (⟨3, ![A, B, C]⟩ : Shape).Idx → EReal) (y : (⟨3, ![A, B, C]⟩ : Shape).Idx) {i j k : ℕ} (h0 : (y 0).val = i)
    (h1 : (y 1).val = j) (h2 : (y 2).val = k) : x y = at3 x i j k := by
  subst h0 h1 h2
  refine Eq.trans (congrArg x ?_) (at3_val x (y 0) (y 1) (y 2)).symm
  funext a
  fin_cases a <;> rfl

/-- The scale of a residual. -/
def α : EReal := Ideal.ofBits .f32 0x3FB504F3#32
/-- The number of features. -/
def width : EReal := Ideal.ofBits .f32 0x44800000#32
/-- What a layer norm adds to a variance. -/
def ε : EReal := Ideal.ofBits .f32 0x3727C5AC#32
/-- The weight of the feed-forward block. -/
def half : EReal := Ideal.ofBits .f32 0x3F000000#32

/-- The mean of a row. -/
def mean (y : ℕ → EReal) : EReal := Ideal.div (∑ k : Fin 1024, y k.val) width

/-- The variance of a row. -/
def variance (y : ℕ → EReal) : EReal := Ideal.div (∑ k : Fin 1024, (y k.val - mean y) * (y k.val - mean y)) width

/-- The layer norm of a row with gain `g` and bias `b`. -/
def norm (y g b : ℕ → EReal) (j : ℕ) : EReal := (y j - mean y) * Ideal.rsqrt (variance y + ε) * g j + b j

/-- The residual `x` and the mixed outputs `a` of the mixers. -/
def mix (x a : ℕ → EReal) (W : ℕ → ℕ → EReal) (j : ℕ) : EReal := α * x j + ∑ k : Fin 1024, a k.val * W k.val j

/-- The gate of a hidden feature, before its sigmoid. -/
def feature (y : ℕ → EReal) (W : ℕ → ℕ → EReal) (j : ℕ) : EReal := ∑ k : Fin 1024, y k.val * W k.val j

/-- A hidden feature of the feed-forward block. -/
def hidden (y : ℕ → EReal) (W : ℕ → ℕ → EReal) (j : ℕ) : EReal := feature y W j * Ideal.logistic (feature y W j) * feature y W (2816 + j)

/-- The residual `y` and half the feed-forward block's output. -/
def feed (y : ℕ → EReal) (W V : ℕ → ℕ → EReal) (j : ℕ) : EReal := α * y j + half * ∑ k : Fin 2816, hidden y W k.val * V k.val j

/-- The residual `y` and the gated projection of `p`. -/
def gated (y : ℕ → EReal) (W : ℕ → ℕ → EReal) (b p : ℕ → EReal) (P : ℕ → ℕ → EReal) (j : ℕ) : EReal :=
  α * y j + Ideal.logistic (feature y W j + b j) * ∑ k : Fin 256, p k.val * P k.val j

/-- The outputs of the three mixers side by side. -/
def beside (a b c : ℕ → EReal) (k : ℕ) : EReal := if k < 256 then a k else if k < 768 then b (k - 256) else c (k - 768)

/-- The layer's tail of one row. -/
def tail (x a p : ℕ → EReal) (W Win Wout Wg : ℕ → ℕ → EReal) (bg : ℕ → EReal) (Wp g b : ℕ → ℕ → EReal) : ℕ → EReal :=
  norm (gated (norm (feed (norm (mix x a W) (g 1) (b 1)) Win Wout) (g 2) (b 2)) Wg bg p Wp) (g 3) (b 3)

/-- Lane `j` of the layer's tail of token `s` of batch `b`, of whole arrays. -/
def tailAt (x : (⟨3, ![4, 8192, 1024]⟩ : Shape).Idx → EReal) (a1 : (⟨3, ![4, 8192, 256]⟩ : Shape).Idx → EReal)
    (a2 : (⟨3, ![4, 8192, 512]⟩ : Shape).Idx → EReal) (a3 p : (⟨3, ![4, 8192, 256]⟩ : Shape).Idx → EReal)
    (W : (⟨2, ![1024, 1024]⟩ : Shape).Idx → EReal) (Win : (⟨2, ![1024, 5632]⟩ : Shape).Idx → EReal)
    (Wout : (⟨2, ![2816, 1024]⟩ : Shape).Idx → EReal) (Wg : (⟨2, ![1024, 1024]⟩ : Shape).Idx → EReal) (bg : (⟨1, ![1024]⟩ : Shape).Idx → EReal)
    (Wp : (⟨2, ![256, 1024]⟩ : Shape).Idx → EReal) (g b : (⟨2, ![4, 1024]⟩ : Shape).Idx → EReal) (i s : ℕ) : ℕ → EReal :=
  tail (at3 x i s) (beside (at3 a1 i s) (at3 a2 i s) (at3 a3 i s)) (at3 p i s) (at2 W) (at2 Win) (at2 Wout) (at2 Wg) (at1 bg) (at2 Wp) (at2 g) (at2 b)

/-- Lane `j` of the normed feed-forward step of token `s` of batch `b`, of whole arrays. -/
def ffnAt (x : (⟨3, ![4, 8192, 1024]⟩ : Shape).Idx → EReal) (W : (⟨2, ![1024, 5632]⟩ : Shape).Idx → EReal)
    (V : (⟨2, ![2816, 1024]⟩ : Shape).Idx → EReal) (g b : (⟨1, ![1024]⟩ : Shape).Idx → EReal) (i s : ℕ) : ℕ → EReal :=
  norm (feed (at3 x i s) (at2 W) (at2 V)) (at1 g) (at1 b)

/-! ## Sums in slabs -/

theorem sum_slab (f : ℕ → EReal) (A n : ℕ) : ∑ k : Fin (A + n), f k.val = ∑ k : Fin A, f k.val + ∑ k : Fin n, f (A + k.val) := by
  rw [Fin.sum_univ_add]; rfl

/-- The mixers' outputs weighed one after the other. -/
theorem sum_beside (a b c : ℕ → EReal) (W : ℕ → EReal) :
    ∑ k : Fin 1024, beside a b c k.val * W k.val
      = (∑ k : Fin 256, a k.val * W k.val + ∑ k : Fin 512, b k.val * W (256 + k.val)) + ∑ k : Fin 256, c k.val * W (768 + k.val) := by
  rw [sum_slab (fun k => beside a b c k * W k) 768 256, sum_slab (fun k => beside a b c k * W k) 256 512]
  refine congrArg₂ (· + ·) (congrArg₂ (· + ·) ?_ ?_) ?_ <;> refine Finset.sum_congr rfl fun k _ => ?_ <;> have hk := k.isLt <;> unfold beside
  · rw [if_pos hk]
  · rw [if_neg (by omega), if_pos (by omega), Nat.add_sub_cancel_left]
  · rw [if_neg (by omega), if_neg (by omega), Nat.add_sub_cancel_left]

/-- A sum over the hidden features in eleven slabs. -/
theorem sum_eleven (f : ℕ → EReal) :
    ∑ k : Fin 2816, f k.val
      = ∑ k : Fin 256, f (0 + k.val) + ∑ k : Fin 256, f (256 + k.val) + ∑ k : Fin 256, f (512 + k.val) + ∑ k : Fin 256, f (768 + k.val)
        + ∑ k : Fin 256, f (1024 + k.val) + ∑ k : Fin 256, f (1280 + k.val) + ∑ k : Fin 256, f (1536 + k.val) + ∑ k : Fin 256, f (1792 + k.val)
        + ∑ k : Fin 256, f (2048 + k.val) + ∑ k : Fin 256, f (2304 + k.val) + ∑ k : Fin 256, f (2560 + k.val) := by
  rw [sum_slab f 2560 256, sum_slab f 2304 256, sum_slab f 2048 256, sum_slab f 1792 256, sum_slab f 1536 256, sum_slab f 1280 256,
    sum_slab f 1024 256, sum_slab f 768 256, sum_slab f 512 256, sum_slab f 256 256]
  simp only [Nat.zero_add]

end Cert.Proof.Tail
end
-- ==== Proof.TI.Ref.lean ====
/-
  The reference of the layer's tail over the extended reals: each element of its result is the layer's tail of its row.
-/
module

public import proofs.«01_k».proof.Proof.Gen.TailReferenceIdeal.Run
public import proofs.«01_k».proof.Proof.TI.Rows

@[expose] public section

set_option maxRecDepth 16384

noncomputable section

namespace Cert.Proof.TailRef

open Cert.TailReferenceIdeal Cert.TailReferenceIdeal.Gen
open Idealize.ShloMosaic Idealize.ShloMosaic.StableHlo
open Cert.Proof.Tail

/-- An array of rows of features. -/
abbrev Acts := FVec Ideal S4x8192x1024 .f32

/-- The rows' means. -/
def meanV (y : Acts) : FVec Ideal S4x8192x1 .f32 :=
  Host.divf (broadcastInDim S4x8192x1 ![0, 1] bcast_S4x8192_S4x8192x1_0_1 (Host.reduceAdd y (constant S_ .f32 0x00000000#32) reducesTo_S4x8192x1024_S4x8192_d2 h_S_))
    (broadcastInDim S4x8192x1 ![] bcast_S_S4x8192x1 (constant S_ .f32 0x44800000#32))

/-- The rows less their means. -/
def centred (y : Acts) : Acts := subf y (broadcastInDim S4x8192x1024 ![0, 1, 2] bcast_S4x8192x1_S4x8192x1024_0_1_2 (meanV y))

/-- A row of gains or biases, for every token. -/
def spread (g : FVec Ideal S1x1024 .f32) : Acts :=
  broadcastInDim S4x8192x1024 ![0, 1, 2] bcast_S1x1x1024_S4x8192x1024_0_1_2
    (broadcastInDim S1x1x1024 ![2] bcast_S1024_S1x1x1024_2 (shapeCast _ g shapeCasts_S1x1024_S1024))

/-- The layer norm of every row, of the gains and biases of every token. -/
def normS (y g b : Acts) : Acts :=
  addf (mulf (mulf (centred y) (broadcastInDim S4x8192x1024 ![0, 1, 2] bcast_S4x8192x1_S4x8192x1024_0_1_2
      (Host.rsqrt (addf (meanV (mulf (centred y) (centred y))) (broadcastInDim S4x8192x1 ![] bcast_S_S4x8192x1 (constant S_ .f32 0x3727C5AC#32))))))
    g) b

/-- The layer norm of every row. -/
def normA (y : Acts) (g b : FVec Ideal S1x1024 .f32) : Acts := normS y (spread g) (spread b)

/-- The residual and the mixed outputs of the mixers. -/
def mixA (x : Acts) (a1 : FVec Ideal S4x8192x256 .bf16) (a2 : FVec Ideal S4x8192x512 .bf16) (a3 : FVec Ideal S4x8192x256 .bf16) (W : FVec Ideal S1024x1024 .f32) : Acts :=
  addf (mulf (broadcastInDim S4x8192x1024 ![] bcast_S_S4x8192x1024 (constant S_ .f32 0x3FB504F3#32)) x)
    (Host.dotGeneral dot_S4x8192x1024_S1024x1024_S4x8192x1024_2_0_01_1_n_n none
      (concatenate S4x8192x1024 2 [⟨S4x8192x256, extf .f32 a1 bitsLt_bf16_f32⟩, ⟨S4x8192x512, extf .f32 a2 bitsLt_bf16_f32⟩,
        ⟨S4x8192x256, extf .f32 a3 bitsLt_bf16_f32⟩] concatenates_S4x8192x256_S4x8192x512_S4x8192x256_S4x8192x1024_d2) W)

/-- The features before the gate, both halves. -/
def featA (y : Acts) (W : FVec Ideal S1024x5632 .f32) : FVec Ideal S4x8192x5632 .f32 :=
  Host.dotGeneral dot_S4x8192x1024_S1024x5632_S4x8192x5632_2_0_01_1_n_n none y W

/-- The residual and half the feed-forward block's output, from the features. -/
def feedA (y : Acts) (f : FVec Ideal S4x8192x5632 .f32) (V : FVec Ideal S2816x1024 .f32) : Acts :=
  addf (mulf (broadcastInDim S4x8192x1024 ![] bcast_S_S4x8192x1024 (constant S_ .f32 0x3FB504F3#32)) y)
    (mulf (broadcastInDim S4x8192x1024 ![] bcast_S_S4x8192x1024 (constant S_ .f32 0x3F000000#32))
      (Host.dotGeneral dot_S4x8192x2816_S2816x1024_S4x8192x1024_2_0_01_1_n_n none
        (mulf (mulf (extractStridedSlice S4x8192x2816 ![0, 0, 0] f slices_S4x8192x5632_S4x8192x2816_0_0_0)
            (Host.divf (broadcastInDim S4x8192x2816 ![] bcast_S_S4x8192x2816 (constant S_ .f32 0x3F800000#32))
              (addf (broadcastInDim S4x8192x2816 ![] bcast_S_S4x8192x2816 (constant S_ .f32 0x3F800000#32))
                (Host.exp (Host.negf (extractStridedSlice S4x8192x2816 ![0, 0, 0] f slices_S4x8192x5632_S4x8192x2816_0_0_0))))))
          (extractStridedSlice S4x8192x2816 ![0, 0, 2816] f slices_S4x8192x5632_S4x8192x2816_0_0_2816)) V))

/-- The residual and the gated projection of the second input. -/
def gateA (y : Acts) (W : FVec Ideal S1024x1024 .f32) (b : FVec Ideal S1024 .f32) (p : FVec Ideal S4x8192x256 .f32) (P : FVec Ideal S256x1024 .f32) : Acts :=
  addf (mulf (broadcastInDim S4x8192x1024 ![] bcast_S_S4x8192x1024 (constant S_ .f32 0x3FB504F3#32)) y)
    (mulf (Host.divf (broadcastInDim S4x8192x1024 ![] bcast_S_S4x8192x1024 (constant S_ .f32 0x3F800000#32))
        (addf (broadcastInDim S4x8192x1024 ![] bcast_S_S4x8192x1024 (constant S_ .f32 0x3F800000#32))
          (Host.exp (Host.negf (addf (Host.dotGeneral dot_S4x8192x1024_S1024x1024_S4x8192x1024_2_0_01_1_n_n none y W)
            (broadcastInDim S4x8192x1024 ![0, 1, 2] bcast_S1x1x1024_S4x8192x1024_0_1_2 (broadcastInDim S1x1x1024 ![2] bcast_S1024_S1x1x1024_2 b)))))))
      (Host.dotGeneral dot_S4x8192x256_S256x1024_S4x8192x1024_2_0_01_1_n_n none p P))

theorem one_f32 : Ideal.ofBits .f32 0x3F800000#32 = 1 := by
  simp [Ideal.ofBits, Ideal.ieee, -EReal.coe_mul]; norm_num

section Row

variable (i : Fin 4) (s : Fin 8192) (Y : ℕ → EReal)

theorem meanV_apply (y : Acts) (hy : ∀ k, y (ix3 i s k) = Y k.val) : meanV y (ix3 i s 0) = mean Y := by
  pointwise [meanV]
  simp only [hy]
  rfl

theorem centred_apply (y : Acts) (hy : ∀ k, y (ix3 i s k) = Y k.val) (j : Fin 1024) : centred y (ix3 i s j) = Y j.val - mean Y := by
  have hm := meanV_apply i s Y y hy
  unfold centred
  generalize meanV y = M at hm
  pointwise
  rw [hy, hm]

theorem spread_apply (g : FVec Ideal S1x1024 .f32) (j : Fin 1024) : spread g (ix3 i s j) = g (ix2 0 j) := by
  pointwise [spread]

theorem normS_apply (y : Acts) (hy : ∀ k, y (ix3 i s k) = Y k.val) (g b : Acts) (G B : ℕ → EReal)
    (hg : ∀ k : Fin 1024, g (ix3 i s k) = G k.val) (hb : ∀ k : Fin 1024, b (ix3 i s k) = B k.val) (j : Fin 1024) :
    normS y g b (ix3 i s j) = norm Y G B j.val := by
  have hc := centred_apply i s Y y hy
  have hv := meanV_apply i s (fun k => (Y k - mean Y) * (Y k - mean Y)) (mulf (centred y) (centred y)) (fun k => by
    show centred y (ix3 i s k) * centred y (ix3 i s k) = _
    rw [hc])
  unfold normS
  generalize meanV (mulf (centred y) (centred y)) = M at hv
  generalize centred y = C at hc
  pointwise
  rw [hc, hv, hg, hb]
  rfl

theorem normA_apply (y : Acts) (hy : ∀ k, y (ix3 i s k) = Y k.val) (g b : FVec Ideal S1x1024 .f32) (G B : ℕ → EReal)
    (hg : ∀ k : Fin 1024, g (ix2 0 k) = G k.val) (hb : ∀ k : Fin 1024, b (ix2 0 k) = B k.val) (j : Fin 1024) :
    normA y g b (ix3 i s j) = norm Y G B j.val :=
  normS_apply i s Y y hy _ _ G B (fun k => (spread_apply i s g k).trans (hg k)) (fun k => (spread_apply i s b k).trans (hb k)) j

theorem row_apply (x : FVec Ideal S4x1024 .f32) (n : ℕ) (h) (k : Fin 1024) :
    extractStridedSlice S1x1024 ![n, 0] x h (ix2 0 k) = at2 x n k.val := by
  refine at2_of x _ ?_ ?_
  · show n + 0 = n; rfl
  · show 0 + k.val = k.val; omega

theorem mixA_apply (x : Acts) (a1 : FVec Ideal S4x8192x256 .bf16) (a2 : FVec Ideal S4x8192x512 .bf16) (a3 : FVec Ideal S4x8192x256 .bf16)
    (W : FVec Ideal S1024x1024 .f32) (j : Fin 1024) :
    mixA x a1 a2 a3 W (ix3 i s j) = mix (at3 x i.val s.val) (beside (at3 a1 i.val s.val) (at3 a2 i.val s.val) (at3 a3 i.val s.val)) (at2 W) j.val := by
  pointwise [mixA]
  unfold mix
  refine congrArg₂ (· + ·) (congrArg₂ (· * ·) rfl (at3_val x i s j).symm) (Finset.sum_congr rfl fun k _ => ?_)
  refine congrArg₂ (· * ·) ?_ (at2_val W k j).symm
  have hk := k.isLt
  unfold beside
  by_cases h1 : k.val < 256
  · rw [dif_pos h1, if_pos h1]
    exact (at3_val a1 i s ⟨k.val, h1⟩).symm
  · rw [dif_neg h1, if_neg h1]
    by_cases h2 : k.val < 768
    · rw [dif_pos (show k.val - 256 < 512 by omega), if_pos h2]
      exact (at3_val a2 i s ⟨k.val - 256, by omega⟩).symm
    · rw [dif_neg (show ¬k.val - 256 < 512 by omega), if_neg h2, show k.val - 768 = k.val - 256 - 512 by omega]
      exact (at3_val a3 i s ⟨k.val - 256 - 512, by omega⟩).symm

theorem featA_apply (y : Acts) (hy : ∀ k, y (ix3 i s k) = Y k.val) (W : FVec Ideal S1024x5632 .f32) (j : Fin 5632) :
    featA y W (ix3 i s j) = feature Y (at2 W) j.val := by
  pointwise [featA]
  refine Finset.sum_congr rfl fun k _ => ?_
  rw [hy, at2_val]

theorem feedA_apply (y : Acts) (hy : ∀ k, y (ix3 i s k) = Y k.val) (W : FVec Ideal S1024x5632 .f32) (V : FVec Ideal S2816x1024 .f32) (j : Fin 1024) :
    feedA y (featA y W) V (ix3 i s j) = feed Y (at2 W) (at2 V) j.val := by
  have hf := featA_apply i s Y y hy W
  generalize featA y W = f at hf
  pointwise [feedA]
  simp only [hf, hy, one_f32, ← at2_val V]
  rfl

theorem gateA_apply (y : Acts) (hy : ∀ k, y (ix3 i s k) = Y k.val) (W : FVec Ideal S1024x1024 .f32) (b : FVec Ideal S1024 .f32)
    (p : FVec Ideal S4x8192x256 .f32) (P : FVec Ideal S256x1024 .f32) (j : Fin 1024) :
    gateA y W b p P (ix3 i s j) = gated Y (at2 W) (at1 b) (at3 p i.val s.val) (at2 P) j.val := by
  pointwise [gateA]
  simp only [hy, one_f32, ← at2_val W, ← at2_val P, ← at1_val b, ← at3_val p]
  rfl

end Row

section Result

variable (x0 : Acts) (x1 : FVec Ideal S4x8192x256 .bf16) (x2 : FVec Ideal S4x8192x512 .bf16) (x3 : FVec Ideal S4x8192x256 .bf16)
  (x4 : FVec Ideal S4x8192x256 .f32) (x5 : FVec Ideal S1024x1024 .f32) (x6 : FVec Ideal S1024x5632 .f32) (x7 : FVec Ideal S2816x1024 .f32)
  (x8 : FVec Ideal S1024x1024 .f32) (x9 : FVec Ideal S1024 .f32) (x10 : FVec Ideal S256x1024 .f32) (x11 x12 : FVec Ideal S4x1024 .f32)

/-- The rows after the first layer norm. -/
def firstA : Acts :=
  normA (mixA x0 x1 x2 x3 x5) (extractStridedSlice S1x1024 ![1, 0] x11 slices_S4x1024_S1x1024_1_0) (extractStridedSlice S1x1024 ![1, 0] x12 slices_S4x1024_S1x1024_1_0)

/-- The rows after the second, from those after the first. -/
def secondA (y : Acts) : Acts :=
  normA (feedA y (featA y x6) x7) (extractStridedSlice S1x1024 ![2, 0] x11 slices_S4x1024_S1x1024_2_0) (extractStridedSlice S1x1024 ![2, 0] x12 slices_S4x1024_S1x1024_2_0)

/-- The rows after the last, from those after the second. -/
def thirdA (y : Acts) : Acts :=
  normA (gateA y x8 x9 x4 x10) (extractStridedSlice S1x1024 ![3, 0] x11 slices_S4x1024_S1x1024_3_0) (extractStridedSlice S1x1024 ![3, 0] x12 slices_S4x1024_S1x1024_3_0)

/-- The result before its rows are flattened. -/
def resultA : Acts := thirdA x4 x8 x9 x10 x11 x12 (secondA x6 x7 x11 x12 (firstA x0 x1 x2 x3 x5 x11 x12))

theorem resultA_apply (i : Fin 4) (s : Fin 8192) (j : Fin 1024) :
    resultA x0 x1 x2 x3 x4 x5 x6 x7 x8 x9 x10 x11 x12 (ix3 i s j) = tailAt x0 x1 x2 x3 x4 x5 x6 x7 x8 x9 x10 x11 x12 i.val s.val j.val := by
  unfold resultA thirdA
  refine normA_apply i s _ _ (fun k => gateA_apply i s _ _ (fun k => ?_) x8 x9 x4 x10 k) _ _ _ _ (row_apply x11 3 _) (row_apply x12 3 _) j
  unfold secondA
  refine normA_apply i s _ _ (fun k => feedA_apply i s _ _ (fun k => ?_) x6 x7 k) _ _ _ _ (row_apply x11 2 _) (row_apply x12 2 _) k
  exact normA_apply i s _ _ (fun k => mixA_apply i s x0 x1 x2 x3 x5 k) _ _ _ _ (row_apply x11 1 _) (row_apply x12 1 _) k

theorem flatten_apply (x : Acts) (h : S4x8192x1024.ShapeCasts S32768x1024) (n : Fin 32768) (j : Fin 1024) :
    shapeCast S32768x1024 x h (ix2 n j) = x (ix3 ⟨n.val / 8192, by omega⟩ ⟨n.val % 8192, by omega⟩ j) := by
  pointwise

end Result

section Run

variable (V0 : Valuation τ sig (Elt Ideal))

theorem first_eq : Value.res_main_v35 (F := Ideal) V0
    = firstA (V0 (Proc.devRef .tc main_arg0)) (V0 (Proc.devRef .tc main_arg1)) (V0 (Proc.devRef .tc main_arg2)) (V0 (Proc.devRef .tc main_arg3))
      (V0 (Proc.devRef .tc main_arg5)) (V0 (Proc.devRef .tc main_arg11)) (V0 (Proc.devRef .tc main_arg12)) := by
  unfold Value.res_main_v35 Value.res_main_v17 Value.res_main_v15 Value.res_main_v7
  rfl

theorem second_eq : Value.res_main_v74 (F := Ideal) V0
    = secondA (V0 (Proc.devRef .tc main_arg6)) (V0 (Proc.devRef .tc main_arg7)) (V0 (Proc.devRef .tc main_arg11)) (V0 (Proc.devRef .tc main_arg12))
      (Value.res_main_v35 (F := Ideal) V0) := by
  unfold Value.res_main_v74 Value.res_main_v56 Value.res_main_v54 Value.res_main_v46 Value.res_main_v37 Value.res_main_v36
  generalize Value.res_main_v35 (F := Ideal) V0 = y
  rfl

end Run

/-- The layer's tail of the arguments: row `n` is token `n % 8192` of batch `n / 8192`. -/
def target (m : (ℓ : Loc nD τ sig) → Buf (Elt Ideal) ℓ) (c : Dev nD) : (⟨2, ![32768, 1024]⟩ : Shape).Idx → EReal := fun y =>
  tailAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) ((y 0).val / 8192) ((y 0).val % 8192) (y 1).val

variable (m : (ℓ : Loc nD τ sig) → Buf (Elt Ideal) ℓ)

/-- The reference: its result is the layer's tail of its arguments, which are unchanged. -/
theorem value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v118) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨(h c).1.trans ?_, (h c).2⟩) (Value.run (F := Ideal) m ρ)
  have e : Value.res_main_v89 (F := Ideal) (launchContents m c) = gateA (Value.res_main_v74 (F := Ideal) (launchContents m c)) (m ((c.tc : Thread nD τ).loc main_arg8))
      (m ((c.tc : Thread nD τ).loc main_arg9)) (m ((c.tc : Thread nD τ).loc main_arg4)) (m ((c.tc : Thread nD τ).loc main_arg10)) := by
    unfold Value.res_main_v89
    rfl
  unfold Value.res_main_v99 Value.res_main_v97
  rw [e, second_eq, first_eq]
  funext y
  obtain ⟨n, j, rfl⟩ : ∃ (n : Fin 32768) (j : Fin 1024), y = ix2 n j := ⟨y 0, y 1, by funext a; fin_cases a <;> rfl⟩
  refine (flatten_apply _ _ n j).trans ?_
  exact resultA_apply _ _ _ _ _ _ _ _ _ _ _ _ _ ⟨n.val / 8192, by omega⟩ ⟨n.val % 8192, by omega⟩ j

end Cert.Proof.TailRef
end
-- ==== Proof.FI.Ref.lean ====
/-
  The reference of the first feed-forward block over the extended reals: each element of its result is the block of its
  row.
-/
module

public import proofs.«01_k».proof.Proof.Gen.FfnReferenceIdeal.Run
public import proofs.«01_k».proof.Proof.TI.Ref

@[expose] public section

set_option maxRecDepth 16384

noncomputable section

namespace Cert.Proof.FfnRef

open Cert.FfnReferenceIdeal Cert.FfnReferenceIdeal.Gen
open Idealize.ShloMosaic Idealize.ShloMosaic.StableHlo
open Cert.Proof.Tail Cert.Proof.TailRef

/-- A row of gains or biases, for every token. -/
def spread (g : FVec Ideal S1024 .f32) : Acts :=
  broadcastInDim S4x8192x1024 ![0, 1, 2] bcast_S1x1x1024_S4x8192x1024_0_1_2 (broadcastInDim S1x1x1024 ![2] bcast_S1024_S1x1x1024_2 g)

theorem spread_apply (g : FVec Ideal S1024 .f32) (i : Fin 4) (s : Fin 8192) (j : Fin 1024) : spread g (ix3 i s j) = at1 g j.val := by
  pointwise [spread]
  exact (at1_val g j).symm

/-- The result before its rows are flattened. -/
def resultA (x : Acts) (w : FVec Ideal S1024x5632 .f32) (v : FVec Ideal S2816x1024 .f32) (g b : FVec Ideal S1024 .f32) : Acts :=
  normS (feedA x (featA x w) v) (spread g) (spread b)

theorem resultA_apply (x : Acts) (w : FVec Ideal S1024x5632 .f32) (v : FVec Ideal S2816x1024 .f32) (g b : FVec Ideal S1024 .f32)
    (i : Fin 4) (s : Fin 8192) (j : Fin 1024) : resultA x w v g b (ix3 i s j) = ffnAt x w v g b i.val s.val j.val := by
  unfold resultA
  exact normS_apply i s _ _ (fun k => feedA_apply i s _ _ (fun k => (at3_val x i s k).symm) w v k) _ _ _ _
    (fun k => spread_apply g i s k) (fun k => spread_apply b i s k) j

variable (m : (ℓ : Loc nD τ sig) → Buf (Elt Ideal) ℓ)

/-- The feed-forward block of the arguments: row `n` is token `n % 8192` of batch `n / 8192`. -/
def target (c : Dev nD) : (⟨2, ![32768, 1024]⟩ : Shape).Idx → EReal := fun y =>
  ffnAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) ((y 0).val / 8192) ((y 0).val % 8192) (y 1).val

theorem result_eq (c : Dev nD) : Value.res_main_v35 (F := Ideal) m c
    = shapeCast S32768x1024 (resultA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) shapeCasts_S4x8192x1024_S32768x1024 := by
  unfold Value.res_main_v35
  rfl

/-- The reference: its result is the feed-forward block of its arguments, which are unchanged. -/
theorem value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨(h c).1.trans ?_, (h c).2⟩) (Value.run (F := Ideal) m ρ)
  rw [result_eq]
  funext y
  obtain ⟨n, j, rfl⟩ : ∃ (n : Fin 32768) (j : Fin 1024), y = ix2 n j := ⟨y 0, y 1, by funext a; fin_cases a <;> rfl⟩
  refine (flatten_apply _ _ n j).trans ?_
  exact resultA_apply _ _ _ _ _ ⟨n.val / 8192, by omega⟩ ⟨n.val % 8192, by omega⟩ j

end Cert.Proof.FfnRef
end
-- ==== Proof.TI.Block.lean ====
/-
  What one grid point of the layer's tail writes, as one expression over its blocks: three layer norms, the gated
  feed-forward block as a sum of eleven slabs of its hidden features, and the gate of the second input.
-/
module

public import proofs.«01_k».proof.Proof.Gen.TailIdeal.Value
public import Idealize.ShloMosaic.Lib.Pointwise

@[expose] public section

set_option maxRecDepth 16384

noncomputable section

namespace Cert.Proof.TI

open Cert.TailIdeal Cert.TailIdeal.Gen
open Idealize.ShloMosaic Idealize.ShloMosaic.Tactic

/-- A load of the whole buffer after a store of the whole buffer reads what was stored. -/
theorem readCov_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zero2 : (![0, 0] : Fin 2 → ℕ) = fun _ => 0 := by
  funext a; fin_cases a <;> rfl

variable {F : FTy → Type} [FloatOps F]

/-- A block's rows, normalised, with a gain and a bias. -/
def normV (y : FVec F S512x1024 .f32) (g b : FVec F S1x1024 .f32) : FVec F S512x1024 .f32 :=
  have mu : FVec F S512x1 .f32 := divf (shapeCast S512x1 (multiReduction .add [1] S512 y 0x00000000#32 reduces_S512x1024_S512 (.inl rfl) rfl) shapeCasts_S512_S512x1)
    (broadcast S512x1 (Scalar.ofBits .f32 0x44800000#32))
  have d : FVec F S512x1024 .f32 := subf y (broadcastTo S512x1024 mu broadcasts_S512x1_S512x1024)
  have var : FVec F S512x1 .f32 := divf (shapeCast S512x1 (multiReduction .add [1] S512 (mulf d d) 0x00000000#32 reduces_S512x1024_S512 (.inl rfl) rfl) shapeCasts_S512_S512x1)
    (broadcast S512x1 (Scalar.ofBits .f32 0x44800000#32))
  addf (mulf (mulf d (broadcastTo S512x1024 (rsqrt (addf var (broadcast S512x1 (Scalar.ofBits .f32 0x3727C5AC#32)))) broadcasts_S512x1_S512x1024))
    (broadcastTo S512x1024 g broadcasts_S1x1024_S512x1024)) (broadcastTo S512x1024 b broadcasts_S1x1024_S512x1024)

/-- A slab of the hidden features of the feed-forward block. -/
def hidV (x : FVec F S512x1024 .bf16) (G U : FVec F S1024x256 .bf16) : FVec F S512x256 .bf16 :=
  have g : FVec F S512x256 .f32 := matmul dot_S512x1024_S1024x256_S512x256_1_0_0_1_n_n none x G (constant S512x256 .f32 0x00000000#32)
  truncf .bf16 (mulf (mulf g (logistic g)) (matmul dot_S512x1024_S1024x256_S512x256_1_0_0_1_n_n none x U (constant S512x256 .f32 0x00000000#32))) bitsLt_bf16_f32

/-- A slab's share of the feed-forward block's output. -/
def slabV (x : FVec F S512x1024 .bf16) (G U : FVec F S1024x256 .bf16) (O : FVec F S256x1024 .bf16) : FVec F S512x1024 .f32 :=
  matmul dot_S512x256_S256x1024_S512x1024_1_0_0_1_n_n none (hidV x G U) O (constant S512x1024 .f32 0x00000000#32)

/-- The residual and the mixed outputs of the three mixers. -/
def mixV (a1 : FVec F S512x256 .bf16) (w1 : FVec F S256x1024 .bf16) (a2 : FVec F S512x512 .bf16) (w2 : FVec F S512x1024 .bf16)
    (a3 : FVec F S512x256 .bf16) (w3 : FVec F S256x1024 .bf16) (x : FVec F S512x1024 .f32) : FVec F S512x1024 .f32 :=
  addf (mulf (broadcast S512x1024 (Scalar.ofBits .f32 0x3FB504F3#32)) x)
    (addf (addf (matmul dot_S512x256_S256x1024_S512x1024_1_0_0_1_n_n none a1 w1 (constant S512x1024 .f32 0x00000000#32))
      (matmul dot_S512x512_S512x1024_S512x1024_1_0_0_1_n_n none a2 w2 (constant S512x1024 .f32 0x00000000#32)))
      (matmul dot_S512x256_S256x1024_S512x1024_1_0_0_1_n_n none a3 w3 (constant S512x1024 .f32 0x00000000#32)))

/-- The residual and half the feed-forward block's output. -/
def ffnV (x acc : FVec F S512x1024 .f32) : FVec F S512x1024 .f32 :=
  addf (mulf (broadcast S512x1024 (Scalar.ofBits .f32 0x3FB504F3#32)) x) (mulf (broadcast S512x1024 (Scalar.ofBits .f32 0x3F000000#32)) acc)

/-- The residual and the gated projection of the second input. -/
def gateV (x : FVec F S512x1024 .f32) (wg : FVec F S1024x1024 .bf16) (bg : FVec F S1x1024 .f32) (p : FVec F S512x256 .f32) (wp : FVec F S256x1024 .bf16) : FVec F S512x1024 .f32 :=
  addf (mulf (broadcast S512x1024 (Scalar.ofBits .f32 0x3FB504F3#32)) x)
    (mulf (logistic (addf (matmul dot_S512x1024_S1024x1024_S512x1024_1_0_0_1_n_n none (truncf .bf16 x bitsLt_bf16_f32) wg (constant S512x1024 .f32 0x00000000#32))
        (broadcastTo S512x1024 bg broadcasts_S1x1024_S512x1024)))
      (matmul dot_S512x256_S256x1024_S512x1024_1_0_0_1_n_n none (truncf .bf16 p bitsLt_bf16_f32) wp (constant S512x1024 .f32 0x00000000#32)))

section Payloads

variable (a1 : FVec F S512x256 .bf16) (w1 : FVec F S256x1024 .bf16) (a2 : FVec F S512x512 .bf16) (w2 : FVec F S512x1024 .bf16)
    (a3 : FVec F S512x256 .bf16) (w3 : FVec F S256x1024 .bf16) (x : FVec F S512x1024 .f32) (g b : FVec F S1x1024 .f32)

theorem pay4_eq : k0_pay4 g b (k0_pay2 a1 w1 a2 w2 a3 w3 x) (k0_pay3 a1 w1 a2 w2 a3 w3 x) (FloatOps.ofBits .f32 0x44800000#32)
    = normV (mixV a1 w1 a2 w2 a3 w3 x) g b := by
  unfold k0_pay4 k0_pay3 k0_pay2
  simp only [shapeCast_self]
  rfl

variable (v29 : FVec F S512x1024 .f32) (v32 : FVec F S512x1 .f32) (c20 : F .f32)
  (X : FVec F S512x1024 .bf16) (G U : FVec F S1024x256 .bf16) (O : FVec F S256x1024 .bf16) (acc : FVec F S512x1024 .f32)

theorem pay6_eq : k0_pay6 g b v29 v32 c20 = truncf .bf16 (k0_pay4 g b v29 v32 c20) bitsLt_bf16_f32 := rfl

theorem pay7_eq : k0_pay7 g b v29 v32 c20 G U O = slabV (k0_pay6 g b v29 v32 c20) G U O := by
  unfold k0_pay7; simp only [shapeCast_self]; rfl

theorem pay9_eq : k0_pay9 (k0_pay8 g b v29 v32 c20 G U) O acc = addf acc (slabV (k0_pay6 g b v29 v32 c20) G U O) := by
  unfold k0_pay9 k0_pay8; simp only [shapeCast_self]; rfl

theorem pay10_eq : k0_pay10 X G U O acc = addf acc (slabV X G U O) := by
  unfold k0_pay10; simp only [shapeCast_self]; rfl

theorem pay13_eq : k0_pay13 (k0_pay11 X G) (k0_pay12 X U) O acc = addf acc (slabV X G U O) := by
  unfold k0_pay13 k0_pay11 k0_pay12; simp only [shapeCast_self]; rfl

theorem pay14_eq : k0_pay14 X G U O acc = addf acc (slabV X G U O) := by
  unfold k0_pay14; simp only [shapeCast_self]; rfl

theorem pay16_eq : k0_pay16 X (k0_pay15 X G) U O acc = addf acc (slabV X G U O) := by
  unfold k0_pay16 k0_pay15; simp only [shapeCast_self]; rfl

theorem pay17_eq : k0_pay17 X G U O acc = addf acc (slabV X G U O) := by
  unfold k0_pay17; simp only [shapeCast_self]; rfl

theorem pay19_eq : k0_pay19 X (k0_pay18 G) U O acc = addf acc (slabV X G U O) := by
  unfold k0_pay19 k0_pay18; simp only [shapeCast_self]; rfl

theorem pay20_eq : k0_pay20 X G U O acc = addf acc (slabV X G U O) := by
  unfold k0_pay20; simp only [shapeCast_self]; rfl

theorem pay21_eq : k0_pay21 X G U O acc = addf acc (slabV X G U O) := by
  unfold k0_pay21; simp only [shapeCast_self]; rfl

theorem pay23_eq : k0_pay23 (k0_pay22 X G U O acc) = addf acc (slabV X G U O) := by
  unfold k0_pay23 k0_pay22; simp only [shapeCast_self]; rfl

theorem pay24_eq (g' b' : FVec F S1x1024 .f32) : k0_pay24 (k0_pay5 g b v29 v32 c20) acc g' b' = normV (ffnV (k0_pay4 g b v29 v32 c20) acc) g' b' := by
  unfold k0_pay24 k0_pay5; simp only [shapeCast_self]; rfl

theorem pay1_eq (v45 : FVec F S512x1024 .f32) (wg : FVec F S1024x1024 .bf16) (bg : FVec F S1x1024 .f32) (p : FVec F S512x256 .f32)
    (wp : FVec F S256x1024 .bf16) (g' b' : FVec F S1x1024 .f32) :
    k0_pay1 (k0_pay24 v45 acc g b) (k0_pay25 v45 acc g b wg bg) (k0_pay26 p) wp g' b' = normV (gateV (k0_pay24 v45 acc g b) wg bg p wp) g' b' := by
  unfold k0_pay1 k0_pay25 k0_pay26; simp only [shapeCast_self]; rfl

end Payloads

/-- A rectangle of an array at constant offsets. -/
def sub2 {A B : ℕ} {f : FTy} (x : FVec F ⟨2, ![A, B]⟩ f) (C D o o' : ℕ)
    (h : ∀ a, (![o, o'] : Fin 2 → ℕ) a + (⟨2, ![C, D]⟩ : Shape).size a ≤ (⟨2, ![A, B]⟩ : Shape).size a) : FVec F ⟨2, ![C, D]⟩ f :=
  fun y => x ((Rect.unit (s := ⟨2, ![A, B]⟩) ![o, o'] (⟨2, ![C, D]⟩ : Shape).size h).emb y)

section Block

variable (x0 : FVec F S512x1024 .f32) (x1 : FVec F S512x256 .bf16) (x2 : FVec F S512x512 .bf16) (x3 : FVec F S512x256 .bf16) (x4 : FVec F S512x256 .f32)
  (x5 : FVec F S1024x1024 .bf16) (x6 : FVec F S1024x5632 .bf16) (x7 : FVec F S2816x1024 .bf16) (x8 : FVec F S1024x1024 .bf16) (x9 : FVec F S1x1024 .f32)
  (x10 : FVec F S256x1024 .bf16) (x11 x12 : FVec F S4x1024 .f32)

/-- The rows after the first layer norm. -/
def first : FVec F S512x1024 .f32 :=
  normV (mixV x1 (sub2 x5 256 1024 0 0 inb_S1024x1024_S256x1024_0_0) x2 (sub2 x5 512 1024 256 0 inb_S1024x1024_S512x1024_256_0)
      x3 (sub2 x5 256 1024 768 0 inb_S1024x1024_S256x1024_768_0) x0)
    (sub2 x11 1 1024 1 0 inb_S4x1024_S1x1024_1_0) (sub2 x12 1 1024 1 0 inb_S4x1024_S1x1024_1_0)

/-- One slab of the feed-forward block, of the weights' slabs. -/
def slab (X : FVec F S512x1024 .bf16) (o : ℕ) (hG : ∀ a, (![0, o] : Fin 2 → ℕ) a + S1024x256.size a ≤ S1024x5632.size a)
    (hU : ∀ a, (![0, 2816 + o] : Fin 2 → ℕ) a + S1024x256.size a ≤ S1024x5632.size a)
    (hO : ∀ a, (![o, 0] : Fin 2 → ℕ) a + S256x1024.size a ≤ S2816x1024.size a) : FVec F S512x1024 .f32 :=
  slabV X (sub2 x6 1024 256 0 o hG) (sub2 x6 1024 256 0 (2816 + o) hU) (sub2 x7 256 1024 o 0 hO)

/-- The feed-forward block's output. -/
def ffn (X : FVec F S512x1024 .bf16) : FVec F S512x1024 .f32 :=
  addf (addf (addf (addf (addf (addf (addf (addf (addf (addf
    (slab x6 x7 X 0 inb_S1024x5632_S1024x256_0_0 inb_S1024x5632_S1024x256_0_2816 inb_S2816x1024_S256x1024_0_0)
    (slab x6 x7 X 256 inb_S1024x5632_S1024x256_0_256 inb_S1024x5632_S1024x256_0_3072 inb_S2816x1024_S256x1024_256_0))
    (slab x6 x7 X 512 inb_S1024x5632_S1024x256_0_512 inb_S1024x5632_S1024x256_0_3328 inb_S2816x1024_S256x1024_512_0))
    (slab x6 x7 X 768 inb_S1024x5632_S1024x256_0_768 inb_S1024x5632_S1024x256_0_3584 inb_S2816x1024_S256x1024_768_0))
    (slab x6 x7 X 1024 inb_S1024x5632_S1024x256_0_1024 inb_S1024x5632_S1024x256_0_3840 inb_S2816x1024_S256x1024_1024_0))
    (slab x6 x7 X 1280 inb_S1024x5632_S1024x256_0_1280 inb_S1024x5632_S1024x256_0_4096 inb_S2816x1024_S256x1024_1280_0))
    (slab x6 x7 X 1536 inb_S1024x5632_S1024x256_0_1536 inb_S1024x5632_S1024x256_0_4352 inb_S2816x1024_S256x1024_1536_0))
    (slab x6 x7 X 1792 inb_S1024x5632_S1024x256_0_1792 inb_S1024x5632_S1024x256_0_4608 inb_S2816x1024_S256x1024_1792_0))
    (slab x6 x7 X 2048 inb_S1024x5632_S1024x256_0_2048 inb_S1024x5632_S1024x256_0_4864 inb_S2816x1024_S256x1024_2048_0))
    (slab x6 x7 X 2304 inb_S1024x5632_S1024x256_0_2304 inb_S1024x5632_S1024x256_0_5120 inb_S2816x1024_S256x1024_2304_0))
    (slab x6 x7 X 2560 inb_S1024x5632_S1024x256_0_2560 inb_S1024x5632_S1024x256_0_5376 inb_S2816x1024_S256x1024_2560_0)

/-- The rows after the second layer norm, from those after the first. -/
def second (y : FVec F S512x1024 .f32) : FVec F S512x1024 .f32 :=
  normV (ffnV y (ffn x6 x7 (truncf .bf16 y bitsLt_bf16_f32)))
    (sub2 x11 1 1024 2 0 inb_S4x1024_S1x1024_2_0) (sub2 x12 1 1024 2 0 inb_S4x1024_S1x1024_2_0)

/-- The rows after the last layer norm, from those after the second. -/
def third (y : FVec F S512x1024 .f32) : FVec F S512x1024 .f32 :=
  normV (gateV y x8 x9 x4 x10) (sub2 x11 1 1024 3 0 inb_S4x1024_S1x1024_3_0) (sub2 x12 1 1024 3 0 inb_S4x1024_S1x1024_3_0)

/-- The block a grid point writes. -/
def block : FVec F S512x1024 .f32 :=
  third x4 x8 x9 x10 x11 x12 (second x6 x7 x11 x12 (first x0 x1 x2 x3 x5 x11 x12))

end Block

variable (m : (ℓ : Loc nD τ sig) → Buf (Elt F) ℓ)

theorem out_eq (c : Dev nD) (t : Fin cfg0.N) : outsAt0 m c t
    = block (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) := by
  unfold outsAt0 out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [↓readCov_whole scM0_0.view zero2, View.readAt_eq_ld, Memref.IsWhole.read_unread]
  refine (View.canon_unit_zero (S := S512x1024) zero2 inb_S512x1024_S512x1024_0_0 _).trans ?_
  simp only [View.ld_unit_zero (S := S512x1024) zero2, View.ld_unit_zero (S := S512x256) zero2, View.ld_unit_zero (S := S512x512) zero2,
    View.ld_unit_zero (S := S1024x1024) zero2, View.ld_unit_zero (S := S1x1024) zero2, View.ld_unit_zero (S := S256x1024) zero2,
    ↓pay1_eq, pay24_eq, pay23_eq, pay21_eq, pay20_eq, pay19_eq, pay17_eq, pay16_eq, pay14_eq, pay13_eq, pay10_eq, pay9_eq, pay7_eq, pay6_eq, pay4_eq]
  rfl

end Cert.Proof.TI
end
-- ==== Proof.FI.Block.lean ====
/-
  What one grid point of the first feed-forward block writes: the layer norm of the residual and half the sum of the
  eleven slabs, in the words of the tail's block.
-/
module

public import proofs.«01_k».proof.Proof.Gen.FfnIdeal.Value
public import proofs.«01_k».proof.Proof.TI.Block

@[expose] public section

set_option maxRecDepth 16384

noncomputable section

namespace Cert.Proof.FI

open Cert.FfnIdeal Cert.FfnIdeal.Gen
open Idealize.ShloMosaic Idealize.ShloMosaic.Tactic

variable {F : FTy → Type} [FloatOps F]

section Payloads

variable (x acc : FVec F S512x1024 .f32) (g b : FVec F S1x1024 .f32)
  (X : FVec F S512x1024 .bf16) (G U : FVec F S1024x256 .bf16) (O : FVec F S256x1024 .bf16)

theorem pay1_eq : k0_pay1 (k0_pay3 x) acc g b = TI.normV (TI.ffnV x acc) g b := by
  unfold k0_pay1 k0_pay3 k0_pay2; simp only [shapeCast_self]; rfl

theorem pay4_eq : k0_pay4 x = truncf .bf16 x bitsLt_bf16_f32 := by
  unfold k0_pay4 k0_pay2; simp only [shapeCast_self]

theorem pay5_eq : k0_pay5 x G U O = TI.slabV (k0_pay4 x) G U O := by
  unfold k0_pay5; simp only [shapeCast_self]; rfl

theorem pay7_eq : k0_pay7 (k0_pay6 x G U O) acc = addf acc (TI.slabV (k0_pay4 x) G U O) := by
  unfold k0_pay7 k0_pay6; simp only [shapeCast_self]; rfl

theorem pay8_eq : k0_pay8 X G U O acc = addf acc (TI.slabV X G U O) := by
  unfold k0_pay8; simp only [shapeCast_self]; rfl

theorem pay10_eq : k0_pay10 (k0_pay9 X G U) O acc = addf acc (TI.slabV X G U O) := by
  unfold k0_pay10 k0_pay9; simp only [shapeCast_self]; rfl

theorem pay11_eq : k0_pay11 X G U O acc = addf acc (TI.slabV X G U O) := by
  unfold k0_pay11; simp only [shapeCast_self]; rfl

theorem pay13_eq : k0_pay13 (k0_pay12 X G U) O acc = addf acc (TI.slabV X G U O) := by
  unfold k0_pay13 k0_pay12; simp only [shapeCast_self]; rfl

theorem pay14_eq : k0_pay14 X G U O acc = addf acc (TI.slabV X G U O) := by
  unfold k0_pay14; simp only [shapeCast_self]; rfl

theorem pay17_eq : k0_pay17 X (k0_pay15 X G) (k0_pay16 U) (constant S512x256 .f32 0x00000000#32) O acc = addf acc (TI.slabV X G U O) := by
  unfold k0_pay17 k0_pay15 k0_pay16; simp only [shapeCast_self]; rfl

theorem pay18_eq : k0_pay18 X G U O acc = addf acc (TI.slabV X G U O) := by
  unfold k0_pay18; simp only [shapeCast_self]; rfl

theorem pay20_eq : k0_pay20 X (k0_pay19 X G) U O acc = addf acc (TI.slabV X G U O) := by
  unfold k0_pay20 k0_pay19; simp only [shapeCast_self]; rfl

theorem pay21_eq : k0_pay21 X G U O acc = addf acc (TI.slabV X G U O) := by
  unfold k0_pay21; simp only [shapeCast_self]; rfl

end Payloads

/-- The block a grid point writes. -/
def block (x : FVec F S512x1024 .f32) (w : FVec F S1024x5632 .bf16) (v : FVec F S2816x1024 .bf16) (g b : FVec F S1x1024 .f32) : FVec F S512x1024 .f32 :=
  TI.normV (TI.ffnV x (TI.ffn w v (truncf .bf16 x bitsLt_bf16_f32))) g b

variable (m : (ℓ : Loc nD τ sig) → Buf (Elt F) ℓ)

theorem out_eq (c : Dev nD) (t : Fin cfg0.N) :
    outsAt0 m c t = block (iblk m c 0 t) (iblk m c 1 t) (iblk m c 2 t) (iblk m c 3 t) (iblk m c 4 t) := by
  unfold outsAt0 out0_A_5
  rw [View.read_writes_eq_canon _ _ _ (cover0_A_5 c _ _ _ _ _ _ _ _ _ _ _ _ _ _ _ _ _ _ _ _)]
  unfold kernelRun0_A
  dsimp only
  sl_unfold_words
  simp only [↓TI.readCov_whole scM0_0.view TI.zero2, View.readAt_eq_ld, Memref.IsWhole.read_unread]
  refine (View.canon_unit_zero (S := S512x1024) TI.zero2 inb_S512x1024_S512x1024_0_0 _).trans ?_
  simp only [View.ld_unit_zero (S := S512x1024) TI.zero2, View.ld_unit_zero (S := S1x1024) TI.zero2,
    ↓pay1_eq, pay21_eq, pay20_eq, pay18_eq, pay17_eq, pay14_eq, pay13_eq, pay11_eq, pay10_eq, pay8_eq, pay7_eq, pay5_eq, pay4_eq]
  rfl

end Cert.Proof.FI
end
-- ==== Proof.TI.Pay.lean ====
/-
  The block of a grid point over the extended reals: each of its rows is the layer's tail of that row of the operands.
-/
module

public import proofs.«01_k».proof.Proof.TI.Block
public import proofs.«01_k».proof.Proof.TI.Rows

@[expose] public section

set_option maxRecDepth 16384

noncomputable section

namespace Cert.Proof.TI

open Cert.TailIdeal Cert.TailIdeal.Gen
open Idealize.ShloMosaic
open Cert.Proof.Tail

theorem sub2_apply {A B : ℕ} {f : FTy} (x : FVec Ideal ⟨2, ![A, B]⟩ f) (C D o o' : ℕ) (h) (X : ℕ → ℕ → EReal)
    (hX : ∀ (i : Fin A) (j : Fin B), x (ix2 i j) = X i.val j.val) (i : Fin C) (j : Fin D) :
    sub2 x C D o o' h (ix2 i j) = X (o + i.val) (o' + j.val) := by
  have h0 : o + C ≤ A := h 0
  have h1 : o' + D ≤ B := h 1
  have e := hX ⟨o + i.val, by omega⟩ ⟨o' + j.val, by omega⟩
  refine Eq.trans ?_ e
  refine congrArg x (funext fun a => Fin.ext ?_)
  match a with
  | ⟨0, _⟩ => show o + 1 * i.val = o + i.val; omega
  | ⟨1, _⟩ => show o' + 1 * j.val = o' + j.val; omega

theorem normV_apply (y : FVec Ideal S512x1024 .f32) (g b : FVec Ideal S1x1024 .f32) (Y : ℕ → EReal) (G B : ℕ → EReal) (r : Fin 512)
    (hy : ∀ k : Fin 1024, y (ix2 r k) = Y k.val) (hg : ∀ k : Fin 1024, g (ix2 0 k) = G k.val) (hb : ∀ k : Fin 1024, b (ix2 0 k) = B k.val)
    (j : Fin 1024) : normV (F := Ideal) y g b (ix2 r j) = norm Y G B j.val := by
  pointwise [normV]
  simp only [hy, hg, hb]
  rfl

theorem mixV_apply (a1 : FVec Ideal S512x256 .bf16) (w1 : FVec Ideal S256x1024 .bf16) (a2 : FVec Ideal S512x512 .bf16) (w2 : FVec Ideal S512x1024 .bf16)
    (a3 : FVec Ideal S512x256 .bf16) (w3 : FVec Ideal S256x1024 .bf16) (x : FVec Ideal S512x1024 .f32) (r : Fin 512)
    (A1 A2 A3 X : ℕ → EReal) (W : ℕ → ℕ → EReal)
    (h1 : ∀ k, a1 (ix2 r k) = A1 k.val) (h2 : ∀ k, a2 (ix2 r k) = A2 k.val) (h3 : ∀ k, a3 (ix2 r k) = A3 k.val)
    (hw1 : ∀ k j, w1 (ix2 k j) = W (0 + k.val) (0 + j.val)) (hw2 : ∀ k j, w2 (ix2 k j) = W (256 + k.val) (0 + j.val)) (hw3 : ∀ k j, w3 (ix2 k j) = W (768 + k.val) (0 + j.val))
    (hx : ∀ k, x (ix2 r k) = X k.val) (j : Fin 1024) :
    mixV (F := Ideal) a1 w1 a2 w2 a3 w3 x (ix2 r j) = mix X (beside A1 A2 A3) W j.val := by
  unfold mix
  rw [sum_beside A1 A2 A3 (fun k => W k j.val)]
  pointwise [mixV]
  simp only [h1, h2, h3, hw1, hw2, hw3, hx, Nat.zero_add]
  rfl

theorem slabV_apply (x : FVec Ideal S512x1024 .bf16) (G U : FVec Ideal S1024x256 .bf16) (O : FVec Ideal S256x1024 .bf16) (r : Fin 512) (o : ℕ)
    (Y : ℕ → EReal) (W V : ℕ → ℕ → EReal) (hx : ∀ k, x (ix2 r k) = Y k.val) (hG : ∀ k j, G (ix2 k j) = W (0 + k.val) (o + j.val))
    (hU : ∀ k j, U (ix2 k j) = W (0 + k.val) (2816 + o + j.val)) (hO : ∀ k j, O (ix2 k j) = V (o + k.val) (0 + j.val)) (j : Fin 1024) :
    slabV (F := Ideal) x G U O (ix2 r j) = ∑ k : Fin 256, hidden Y W (o + k.val) * V (o + k.val) j.val := by
  pointwise [slabV, hidV]
  simp only [hx, hG, hU, hO, Nat.zero_add, Nat.add_assoc]
  rfl

theorem gateV_apply (x : FVec Ideal S512x1024 .f32) (wg : FVec Ideal S1024x1024 .bf16) (bg : FVec Ideal S1x1024 .f32) (p : FVec Ideal S512x256 .f32)
    (wp : FVec Ideal S256x1024 .bf16) (r : Fin 512) (Y : ℕ → EReal) (W : ℕ → ℕ → EReal) (B P : ℕ → EReal) (V : ℕ → ℕ → EReal)
    (hx : ∀ k, x (ix2 r k) = Y k.val) (hwg : ∀ k j, wg (ix2 k j) = W k.val j.val) (hbg : ∀ k, bg (ix2 0 k) = B k.val)
    (hp : ∀ k, p (ix2 r k) = P k.val) (hwp : ∀ k j, wp (ix2 k j) = V k.val j.val) (j : Fin 1024) :
    gateV (F := Ideal) x wg bg p wp (ix2 r j) = gated Y W B P V j.val := by
  pointwise [gateV]
  simp only [hx, hwg, hbg, hp, hwp]
  rfl

section Block

variable (x0 : FVec Ideal S512x1024 .f32) (x1 : FVec Ideal S512x256 .bf16) (x2 : FVec Ideal S512x512 .bf16) (x3 : FVec Ideal S512x256 .bf16)
  (x4 : FVec Ideal S512x256 .f32) (x5 : FVec Ideal S1024x1024 .bf16) (x6 : FVec Ideal S1024x5632 .bf16) (x7 : FVec Ideal S2816x1024 .bf16)
  (x8 : FVec Ideal S1024x1024 .bf16) (x9 : FVec Ideal S1x1024 .f32) (x10 : FVec Ideal S256x1024 .bf16) (x11 x12 : FVec Ideal S4x1024 .f32)
  (r : Fin 512) (X A1 A2 A3 P : ℕ → EReal) (W Win Wout Wg : ℕ → ℕ → EReal) (Bg : ℕ → EReal) (Wp G B : ℕ → ℕ → EReal)
  (h0 : ∀ k, x0 (ix2 r k) = X k.val) (h1 : ∀ k, x1 (ix2 r k) = A1 k.val) (h2 : ∀ k, x2 (ix2 r k) = A2 k.val) (h3 : ∀ k, x3 (ix2 r k) = A3 k.val)
  (h4 : ∀ k, x4 (ix2 r k) = P k.val) (h5 : ∀ k j, x5 (ix2 k j) = W k.val j.val) (h6 : ∀ k j, x6 (ix2 k j) = Win k.val j.val)
  (h7 : ∀ k j, x7 (ix2 k j) = Wout k.val j.val) (h8 : ∀ k j, x8 (ix2 k j) = Wg k.val j.val) (h9 : ∀ k, x9 (ix2 0 k) = Bg k.val)
  (h10 : ∀ k j, x10 (ix2 k j) = Wp k.val j.val) (h11 : ∀ k j, x11 (ix2 k j) = G k.val j.val) (h12 : ∀ k j, x12 (ix2 k j) = B k.val j.val)

/-- Row `n` of the gains or biases. -/
theorem row_apply (x : FVec Ideal S4x1024 .f32) (Y : ℕ → ℕ → EReal) (h : ∀ k j, x (ix2 k j) = Y k.val j.val) (n : ℕ) (hn) (k : Fin 1024) :
    sub2 (F := Ideal) x 1 1024 n 0 hn (ix2 0 k) = Y n k.val := by
  have e := sub2_apply x 1 1024 n 0 hn Y h 0 k
  simpa only [Fin.val_zero, Nat.add_zero, Nat.zero_add] using e

include h0 h1 h2 h3 h5 h11 h12 in
theorem first_apply (j : Fin 1024) : first (F := Ideal) x0 x1 x2 x3 x5 x11 x12 (ix2 r j) = norm (mix X (beside A1 A2 A3) W) (G 1) (B 1) j.val := by
  unfold first
  refine normV_apply _ _ _ _ _ _ r (fun k => ?_) (row_apply x11 G h11 1 _) (row_apply x12 B h12 1 _) j
  exact mixV_apply _ _ _ _ _ _ _ r A1 A2 A3 X W h1 h2 h3 (sub2_apply x5 _ _ _ _ _ W h5) (sub2_apply x5 _ _ _ _ _ W h5) (sub2_apply x5 _ _ _ _ _ W h5) h0 k

section Ffn

variable (y : FVec Ideal S512x1024 .bf16) (Y : ℕ → EReal) (hy : ∀ k, y (ix2 r k) = Y k.val)
include h6 h7 hy

theorem slab_apply (o : ℕ) (hG hU hO) (j : Fin 1024) :
    slab (F := Ideal) x6 x7 y o hG hU hO (ix2 r j) = ∑ k : Fin 256, hidden Y Win (o + k.val) * Wout (o + k.val) j.val :=
  slabV_apply _ _ _ _ r o Y Win Wout hy (sub2_apply x6 _ _ _ _ _ Win h6) (sub2_apply x6 _ _ _ _ _ Win h6) (sub2_apply x7 _ _ _ _ _ Wout h7) j

theorem ffn_apply (j : Fin 1024) : ffn (F := Ideal) x6 x7 y (ix2 r j) = ∑ k : Fin 2816, hidden Y Win k.val * Wout k.val j.val := by
  rw [sum_eleven (fun k => hidden Y Win k * Wout k j.val)]
  unfold ffn
  simp only [addf_apply, Ideal.addf_def, slab_apply x6 x7 r Win Wout h6 h7 y Y hy]

end Ffn

include h6 h7 in
theorem ffnV_apply (y : FVec Ideal S512x1024 .f32) (Y : ℕ → EReal) (hy : ∀ k, y (ix2 r k) = Y k.val) (j : Fin 1024) :
    ffnV (F := Ideal) y (ffn x6 x7 (truncf .bf16 y bitsLt_bf16_f32)) (ix2 r j) = feed Y Win Wout j.val := by
  have hf := ffn_apply x6 x7 r Win Wout h6 h7 (truncf .bf16 y bitsLt_bf16_f32) Y hy j
  generalize ffn (F := Ideal) x6 x7 (truncf .bf16 y bitsLt_bf16_f32) = z at hf
  pointwise [ffnV]
  rw [hf, hy]
  rfl

include h6 h7 h11 h12 in
theorem second_apply (y : FVec Ideal S512x1024 .f32) (Y : ℕ → EReal) (hy : ∀ k, y (ix2 r k) = Y k.val) (j : Fin 1024) :
    second (F := Ideal) x6 x7 x11 x12 y (ix2 r j) = norm (feed Y Win Wout) (G 2) (B 2) j.val := by
  unfold second
  exact normV_apply _ _ _ _ _ _ r (ffnV_apply x6 x7 r Win Wout h6 h7 y Y hy) (row_apply x11 G h11 2 _) (row_apply x12 B h12 2 _) j

include h4 h8 h9 h10 h11 h12 in
theorem third_apply (y : FVec Ideal S512x1024 .f32) (Y : ℕ → EReal) (hy : ∀ k, y (ix2 r k) = Y k.val) (j : Fin 1024) :
    third (F := Ideal) x4 x8 x9 x10 x11 x12 y (ix2 r j) = norm (gated Y Wg Bg P Wp) (G 3) (B 3) j.val := by
  unfold third
  refine normV_apply _ _ _ _ _ _ r (fun k => ?_) (row_apply x11 G h11 3 _) (row_apply x12 B h12 3 _) j
  exact gateV_apply _ _ _ _ _ r Y Wg Bg P Wp hy h8 h9 h4 h10 k

include h0 h1 h2 h3 h4 h5 h6 h7 h8 h9 h10 h11 h12 in
/-- Each row of the block is the layer's tail of that row. -/
theorem block_apply (j : Fin 1024) : block (F := Ideal) x0 x1 x2 x3 x4 x5 x6 x7 x8 x9 x10 x11 x12 (ix2 r j)
    = tail X (beside A1 A2 A3) P W Win Wout Wg Bg Wp G B j.val :=
  third_apply x4 x8 x9 x10 x11 x12 r P Wg Bg Wp G B h4 h8 h9 h10 h11 h12 _ _
    (second_apply x6 x7 x11 x12 r Win Wout G B h6 h7 h11 h12 _ _
      (first_apply x0 x1 x2 x3 x5 x11 x12 r X A1 A2 A3 W G B h0 h1 h2 h3 h5 h11 h12)) j

end Block

end Cert.Proof.TI
end
-- ==== Proof.TI.Value.lean ====
/-
  The kernel of the layer's tail over the extended reals: its result is, row by row, the layer's tail of its arguments.
-/
module

public import proofs.«01_k».proof.Proof.TI.Pay
public import Idealize.ShloMosaic.Lib.Pipeline.ValueKit.Geometry

@[expose] public section

set_option maxRecDepth 16384

noncomputable section

namespace Cert.Proof.TI

open Cert.TailIdeal Cert.TailIdeal.Gen
open Idealize.ShloMosaic
open Cert.Proof.Tail

/-! ## Flattened arrays -/

theorem flat1024 (x : (⟨3, ![4, 8192, 1024]⟩ : Shape).Idx → EReal) (h : (⟨3, ![4, 8192, 1024]⟩ : Shape).ShapeCasts ⟨2, ![32768, 1024]⟩)
    (y : (⟨2, ![32768, 1024]⟩ : Shape).Idx) {n k : ℕ} (h0 : (y 0).val = n) (h1 : (y 1).val = k) :
    shapeCast (⟨2, ![32768, 1024]⟩ : Shape) x h y = at3 x (n / 8192) (n % 8192) k := by
  obtain ⟨i, j, rfl⟩ : ∃ (i : Fin 32768) (j : Fin 1024), y = ix2 i j := ⟨y 0, y 1, by funext a; fin_cases a <;> rfl⟩
  subst h0 h1
  pointwise
  exact at3_of x _ rfl rfl rfl

theorem flat512 (x : (⟨3, ![4, 8192, 512]⟩ : Shape).Idx → EReal) (h : (⟨3, ![4, 8192, 512]⟩ : Shape).ShapeCasts ⟨2, ![32768, 512]⟩)
    (y : (⟨2, ![32768, 512]⟩ : Shape).Idx) {n k : ℕ} (h0 : (y 0).val = n) (h1 : (y 1).val = k) :
    shapeCast (⟨2, ![32768, 512]⟩ : Shape) x h y = at3 x (n / 8192) (n % 8192) k := by
  obtain ⟨i, j, rfl⟩ : ∃ (i : Fin 32768) (j : Fin 512), y = ix2 i j := ⟨y 0, y 1, by funext a; fin_cases a <;> rfl⟩
  subst h0 h1
  pointwise
  exact at3_of x _ rfl rfl rfl

theorem flat256 (x : (⟨3, ![4, 8192, 256]⟩ : Shape).Idx → EReal) (h : (⟨3, ![4, 8192, 256]⟩ : Shape).ShapeCasts ⟨2, ![32768, 256]⟩)
    (y : (⟨2, ![32768, 256]⟩ : Shape).Idx) {n k : ℕ} (h0 : (y 0).val = n) (h1 : (y 1).val = k) :
    shapeCast (⟨2, ![32768, 256]⟩ : Shape) x h y = at3 x (n / 8192) (n % 8192) k := by
  obtain ⟨i, j, rfl⟩ : ∃ (i : Fin 32768) (j : Fin 256), y = ix2 i j := ⟨y 0, y 1, by funext a; fin_cases a <;> rfl⟩
  subst h0 h1
  pointwise
  exact at3_of x _ rfl rfl rfl

variable (m : (ℓ : Loc nD τ sig) → Buf (Elt Ideal) ℓ)

/-! ## What the host operations leave for the region -/

theorem V_v0 (c : Dev nD) : V (F := Ideal) m c main_v0 = shapeCast S32768x1024 (m ((c.tc : Thread nD τ).loc main_arg0)) shapeCasts_S4x8192x1024_S32768x1024 := by
  show StableHlo.after hostOps0 (fun b => m (c, b)) (Proc.devRef .tc main_v0) = _
  after_results
  rfl

theorem V_v1 (c : Dev nD) : V (F := Ideal) m c main_v1 = shapeCast S32768x256 (m ((c.tc : Thread nD τ).loc main_arg1)) shapeCasts_S4x8192x256_S32768x256 := by
  show StableHlo.after hostOps0 (fun b => m (c, b)) (Proc.devRef .tc main_v1) = _
  after_results
  rfl

theorem V_v2 (c : Dev nD) : V (F := Ideal) m c main_v2 = shapeCast S32768x512 (m ((c.tc : Thread nD τ).loc main_arg2)) shapeCasts_S4x8192x512_S32768x512 := by
  show StableHlo.after hostOps0 (fun b => m (c, b)) (Proc.devRef .tc main_v2) = _
  after_results
  rfl

theorem V_v3 (c : Dev nD) : V (F := Ideal) m c main_v3 = shapeCast S32768x256 (m ((c.tc : Thread nD τ).loc main_arg3)) shapeCasts_S4x8192x256_S32768x256 := by
  show StableHlo.after hostOps0 (fun b => m (c, b)) (Proc.devRef .tc main_v3) = _
  after_results
  rfl

theorem V_v4 (c : Dev nD) : V (F := Ideal) m c main_v4 = shapeCast S32768x256 (m ((c.tc : Thread nD τ).loc main_arg4)) shapeCasts_S4x8192x256_S32768x256 := by
  show StableHlo.after hostOps0 (fun b => m (c, b)) (Proc.devRef .tc main_v4) = _
  after_results
  rfl

theorem V_v5 (c : Dev nD) : V (F := Ideal) m c main_v5 = m ((c.tc : Thread nD τ).loc main_arg5) := by
  show StableHlo.after hostOps0 (fun b => m (c, b)) (Proc.devRef .tc main_v5) = _
  after_results
  rfl

theorem V_v6 (c : Dev nD) : V (F := Ideal) m c main_v6 = m ((c.tc : Thread nD τ).loc main_arg6) := by
  show StableHlo.after hostOps0 (fun b => m (c, b)) (Proc.devRef .tc main_v6) = _
  after_results
  rfl

theorem V_v7 (c : Dev nD) : V (F := Ideal) m c main_v7 = m ((c.tc : Thread nD τ).loc main_arg7) := by
  show StableHlo.after hostOps0 (fun b => m (c, b)) (Proc.devRef .tc main_v7) = _
  after_results
  rfl

theorem V_v8 (c : Dev nD) : V (F := Ideal) m c main_v8 = m ((c.tc : Thread nD τ).loc main_arg8) := by
  show StableHlo.after hostOps0 (fun b => m (c, b)) (Proc.devRef .tc main_v8) = _
  after_results
  rfl

theorem V_v10 (c : Dev nD) : V (F := Ideal) m c main_v10 = m ((c.tc : Thread nD τ).loc main_arg10) := by
  show StableHlo.after hostOps0 (fun b => m (c, b)) (Proc.devRef .tc main_v10) = _
  after_results
  rfl

theorem V_v9 (c : Dev nD) : V (F := Ideal) m c main_v9 = broadcastInDim S1x1024 ![1] bcast_S1024_S1x1024_1 (m ((c.tc : Thread nD τ).loc main_arg9)) := by
  show StableHlo.after hostOps0 (fun b => m (c, b)) (Proc.devRef .tc main_v9) = _
  after_results

/-! ## The blocks -/

theorem index0 : ∀ t, win0_0.index t = ![((grid0.coords t) 0).val, 0] := by decide +kernel
theorem index1 : ∀ t, win0_1.index t = ![((grid0.coords t) 0).val, 0] := by decide +kernel
theorem index2 : ∀ t, win0_2.index t = ![((grid0.coords t) 0).val, 0] := by decide +kernel
theorem index3 : ∀ t, win0_3.index t = ![((grid0.coords t) 0).val, 0] := by decide +kernel
theorem index4 : ∀ t, win0_4.index t = ![((grid0.coords t) 0).val, 0] := by decide +kernel
theorem index13 : ∀ t, win0_13.index t = ![((grid0.coords t) 0).val, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![0, 0] := by decide +kernel
theorem index9 : ∀ t, win0_9.index t = ![0, 0] := by decide +kernel
theorem index10 : ∀ t, win0_10.index t = ![0, 0] := by decide +kernel
theorem index11 : ∀ t, win0_11.index t = ![0, 0] := by decide +kernel
theorem index12 : ∀ t, win0_12.index t = ![0, 0] := by decide +kernel

theorem blk0 (c : Dev nD) (t : Fin cfg0.N) (r : Fin 512) (k : Fin 1024) : iblk (F := Ideal) m c 0 t (ix2 r k)
      = at3 (m ((c.tc : Thread nD τ).loc main_arg0)) ((512 * ((grid0.coords t) 0).val + r.val) / 8192) ((512 * ((grid0.coords t) 0).val + r.val) % 8192) k.val := by
  blk_simp [iblk]
  rw [V_v0]
  refine flat1024 _ _ _ ?_ ?_
  · blk_simp [index0]; show _ * 512 + r.val = _; omega
  · blk_simp [index0]

theorem blk1 (c : Dev nD) (t : Fin cfg0.N) (r : Fin 512) (k : Fin 256) : iblk (F := Ideal) m c 1 t (ix2 r k)
      = at3 (m ((c.tc : Thread nD τ).loc main_arg1)) ((512 * ((grid0.coords t) 0).val + r.val) / 8192) ((512 * ((grid0.coords t) 0).val + r.val) % 8192) k.val := by
  blk_simp [iblk]
  rw [V_v1]
  refine flat256 _ _ _ ?_ ?_
  · blk_simp [index1]; show _ * 512 + r.val = _; omega
  · blk_simp [index1]

theorem blk2 (c : Dev nD) (t : Fin cfg0.N) (r : Fin 512) (k : Fin 512) : iblk (F := Ideal) m c 2 t (ix2 r k)
      = at3 (m ((c.tc : Thread nD τ).loc main_arg2)) ((512 * ((grid0.coords t) 0).val + r.val) / 8192) ((512 * ((grid0.coords t) 0).val + r.val) % 8192) k.val := by
  blk_simp [iblk]
  rw [V_v2]
  refine flat512 _ _ _ ?_ ?_
  · blk_simp [index2]; show _ * 512 + r.val = _; omega
  · blk_simp [index2]

theorem blk3 (c : Dev nD) (t : Fin cfg0.N) (r : Fin 512) (k : Fin 256) : iblk (F := Ideal) m c 3 t (ix2 r k)
      = at3 (m ((c.tc : Thread nD τ).loc main_arg3)) ((512 * ((grid0.coords t) 0).val + r.val) / 8192) ((512 * ((grid0.coords t) 0).val + r.val) % 8192) k.val := by
  blk_simp [iblk]
  rw [V_v3]
  refine flat256 _ _ _ ?_ ?_
  · blk_simp [index3]; show _ * 512 + r.val = _; omega
  · blk_simp [index3]

theorem blk4 (c : Dev nD) (t : Fin cfg0.N) (r : Fin 512) (k : Fin 256) : iblk (F := Ideal) m c 4 t (ix2 r k)
      = at3 (m ((c.tc : Thread nD τ).loc main_arg4)) ((512 * ((grid0.coords t) 0).val + r.val) / 8192) ((512 * ((grid0.coords t) 0).val + r.val) % 8192) k.val := by
  blk_simp [iblk]
  rw [V_v4]
  refine flat256 _ _ _ ?_ ?_
  · blk_simp [index4]; show _ * 512 + r.val = _; omega
  · blk_simp [index4]

theorem blk5 (c : Dev nD) (t : Fin cfg0.N) (r : Fin 1024) (k : Fin 1024) : iblk (F := Ideal) m c 5 t (ix2 r k)
      = at2 (m ((c.tc : Thread nD τ).loc main_arg5)) r.val k.val := by
  blk_simp [iblk]
  rw [V_v5]
  refine at2_of _ _ ?_ ?_
  · blk_simp [index5]
  · blk_simp [index5]

theorem blk6 (c : Dev nD) (t : Fin cfg0.N) (r : Fin 1024) (k : Fin 5632) : iblk (F := Ideal) m c 6 t (ix2 r k)
      = at2 (m ((c.tc : Thread nD τ).loc main_arg6)) r.val k.val := by
  blk_simp [iblk]
  rw [V_v6]
  refine at2_of _ _ ?_ ?_
  · blk_simp [index6]
  · blk_simp [index6]

theorem blk7 (c : Dev nD) (t : Fin cfg0.N) (r : Fin 2816) (k : Fin 1024) : iblk (F := Ideal) m c 7 t (ix2 r k)
      = at2 (m ((c.tc : Thread nD τ).loc main_arg7)) r.val k.val := by
  blk_simp [iblk]
  rw [V_v7]
  refine at2_of _ _ ?_ ?_
  · blk_simp [index7]
  · blk_simp [index7]

theorem blk8 (c : Dev nD) (t : Fin cfg0.N) (r : Fin 1024) (k : Fin 1024) : iblk (F := Ideal) m c 8 t (ix2 r k)
      = at2 (m ((c.tc : Thread nD τ).loc main_arg8)) r.val k.val := by
  blk_simp [iblk]
  rw [V_v8]
  refine at2_of _ _ ?_ ?_
  · blk_simp [index8]
  · blk_simp [index8]

theorem blk10 (c : Dev nD) (t : Fin cfg0.N) (r : Fin 256) (k : Fin 1024) : iblk (F := Ideal) m c 10 t (ix2 r k)
      = at2 (m ((c.tc : Thread nD τ).loc main_arg10)) r.val k.val := by
  blk_simp [iblk]
  rw [V_v10]
  refine at2_of _ _ ?_ ?_
  · blk_simp [index10]
  · blk_simp [index10]

theorem blk11 (c : Dev nD) (t : Fin cfg0.N) (r : Fin 4) (k : Fin 1024) : iblk (F := Ideal) m c 11 t (ix2 r k)
      = at2 (m ((c.tc : Thread nD τ).loc main_arg11)) r.val k.val := by
  blk_simp [iblk]
  rw [V_main_arg11]
  refine at2_of _ _ ?_ ?_
  · blk_simp [index11]
  · blk_simp [index11]

theorem blk12 (c : Dev nD) (t : Fin cfg0.N) (r : Fin 4) (k : Fin 1024) : iblk (F := Ideal) m c 12 t (ix2 r k)
      = at2 (m ((c.tc : Thread nD τ).loc main_arg12)) r.val k.val := by
  blk_simp [iblk]
  rw [V_main_arg12]
  refine at2_of _ _ ?_ ?_
  · blk_simp [index12]
  · blk_simp [index12]

theorem bias_apply (x : (⟨1, ![1024]⟩ : Shape).Idx → EReal) (y : S1x1024.Idx) {k : ℕ} (h : (y 1).val = k) :
    broadcastInDim (s := S1024) S1x1024 ![1] bcast_S1024_S1x1024_1 x y = at1 x k := by
  obtain ⟨i, j, rfl⟩ : ∃ (i : Fin 1) (j : Fin 1024), y = ix2 i j := ⟨y 0, y 1, by funext a; fin_cases a <;> rfl⟩
  subst h
  pointwise
  exact (at1_val x j).symm

theorem blk9 (c : Dev nD) (t : Fin cfg0.N) (k : Fin 1024) : iblk (F := Ideal) m c 9 t (ix2 0 k)
      = at1 (m ((c.tc : Thread nD τ).loc main_arg9)) k.val := by
  blk_simp [iblk]
  rw [V_v9]
  refine bias_apply _ _ ?_
  blk_simp [index9]

/-- The layer's tail of the arguments: row `n` is token `n % 8192` of batch `n / 8192`. -/
def target (m : (ℓ : Loc nD τ sig) → Buf (Elt Ideal) ℓ) (c : Dev nD) : (⟨2, ![32768, 1024]⟩ : Shape).Idx → EReal := fun y =>
  tailAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) ((y 0).val / 8192) ((y 0).val % 8192) (y 1).val

/-- What point `t` writes, at an index. -/
theorem outs_apply (c : Dev nD) (t : Fin cfg0.N) (r : Fin 512) (j : Fin 1024) : outsAt0 (F := Ideal) m c t (ix2 r j)
    = target m c (ix2 ⟨512 * ((grid0.coords t) 0).val + r.val, by have : ((grid0.coords t) 0).val < 64 := ((grid0.coords t) 0).isLt; omega⟩ j) := by
  rw [out_eq]
  exact block_apply _ _ _ _ _ _ _ _ _ _ _ _ _ r _ _ _ _ _ _ _ _ _ _ _ _ _ (blk0 m c t r) (blk1 m c t r) (blk2 m c t r) (blk3 m c t r) (blk4 m c t r)
    (blk5 m c t) (blk6 m c t) (blk7 m c t) (blk8 m c t) (blk9 m c t) (blk10 m c t) (blk11 m c t) (blk12 m c t) j

theorem arr_eq (c : Dev nD) : (dats (F := Ideal) m 0 c).arrAt 13 cfg0.N = target m c := by
  refine (dats (F := Ideal) m 0 c).arrAt_eq_of_covers 13 _ (by decide +kernel) fun t _ y => ?_
  blk_simp
  rw [after0_13]
  obtain ⟨r, j, rfl⟩ : ∃ (r : Fin 512) (j : Fin 1024), y = ix2 r j := ⟨y 0, y 1, by funext a; fin_cases a <;> rfl⟩
  refine (outs_apply m c t r j).trans (congrArg (target m c) (funext fun a => Fin.ext ?_))
  match a with
  | ⟨0, _⟩ =>
    refine Eq.symm ?_
    show ((win0_13.blk t).view.emb (ix2 r j) 0).val = 512 * ((grid0.coords t) 0).val + r.val
    blk_simp [index13]; show _ * 512 + r.val = _; omega
  | ⟨1, _⟩ =>
    refine Eq.symm ?_
    show ((win0_13.blk t).view.emb (ix2 r j) 1).val = j.val
    blk_simp [index13]

/-- The kernel: its result is the layer's tail of its arguments, which are unchanged. -/
theorem value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (arr_eq m c), (h c).2⟩) (Cert.TailIdeal.Value.run_blocks m ρ)

end Cert.Proof.TI
end
-- ==== Proof.FI.Value.lean ====
/-
  The kernel of the first feed-forward block over the extended reals: its result is, row by row, the block of its
  arguments.
-/
module

public import proofs.«01_k».proof.Proof.FI.Block
public import proofs.«01_k».proof.Proof.TI.Value

@[expose] public section

set_option maxRecDepth 16384

noncomputable section

namespace Cert.Proof.FI

open Cert.FfnIdeal Cert.FfnIdeal.Gen
open Idealize.ShloMosaic
open Cert.Proof.Tail

/-- A row of the block is the norm of the feed-forward step of that row. -/
theorem block_apply (x : FVec Ideal S512x1024 .f32) (w : FVec Ideal S1024x5632 .bf16) (v : FVec Ideal S2816x1024 .bf16) (g b : FVec Ideal S1x1024 .f32)
    (r : Fin 512) (Y : ℕ → EReal) (W V : ℕ → ℕ → EReal) (G B : ℕ → EReal)
    (hx : ∀ k, x (ix2 r k) = Y k.val) (hw : ∀ k j, w (ix2 k j) = W k.val j.val) (hv : ∀ k j, v (ix2 k j) = V k.val j.val)
    (hg : ∀ k : Fin 1024, g (ix2 0 k) = G k.val) (hb : ∀ k : Fin 1024, b (ix2 0 k) = B k.val) (j : Fin 1024) :
    block (F := Ideal) x w v g b (ix2 r j) = norm (feed Y W V) G B j.val := by
  unfold block
  refine TI.normV_apply _ _ _ _ _ _ r (fun k => ?_) hg hb j
  exact TI.ffnV_apply w v r W V hw hv x Y hx k

variable (m : (ℓ : Loc nD τ sig) → Buf (Elt Ideal) ℓ)

theorem V_v0 (c : Dev nD) : V (F := Ideal) m c main_v0 = shapeCast S32768x1024 (m ((c.tc : Thread nD τ).loc main_arg0)) shapeCasts_S4x8192x1024_S32768x1024 := by
  show StableHlo.after hostOps0 (fun b => m (c, b)) (Proc.devRef .tc main_v0) = _
  after_results
  rfl

theorem V_v1 (c : Dev nD) : V (F := Ideal) m c main_v1 = m ((c.tc : Thread nD τ).loc main_arg1) := by
  show StableHlo.after hostOps0 (fun b => m (c, b)) (Proc.devRef .tc main_v1) = _
  after_results
  rfl

theorem V_v2 (c : Dev nD) : V (F := Ideal) m c main_v2 = m ((c.tc : Thread nD τ).loc main_arg2) := by
  show StableHlo.after hostOps0 (fun b => m (c, b)) (Proc.devRef .tc main_v2) = _
  after_results
  rfl

theorem V_v3 (c : Dev nD) : V (F := Ideal) m c main_v3 = broadcastInDim S1x1024 ![1] bcast_S1024_S1x1024_1 (m ((c.tc : Thread nD τ).loc main_arg3)) := by
  show StableHlo.after hostOps0 (fun b => m (c, b)) (Proc.devRef .tc main_v3) = _
  after_results

theorem V_v4 (c : Dev nD) : V (F := Ideal) m c main_v4 = broadcastInDim S1x1024 ![1] bcast_S1024_S1x1024_1 (m ((c.tc : Thread nD τ).loc main_arg4)) := by
  show StableHlo.after hostOps0 (fun b => m (c, b)) (Proc.devRef .tc main_v4) = _
  after_results

theorem index0 : ∀ t, win0_0.index t = ![((grid0.coords t) 0).val, 0] := by decide +kernel
theorem index1 : ∀ t, win0_1.index t = ![0, 0] := by decide +kernel
theorem index2 : ∀ t, win0_2.index t = ![0, 0] := by decide +kernel
theorem index3 : ∀ t, win0_3.index t = ![0, 0] := by decide +kernel
theorem index4 : ∀ t, win0_4.index t = ![0, 0] := by decide +kernel
theorem index5 : ∀ t, win0_5.index t = ![((grid0.coords t) 0).val, 0] := by decide +kernel

theorem blk0 (c : Dev nD) (t : Fin cfg0.N) (r : Fin 512) (k : Fin 1024) : iblk (F := Ideal) m c 0 t (ix2 r k)
      = at3 (m ((c.tc : Thread nD τ).loc main_arg0)) ((512 * ((grid0.coords t) 0).val + r.val) / 8192) ((512 * ((grid0.coords t) 0).val + r.val) % 8192) k.val := by
  blk_simp [iblk]
  rw [V_v0]
  refine TI.flat1024 _ _ _ ?_ ?_
  · blk_simp [index0]; show _ * 512 + r.val = _; omega
  · blk_simp [index0]

theorem blk1 (c : Dev nD) (t : Fin cfg0.N) (r : Fin 1024) (k : Fin 5632) : iblk (F := Ideal) m c 1 t (ix2 r k)
      = at2 (m ((c.tc : Thread nD τ).loc main_arg1)) r.val k.val := by
  blk_simp [iblk]
  rw [V_v1]
  refine at2_of _ _ ?_ ?_ <;> blk_simp [index1]

theorem blk2 (c : Dev nD) (t : Fin cfg0.N) (r : Fin 2816) (k : Fin 1024) : iblk (F := Ideal) m c 2 t (ix2 r k)
      = at2 (m ((c.tc : Thread nD τ).loc main_arg2)) r.val k.val := by
  blk_simp [iblk]
  rw [V_v2]
  refine at2_of _ _ ?_ ?_ <;> blk_simp [index2]

theorem blk3 (c : Dev nD) (t : Fin cfg0.N) (k : Fin 1024) : iblk (F := Ideal) m c 3 t (ix2 0 k)
      = at1 (m ((c.tc : Thread nD τ).loc main_arg3)) k.val := by
  blk_simp [iblk]
  rw [V_v3]
  refine TI.bias_apply _ _ ?_
  blk_simp [index3]

theorem blk4 (c : Dev nD) (t : Fin cfg0.N) (k : Fin 1024) : iblk (F := Ideal) m c 4 t (ix2 0 k)
      = at1 (m ((c.tc : Thread nD τ).loc main_arg4)) k.val := by
  blk_simp [iblk]
  rw [V_v4]
  refine TI.bias_apply _ _ ?_
  blk_simp [index4]

/-- The feed-forward block of the arguments: row `n` is token `n % 8192` of batch `n / 8192`. -/
def target (c : Dev nD) : (⟨2, ![32768, 1024]⟩ : Shape).Idx → EReal := fun y =>
  ffnAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) ((y 0).val / 8192) ((y 0).val % 8192) (y 1).val

/-- What point `t` writes, at an index. -/
theorem outs_apply (c : Dev nD) (t : Fin cfg0.N) (r : Fin 512) (j : Fin 1024) : outsAt0 (F := Ideal) m c t (ix2 r j)
    = target m c (ix2 ⟨512 * ((grid0.coords t) 0).val + r.val, by have : ((grid0.coords t) 0).val < 64 := ((grid0.coords t) 0).isLt; omega⟩ j) := by
  rw [out_eq]
  exact block_apply _ _ _ _ _ r _ _ _ _ _ (blk0 m c t r) (blk1 m c t) (blk2 m c t) (blk3 m c t) (blk4 m c t) j

theorem arr_eq (c : Dev nD) : (dats (F := Ideal) m 0 c).arrAt 5 cfg0.N = target m c := by
  refine (dats (F := Ideal) m 0 c).arrAt_eq_of_covers 5 _ (by decide +kernel) fun t _ y => ?_
  blk_simp
  rw [after0_5]
  obtain ⟨r, j, rfl⟩ : ∃ (r : Fin 512) (j : Fin 1024), y = ix2 r j := ⟨y 0, y 1, by funext a; fin_cases a <;> rfl⟩
  refine (outs_apply m c t r j).trans (congrArg (target m c) (funext fun a => Fin.ext ?_))
  match a with
  | ⟨0, _⟩ =>
    refine Eq.symm ?_
    show ((win0_5.blk t).view.emb (ix2 r j) 0).val = 512 * ((grid0.coords t) 0).val + r.val
    blk_simp [index5]; show _ * 512 + r.val = _; omega
  | ⟨1, _⟩ =>
    refine Eq.symm ?_
    show ((win0_5.blk t).view.emb (ix2 r j) 1).val = j.val
    blk_simp [index5]

/-- The kernel: its result is the feed-forward block of its arguments, which are unchanged. -/
theorem value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (arr_eq m c), (h c).2⟩) (Cert.FfnIdeal.Value.run_blocks m ρ)

end Cert.Proof.FI
end
-- ==== Proof.MI.Block.lean ====
/-
  What one grid point of the fused input projection writes, over its blocks and the rows carried from the point before.
-/
module

public import proofs.«01_k».proof.Proof.Gen.MixIdeal.Value
public import proofs.«01_k».proof.Proof.TI.Block

@[expose] public section

set_option maxRecDepth 16384

noncomputable section

namespace Cert.Proof.MI

open Cert.MixIdeal Cert.MixIdeal.Gen
open Idealize.ShloMosaic Idealize.ShloMosaic.Tactic

variable {F : FTy → Type} [FloatOps F]

/-- A tile's delta-rule columns with the eight rows before it above. -/
def hist0 (x : FVec F S512x1536 .f32) (top : FVec F S8x1536 .f32) : FVec F S520x1536 .f32 :=
  View.canon (Val := Elt F) (s := S520x1536) (e := .f32)
    [⟨Rect.unit ![8, 0] ![512, 1536] inb_S520x1536_S512x1536_8_0, x⟩, ⟨Rect.unit ![0, 0] ![8, 1536] inb_S520x1536_S8x1536_0_0, top⟩]

/-- A tile's short-convolution columns with the eight rows before it above. -/
def hist1 (x : FVec F S512x256 .f32) (top : FVec F S8x256 .f32) : FVec F S520x256 .f32 :=
  View.canon (Val := Elt F) (s := S520x256) (e := .f32)
    [⟨Rect.unit ![8, 0] ![512, 256] inb_S520x256_S512x256_8_0, x⟩, ⟨Rect.unit ![0, 0] ![8, 256] inb_S520x256_S8x256_0_0, top⟩]

theorem cover_hist0 (x : FVec F S512x1536 .f32) (top : FVec F S8x1536 .f32) (y : S520x1536.Idx) :
    ∃ p ∈ ([⟨Rect.unit ![8, 0] ![512, 1536] inb_S520x1536_S512x1536_8_0, x⟩, ⟨Rect.unit ![0, 0] ![8, 1536] inb_S520x1536_S8x1536_0_0, top⟩] :
      List (View.Piece (Elt F) S520x1536 .f32)), y ∈ p.1.set :=
  View.cover_of_tiledBy _ ![8, 1536] (by sl_kernel_rfl) y

theorem cover_hist1 (x : FVec F S512x256 .f32) (top : FVec F S8x256 .f32) (y : S520x256.Idx) :
    ∃ p ∈ ([⟨Rect.unit ![8, 0] ![512, 256] inb_S520x256_S512x256_8_0, x⟩, ⟨Rect.unit ![0, 0] ![8, 256] inb_S520x256_S8x256_0_0, top⟩] :
      List (View.Piece (Elt F) S520x256 .f32)), y ∈ p.1.set :=
  View.cover_of_tiledBy _ ![8, 256] (by sl_kernel_rfl) y

theorem read_hist0 (v : View sig .tc .vmem S520x1536 .f32) (x : FVec F S512x1536 .f32) (top : FVec F S8x1536 .f32) :
    v.readCov (Val := Elt F) [⟨Rect.unit ![8, 0] ![512, 1536] inb_S520x1536_S512x1536_8_0, x⟩, ⟨Rect.unit ![0, 0] ![8, 1536] inb_S520x1536_S8x1536_0_0, top⟩]
      (Rect.unit ![0, 0] ![520, 1536] inb_S520x1536_S520x1536_0_0).toLoadRect = hist0 x top := by
  rw [View.readCov_eq_canon_ld _ _ _ (cover_hist0 x top)]
  exact View.ld_unit_zero (S := S520x1536) TI.zero2 _ _

theorem read_hist1 (v : View sig .tc .vmem S520x256 .f32) (x : FVec F S512x256 .f32) (top : FVec F S8x256 .f32) :
    v.readCov (Val := Elt F) [⟨Rect.unit ![8, 0] ![512, 256] inb_S520x256_S512x256_8_0, x⟩, ⟨Rect.unit ![0, 0] ![8, 256] inb_S520x256_S8x256_0_0, top⟩]
      (Rect.unit ![0, 0] ![520, 256] inb_S520x256_S520x256_0_0).toLoadRect = hist1 x top := by
  rw [View.readCov_eq_canon_ld _ _ _ (cover_hist1 x top)]
  exact View.ld_unit_zero (S := S520x256) TI.zero2 _ _

/-- The delta rule's columns, convolved and activated. -/
def actV (h : FVec F S520x1536 .f32) (w : FVec F S4x1536 .f32) : FVec F S512x1536 .f32 :=
  k0_pay17 h (TI.sub2 w 1 1536 3 0 inb_S4x1536_S1x1536_3_0) (TI.sub2 w 1 1536 2 0 inb_S4x1536_S1x1536_2_0)
    (TI.sub2 w 1 1536 1 0 inb_S4x1536_S1x1536_1_0) (TI.sub2 w 1 1536 0 0 inb_S4x1536_S1x1536_0_0)

/-- The first head, of unit length and scaled. -/
def head0 (h : FVec F S520x1536 .f32) (w : FVec F S4x1536 .f32) : FVec F S512x128 .f32 :=
  k0_pay18 h (TI.sub2 w 1 1536 3 0 inb_S4x1536_S1x1536_3_0) (TI.sub2 w 1 1536 2 0 inb_S4x1536_S1x1536_2_0)
    (TI.sub2 w 1 1536 1 0 inb_S4x1536_S1x1536_1_0) (TI.sub2 w 1 1536 0 0 inb_S4x1536_S1x1536_0_0)

/-- The delta rule's columns as stored: eight heads and the values. -/
def pieces (a : FVec F S512x1536 .f32) (q : FVec F S512x128 .f32) : List (View.Piece (Elt F) S512x1536 .bf16) :=
  [⟨Rect.unit ![0, 1024] ![512, 512] inb_S512x1536_S512x512_0_1024, k0_pay2 a⟩,
   ⟨Rect.unit ![0, 896] ![512, 128] inb_S512x1536_S512x128_0_896, k0_pay1 (k0_pay26 a) (k0_pay27 a)⟩,
   ⟨Rect.unit ![0, 768] ![512, 128] inb_S512x1536_S512x128_0_768, k0_pay25 a⟩,
   ⟨Rect.unit ![0, 640] ![512, 128] inb_S512x1536_S512x128_0_640, k0_pay24 a⟩,
   ⟨Rect.unit ![0, 512] ![512, 128] inb_S512x1536_S512x128_0_512, k0_pay23 a⟩,
   ⟨Rect.unit ![0, 384] ![512, 128] inb_S512x1536_S512x128_0_384, k0_pay22 a⟩,
   ⟨Rect.unit ![0, 256] ![512, 128] inb_S512x1536_S512x128_0_256, k0_pay21 a⟩,
   ⟨Rect.unit ![0, 128] ![512, 128] inb_S512x1536_S512x128_0_128, k0_pay20 a⟩,
   ⟨Rect.unit ![0, 0] ![512, 128] inb_S512x1536_S512x128_0_0, k0_pay19 q⟩]

theorem cover_pieces (a : FVec F S512x1536 .f32) (q : FVec F S512x128 .f32) (y : S512x1536.Idx) : ∃ p ∈ pieces a q, y ∈ p.1.set :=
  View.cover_of_tiledBy (pieces a q) ![512, 128] (by sl_kernel_rfl) y

/-- The tile's delta-rule columns before the convolution. -/
def gV (x : FVec F S512x1024 .f32) (w : FVec F S1024x4096 .bf16) : FVec F S512x1536 .f32 :=
  k0_pay9 x (TI.sub2 w 1024 1536 0 768 inb_S1024x4096_S1024x1536_0_768)

/-- The tile's short-convolution columns before the convolution. -/
def qV (x : FVec F S512x1024 .f32) (w : FVec F S1024x4096 .bf16) : FVec F S512x256 .f32 :=
  k0_pay14 (k0_pay7 x) (TI.sub2 w 1024 768 0 3328 inb_S1024x4096_S1024x768_0_3328)

/-- The short convolution's columns, gated. -/
def shortV (x : FVec F S512x1024 .f32) (w : FVec F S1024x4096 .bf16) (h : FVec F S520x256 .f32) (v : FVec F S3x256 .f32) : FVec F S512x256 .bf16 :=
  k0_pay16 (k0_pay15 (k0_pay7 x) (TI.sub2 w 1024 768 0 3328 inb_S1024x4096_S1024x768_0_3328) h
    (TI.sub2 v 1 256 2 0 inb_S3x256_S1x256_2_0) (TI.sub2 v 1 256 1 0 inb_S3x256_S1x256_1_0)
    (TI.sub2 v 1 256 0 0 inb_S3x256_S1x256_0_0))

/-- The rows above a tile's delta-rule columns at a later point: the last eight of what the point before left. -/
def last0 (h : FVec F S520x1536 .f32) : FVec F S8x1536 .f32 := k0_pay5 (TI.sub2 h 8 1536 512 0 inb_S520x1536_S8x1536_512_0)

/-- The rows above a tile's short-convolution columns at a later point. -/
def last1 (h : FVec F S520x256 .f32) : FVec F S8x256 .f32 := k0_pay6 (TI.sub2 h 8 256 512 0 inb_S520x256_S8x256_512_0)

theorem unread0 (h : (Memref.whole cc0_scratch0 : Memref sig .tc .vmem S520x1536 .f32).IsWhole) (X : Vec F S520x1536 .f32) :
    View.read (Elt F) (View.whole cc0_scratch0) (h.unread X) = X := h.read_unread X

theorem unread1 (h : (Memref.whole cc0_scratch1 : Memref sig .tc .vmem S520x256 .f32).IsWhole) (X : Vec F S520x256 .f32) :
    View.read (Elt F) (View.whole cc0_scratch1) (h.unread X) = X := h.read_unread X

variable (m : (ℓ : Loc nD τ sig) → Buf (Elt F) ℓ)

end Cert.Proof.MI
end
-- ==== Proof.MI.First.lean ====
/-
  What the first grid point of a sequence writes: there are no rows before its tile.
-/
module

public import proofs.«01_k».proof.Proof.MI.Block

@[expose] public section

set_option maxRecDepth 16384

noncomputable section

namespace Cert.Proof.MI

open Cert.MixIdeal Cert.MixIdeal.Gen
open Idealize.ShloMosaic Idealize.ShloMosaic.Tactic

variable {F : FTy → Type} [FloatOps F]

variable (m : (ℓ : Loc nD τ sig) → Buf (Elt F) ℓ)

theorem rows_first (c : Dev nD) (t : Fin cfg0.N) (h0 : t.val % 16 = 0) :
    (outsAt0 m c t.val t.isLt).1 = k0_pay8 (iblk m c 0 t) (TI.sub2 (iblk m c 1 t) 1024 768 0 0 inb_S1024x4096_S1024x768_0_0) := by
  rw [outsAt0_A m c t h0 (not_not.mpr h0)]
  dsimp only
  unfold out0_A_4
  rw [View.read_writes_eq_canon _ _ _ (cover0_A_4 c _ _ _ _ _ _ _ _ _ _ _ _ _ _ _ _ _ _ _ _ _ _ _ _ _ _ _ _ _ _ _)]
  unfold kernelRun0_A
  dsimp only
  sl_unfold_words
  refine (View.canon_unit_zero (S := S512x768) TI.zero2 _ _).trans ?_
  simp only [View.readAt_eq_ld, Memref.IsWhole.read_unread, ↓read_hist0, ↓read_hist1, View.ld_unit_zero (S := S512x1024) TI.zero2]
  rfl

theorem delta_first (c : Dev nD) (t : Fin cfg0.N) (h0 : t.val % 16 = 0) :
    (outsAt0 m c t.val t.isLt).2.1 = View.canon (pieces (actV (hist0 (gV (iblk m c 0 t) (iblk m c 1 t)) k0_pay3) (iblk m c 2 t)) (head0 (hist0 (gV (iblk m c 0 t) (iblk m c 1 t)) k0_pay3) (iblk m c 2 t))) := by
  rw [outsAt0_A m c t h0 (not_not.mpr h0)]
  dsimp only
  unfold out0_A_5
  rw [View.read_writes_eq_canon _ _ _ (cover0_A_5 c _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, ↓read_hist0, ↓read_hist1, View.ld_unit_zero (S := S512x1024) TI.zero2]
  rfl

theorem z_first (c : Dev nD) (t : Fin cfg0.N) (h0 : t.val % 16 = 0) :
    (outsAt0 m c t.val t.isLt).2.2.1 = k0_pay10 (iblk m c 0 t) (TI.sub2 (iblk m c 1 t) 1024 512 0 2304 inb_S1024x4096_S1024x512_0_2304) := by
  rw [outsAt0_A m c t h0 (not_not.mpr h0)]
  dsimp only
  unfold out0_A_6
  rw [View.read_writes_eq_canon _ _ _ (cover0_A_6 c _ _ _ _ _ _ _ _ _ _ _ _ _ _ _ _ _ _ _ _ _ _ _ _ _ _ _ _ _ _ _)]
  unfold kernelRun0_A
  dsimp only
  sl_unfold_words
  refine (View.canon_unit_zero (S := S512x512) TI.zero2 _ _).trans ?_
  simp only [View.readAt_eq_ld, Memref.IsWhole.read_unread, ↓read_hist0, ↓read_hist1, View.ld_unit_zero (S := S512x1024) TI.zero2]
  rfl

theorem a_first (c : Dev nD) (t : Fin cfg0.N) (h0 : t.val % 16 = 0) :
    (outsAt0 m c t.val t.isLt).2.2.2.1 = k0_pay11 (iblk m c 0 t) (TI.sub2 (iblk m c 1 t) 1024 256 0 2816 inb_S1024x4096_S1024x256_0_2816) := by
  rw [outsAt0_A m c t h0 (not_not.mpr h0)]
  dsimp only
  unfold out0_A_7
  rw [View.read_writes_eq_canon _ _ _ (cover0_A_7 c _ _ _ _ _ _ _ _ _ _ _ _ _ _ _ _ _ _ _ _ _ _ _ _ _ _ _ _ _ _ _)]
  unfold kernelRun0_A
  dsimp only
  sl_unfold_words
  refine (View.canon_unit_zero (S := S512x256) TI.zero2 _ _).trans ?_
  simp only [View.readAt_eq_ld, Memref.IsWhole.read_unread, ↓read_hist0, ↓read_hist1, View.ld_unit_zero (S := S512x1024) TI.zero2]
  rfl

theorem b_first (c : Dev nD) (t : Fin cfg0.N) (h0 : t.val % 16 = 0) :
    (outsAt0 m c t.val t.isLt).2.2.2.2.1 = k0_pay12 (k0_pay7 (iblk m c 0 t)) (TI.sub2 (iblk m c 1 t) 1024 256 0 3072 inb_S1024x4096_S1024x256_0_3072) := by
  rw [outsAt0_A m c t h0 (not_not.mpr h0)]
  dsimp only
  unfold out0_A_8
  rw [View.read_writes_eq_canon _ _ _ (cover0_A_8 c _ _ _ _ _ _ _ _ _ _ _ _ _ _ _ _ _ _ _ _ _ _ _ _ _ _ _ _ _ _ _)]
  unfold kernelRun0_A
  dsimp only
  sl_unfold_words
  refine (View.canon_unit_zero (S := S512x256) TI.zero2 _ _).trans ?_
  simp only [View.readAt_eq_ld, Memref.IsWhole.read_unread, ↓read_hist0, ↓read_hist1, View.ld_unit_zero (S := S512x1024) TI.zero2]
  rfl

theorem short_first (c : Dev nD) (t : Fin cfg0.N) (h0 : t.val % 16 = 0) :
    (outsAt0 m c t.val t.isLt).2.2.2.2.2.1 = shortV (iblk m c 0 t) (iblk m c 1 t) (hist1 (qV (iblk m c 0 t) (iblk m c 1 t)) k0_pay4) (iblk m c 3 t) := by
  rw [outsAt0_A m c t h0 (not_not.mpr h0)]
  dsimp only
  unfold out0_A_9
  rw [View.read_writes_eq_canon _ _ _ (cover0_A_9 c _ _ _ _ _ _ _ _ _ _ _ _ _ _ _ _ _ _ _ _ _ _ _ _ _ _ _ _ _ _ _)]
  unfold kernelRun0_A
  dsimp only
  sl_unfold_words
  refine (View.canon_unit_zero (S := S512x256) TI.zero2 _ _).trans ?_
  simp only [View.readAt_eq_ld, Memref.IsWhole.read_unread, ↓read_hist0, ↓read_hist1, View.ld_unit_zero (S := S512x1024) TI.zero2]
  rfl

theorem carry0_first (c : Dev nD) (t : Fin cfg0.N) (h0 : t.val % 16 = 0) :
    (outsAt0 m c t.val t.isLt).2.2.2.2.2.2.1 = hist0 (gV (iblk m c 0 t) (iblk m c 1 t)) k0_pay3 := by
  rw [outsAt0_A m c t h0 (not_not.mpr h0)]
  dsimp only
  unfold sout0_A_0
  rw [View.read_writes_eq_canon _ _ _ (scover0_A_0 c _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, ↓read_hist0, ↓read_hist1, View.ld_unit_zero (S := S512x1024) TI.zero2]
  rfl

theorem carry1_first (c : Dev nD) (t : Fin cfg0.N) (h0 : t.val % 16 = 0) :
    (outsAt0 m c t.val t.isLt).2.2.2.2.2.2.2 = hist1 (qV (iblk m c 0 t) (iblk m c 1 t)) k0_pay4 := by
  rw [outsAt0_A m c t h0 (not_not.mpr h0)]
  dsimp only
  unfold sout0_A_1
  rw [View.read_writes_eq_canon _ _ _ (scover0_A_1 c _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, ↓read_hist0, ↓read_hist1, View.ld_unit_zero (S := S512x1024) TI.zero2]
  rfl

end Cert.Proof.MI
end
-- ==== Proof.MI.Next.lean ====
/-
  What a later grid point of a sequence writes, over what the point before it left.
-/
module

public import proofs.«01_k».proof.Proof.MI.Block

@[expose] public section

set_option maxRecDepth 16384

noncomputable section

namespace Cert.Proof.MI

open Cert.MixIdeal Cert.MixIdeal.Gen
open Idealize.ShloMosaic Idealize.ShloMosaic.Tactic

variable {F : FTy → Type} [FloatOps F]

variable (m : (ℓ : Loc nD τ sig) → Buf (Elt F) ℓ)

theorem rows_next (c : Dev nD) (t : Fin cfg0.N) (h0 : ¬ t.val % 16 = 0) (h : t.val - 1 < cfg0.N) :
    (outsAt0 m c t.val t.isLt).1 = k0_pay8 (iblk m c 0 t) (TI.sub2 (iblk m c 1 t) 1024 768 0 0 inb_S1024x4096_S1024x768_0_0) := by
  rw [outsAt0_B m c t h0 h0]
  generalize outsAt0 m c (t.val - 1) _ = prev
  dsimp only
  unfold out0_B_4
  rw [View.read_writes_eq_canon _ _ _ (cover0_B_4 c _ _ _ _ _ _ _ _ _ _ _ _ _ _ _ _ _ _ _ _ _ _ _ _ _ _ _ _ _ _ _ _ _)]
  unfold kernelRun0_B
  dsimp only
  sl_unfold_words
  refine (View.canon_unit_zero (S := S512x768) TI.zero2 _ _).trans ?_
  simp only [View.readAt_eq_ld, Memref.IsWhole.read_unread, ↓read_hist0, ↓read_hist1, View.ld_unit_zero (S := S512x1024) TI.zero2, unread0, unread1]
  rfl

theorem delta_next (c : Dev nD) (t : Fin cfg0.N) (h0 : ¬ t.val % 16 = 0) (h : t.val - 1 < cfg0.N) :
    (outsAt0 m c t.val t.isLt).2.1 = View.canon (pieces (actV (hist0 (gV (iblk m c 0 t) (iblk m c 1 t)) (last0 (outsAt0 m c (t.val - 1) h).2.2.2.2.2.2.1)) (iblk m c 2 t)) (head0 (hist0 (gV (iblk m c 0 t) (iblk m c 1 t)) (last0 (outsAt0 m c (t.val - 1) h).2.2.2.2.2.2.1)) (iblk m c 2 t))) := by
  rw [outsAt0_B m c t h0 h0]
  generalize outsAt0 m c (t.val - 1) _ = prev
  dsimp only
  unfold out0_B_5
  rw [View.read_writes_eq_canon _ _ _ (cover0_B_5 c _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, ↓read_hist0, ↓read_hist1, View.ld_unit_zero (S := S512x1024) TI.zero2, unread0, unread1]
  rfl

theorem z_next (c : Dev nD) (t : Fin cfg0.N) (h0 : ¬ t.val % 16 = 0) (h : t.val - 1 < cfg0.N) :
    (outsAt0 m c t.val t.isLt).2.2.1 = k0_pay10 (iblk m c 0 t) (TI.sub2 (iblk m c 1 t) 1024 512 0 2304 inb_S1024x4096_S1024x512_0_2304) := by
  rw [outsAt0_B m c t h0 h0]
  generalize outsAt0 m c (t.val - 1) _ = prev
  dsimp only
  unfold out0_B_6
  rw [View.read_writes_eq_canon _ _ _ (cover0_B_6 c _ _ _ _ _ _ _ _ _ _ _ _ _ _ _ _ _ _ _ _ _ _ _ _ _ _ _ _ _ _ _ _ _)]
  unfold kernelRun0_B
  dsimp only
  sl_unfold_words
  refine (View.canon_unit_zero (S := S512x512) TI.zero2 _ _).trans ?_
  simp only [View.readAt_eq_ld, Memref.IsWhole.read_unread, ↓read_hist0, ↓read_hist1, View.ld_unit_zero (S := S512x1024) TI.zero2, unread0, unread1]
  rfl

theorem a_next (c : Dev nD) (t : Fin cfg0.N) (h0 : ¬ t.val % 16 = 0) (h : t.val - 1 < cfg0.N) :
    (outsAt0 m c t.val t.isLt).2.2.2.1 = k0_pay11 (iblk m c 0 t) (TI.sub2 (iblk m c 1 t) 1024 256 0 2816 inb_S1024x4096_S1024x256_0_2816) := by
  rw [outsAt0_B m c t h0 h0]
  generalize outsAt0 m c (t.val - 1) _ = prev
  dsimp only
  unfold out0_B_7
  rw [View.read_writes_eq_canon _ _ _ (cover0_B_7 c _ _ _ _ _ _ _ _ _ _ _ _ _ _ _ _ _ _ _ _ _ _ _ _ _ _ _ _ _ _ _ _ _)]
  unfold kernelRun0_B
  dsimp only
  sl_unfold_words
  refine (View.canon_unit_zero (S := S512x256) TI.zero2 _ _).trans ?_
  simp only [View.readAt_eq_ld, Memref.IsWhole.read_unread, ↓read_hist0, ↓read_hist1, View.ld_unit_zero (S := S512x1024) TI.zero2, unread0, unread1]
  rfl

theorem b_next (c : Dev nD) (t : Fin cfg0.N) (h0 : ¬ t.val % 16 = 0) (h : t.val - 1 < cfg0.N) :
    (outsAt0 m c t.val t.isLt).2.2.2.2.1 = k0_pay12 (k0_pay7 (iblk m c 0 t)) (TI.sub2 (iblk m c 1 t) 1024 256 0 3072 inb_S1024x4096_S1024x256_0_3072) := by
  rw [outsAt0_B m c t h0 h0]
  generalize outsAt0 m c (t.val - 1) _ = prev
  dsimp only
  unfold out0_B_8
  rw [View.read_writes_eq_canon _ _ _ (cover0_B_8 c _ _ _ _ _ _ _ _ _ _ _ _ _ _ _ _ _ _ _ _ _ _ _ _ _ _ _ _ _ _ _ _ _)]
  unfold kernelRun0_B
  dsimp only
  sl_unfold_words
  refine (View.canon_unit_zero (S := S512x256) TI.zero2 _ _).trans ?_
  simp only [View.readAt_eq_ld, Memref.IsWhole.read_unread, ↓read_hist0, ↓read_hist1, View.ld_unit_zero (S := S512x1024) TI.zero2, unread0, unread1]
  rfl

theorem short_next (c : Dev nD) (t : Fin cfg0.N) (h0 : ¬ t.val % 16 = 0) (h : t.val - 1 < cfg0.N) :
    (outsAt0 m c t.val t.isLt).2.2.2.2.2.1 = shortV (iblk m c 0 t) (iblk m c 1 t) (hist1 (qV (iblk m c 0 t) (iblk m c 1 t)) (last1 (outsAt0 m c (t.val - 1) h).2.2.2.2.2.2.2)) (iblk m c 3 t) := by
  rw [outsAt0_B m c t h0 h0]
  generalize outsAt0 m c (t.val - 1) _ = prev
  dsimp only
  unfold out0_B_9
  rw [View.read_writes_eq_canon _ _ _ (cover0_B_9 c _ _ _ _ _ _ _ _ _ _ _ _ _ _ _ _ _ _ _ _ _ _ _ _ _ _ _ _ _ _ _ _ _)]
  unfold kernelRun0_B
  dsimp only
  sl_unfold_words
  refine (View.canon_unit_zero (S := S512x256) TI.zero2 _ _).trans ?_
  simp only [View.readAt_eq_ld, Memref.IsWhole.read_unread, ↓read_hist0, ↓read_hist1, View.ld_unit_zero (S := S512x1024) TI.zero2, unread0, unread1]
  rfl

theorem carry0_next (c : Dev nD) (t : Fin cfg0.N) (h0 : ¬ t.val % 16 = 0) (h : t.val - 1 < cfg0.N) :
    (outsAt0 m c t.val t.isLt).2.2.2.2.2.2.1 = hist0 (gV (iblk m c 0 t) (iblk m c 1 t)) (last0 (outsAt0 m c (t.val - 1) h).2.2.2.2.2.2.1) := by
  rw [outsAt0_B m c t h0 h0]
  generalize outsAt0 m c (t.val - 1) _ = prev
  dsimp only
  unfold sout0_B_0
  rw [View.read_writes_eq_canon _ _ _ (scover0_B_0 c _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, ↓read_hist0, ↓read_hist1, View.ld_unit_zero (S := S512x1024) TI.zero2, unread0, unread1]
  rfl

theorem carry1_next (c : Dev nD) (t : Fin cfg0.N) (h0 : ¬ t.val % 16 = 0) (h : t.val - 1 < cfg0.N) :
    (outsAt0 m c t.val t.isLt).2.2.2.2.2.2.2 = hist1 (qV (iblk m c 0 t) (iblk m c 1 t)) (last1 (outsAt0 m c (t.val - 1) h).2.2.2.2.2.2.2) := by
  rw [outsAt0_B m c t h0 h0]
  generalize outsAt0 m c (t.val - 1) _ = prev
  dsimp only
  unfold sout0_B_1
  rw [View.read_writes_eq_canon _ _ _ (scover0_B_1 c _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, ↓read_hist0, ↓read_hist1, View.ld_unit_zero (S := S512x1024) TI.zero2, unread0, unread1]
  rfl

end Cert.Proof.MI
end
-- ==== Proof.MI.Rows.lean ====
/-
  The fused input projection, row by row: the projected features of a token, the causal convolutions over the tokens
  before it in its sequence, the activation, and the heads brought to unit length.
-/
module

public import proofs.«01_k».proof.Proof.TI.Rows

@[expose] public section

noncomputable section

namespace Cert.Proof.Mix

open Idealize.ShloMosaic
open Cert.Proof.Tail

/-- The guard of a head's length, 1e-6 rounded to f32. -/
def δ : EReal := Ideal.ofBits .f32 0x358637BD#32

/-- The scale of the queries, one over the root of a head's width, rounded to f32. -/
def κ : EReal := Ideal.ofBits .f32 0x3DB504F3#32

/-- The features of the token `d` before token `s` of the sequence, zero before its start. -/
def past (p : ℕ → ℕ → EReal) (s d j : ℕ) : EReal := if d ≤ s then p (s - d) j else 0

/-- The causal convolution of four taps. -/
def conv4 (W : ℕ → ℕ → EReal) (p : ℕ → ℕ → EReal) (s j : ℕ) : EReal :=
  past p s 3 j * W 0 j + past p s 2 j * W 1 j + past p s 1 j * W 2 j + past p s 0 j * W 3 j

/-- The causal convolution of three taps. -/
def conv3 (W : ℕ → ℕ → EReal) (p : ℕ → ℕ → EReal) (s j : ℕ) : EReal :=
  past p s 2 j * W 0 j + past p s 1 j * W 1 j + past p s 0 j * W 2 j

/-- The activation. -/
def silu (c : EReal) : EReal := c * Ideal.logistic c

/-- A row's column over the length of its head of 128 columns. -/
def unit (a : ℕ → EReal) (j : ℕ) : EReal :=
  a j * Ideal.rsqrt (∑ k : Fin 128, a (j / 128 * 128 + k.val) * a (j / 128 * 128 + k.val) + δ)

/-- A row's queries of unit length scaled, its keys of unit length, and its values. -/
def heads (a : ℕ → EReal) (j : ℕ) : EReal := if j < 512 then unit a j * κ else if j < 1024 then unit a j else a j

/-- The columns of the delta rule: convolved, activated, and its heads normalised. `p` are the projected features. -/
def delta (W : ℕ → ℕ → EReal) (p : ℕ → ℕ → EReal) (s : ℕ) : ℕ → EReal :=
  heads fun j => silu (conv4 W (fun r k => p r (768 + k)) s j)

/-- The gated short convolution's columns. -/
def short (W : ℕ → ℕ → EReal) (p : ℕ → ℕ → EReal) (s j : ℕ) : EReal :=
  p s (2824 + j) * conv3 W (fun r k => p r (3080 + k) * p r (3336 + k)) s j

/-- The features the projection gives the tokens of sequence `b`. -/
def proj (x : (⟨3, ![4, 8192, 1024]⟩ : Shape).Idx → EReal) (w : (⟨2, ![1024, 3592]⟩ : Shape).Idx → EReal) (b s j : ℕ) : EReal :=
  feature (at3 x b s) (at2 w) j

section Results

variable (x : (⟨3, ![4, 8192, 1024]⟩ : Shape).Idx → EReal) (w : (⟨2, ![1024, 3592]⟩ : Shape).Idx → EReal)
  (u : (⟨2, ![4, 1536]⟩ : Shape).Idx → EReal) (v : (⟨2, ![3, 256]⟩ : Shape).Idx → EReal)

/-- The attention's columns. -/
def rowsAt (b s j : ℕ) : EReal := proj x w b s j

/-- The delta rule's queries, keys and values. -/
def deltaAt (b s j : ℕ) : EReal := delta (at2 u) (proj x w b) s j

/-- The delta rule's gate. -/
def zAt (b s j : ℕ) : EReal := proj x w b s (2304 + j)

/-- The delta rule's decays, each head's 64 times. -/
def aAt (b s j : ℕ) : EReal := proj x w b s (2816 + j / 64)

/-- The delta rule's rates, each head's 64 times. -/
def bAt (b s j : ℕ) : EReal := proj x w b s (2820 + j / 64)

/-- The gated short convolution. -/
def shortAt (b s j : ℕ) : EReal := short (at2 v) (proj x w b) s j

end Results

/-- A table of rows: row `n` is token `n % 8192` of sequence `n / 8192`. -/
def table {B : ℕ} (f : ℕ → ℕ → ℕ → EReal) : (⟨2, ![32768, B]⟩ : Shape).Idx → EReal := fun y => f ((y 0).val / 8192) ((y 0).val % 8192) (y 1).val

theorem table_of {B : ℕ} {f : ℕ → ℕ → ℕ → EReal} {x : (⟨2, ![32768, B]⟩ : Shape).Idx → EReal}
    (h : ∀ (n : Fin 32768) (j : Fin B), x (ix2 n j) = f (n.val / 8192) (n.val % 8192) j.val) : x = table f := by
  funext y
  obtain ⟨n, j, rfl⟩ : ∃ (n : Fin 32768) (j : Fin B), y = ix2 n j := ⟨y 0, y 1, by funext a; fin_cases a <;> rfl⟩
  exact h n j

end Cert.Proof.Mix
end
-- ==== Proof.MI.Pay.lean ====
/-
  The block of a grid point over the extended reals: each of its rows is the projection of that row of the operands, its
  convolutions over the rows before it.
-/
module

public import proofs.«01_k».proof.Proof.MI.Block
public import proofs.«01_k».proof.Proof.MI.Rows
public import proofs.«01_k».proof.Proof.TI.Pay
public import Idealize.ShloMosaic.Lib.Pipeline.ValueKit.Tiles

@[expose] public section

set_option maxRecDepth 16384

noncomputable section

namespace Cert.Proof.MI

open Cert.MixIdeal Cert.MixIdeal.Gen
open Idealize.ShloMosaic Idealize.ShloMosaic.Tactic
open Cert.Proof.Tail Cert.Proof.Mix
open Cert.Proof.TI (sub2 sub2_apply)

theorem hist0_tile (x : FVec Ideal S512x1536 .f32) (top : FVec Ideal S8x1536 .f32) (R : Fin 520) (r : Fin 512) (j : Fin 1536) (h : R.val = 8 + r.val) :
    hist0 (F := Ideal) x top (ix2 R j) = x (ix2 r j) := by
  unfold hist0
  canon_tiles y e using (cover_hist0 x top (ix2 R j))
  · obtain ⟨a, l, rfl⟩ : ∃ (a : Fin 512) (l : Fin 1536), y = ix2 a l := ⟨y 0, y 1, by funext a; fin_cases a <;> rfl⟩
    obtain rfl : j = l := Fin.ext e1
    have e : R.val = 8 + a.val := e0
    obtain rfl : a = r := Fin.ext (by omega)
    rfl
  · have e : R.val = (y 0).val := e0
    omega

theorem hist0_top (x : FVec Ideal S512x1536 .f32) (top : FVec Ideal S8x1536 .f32) (R : Fin 520) (r : Fin 8) (j : Fin 1536) (h : R.val = r.val) :
    hist0 (F := Ideal) x top (ix2 R j) = top (ix2 r j) := by
  unfold hist0
  canon_tiles y e using (cover_hist0 x top (ix2 R j))
  · have e : R.val = 8 + (y 0).val := e0
    omega
  · obtain ⟨a, l, rfl⟩ : ∃ (a : Fin 8) (l : Fin 1536), y = ix2 a l := ⟨y 0, y 1, by funext a; fin_cases a <;> rfl⟩
    obtain rfl : j = l := Fin.ext e1
    have e : R.val = a.val := e0
    obtain rfl : a = r := Fin.ext (by omega)
    rfl

theorem hist1_tile (x : FVec Ideal S512x256 .f32) (top : FVec Ideal S8x256 .f32) (R : Fin 520) (r : Fin 512) (j : Fin 256) (h : R.val = 8 + r.val) :
    hist1 (F := Ideal) x top (ix2 R j) = x (ix2 r j) := by
  unfold hist1
  canon_tiles y e using (cover_hist1 x top (ix2 R j))
  · obtain ⟨a, l, rfl⟩ : ∃ (a : Fin 512) (l : Fin 256), y = ix2 a l := ⟨y 0, y 1, by funext a; fin_cases a <;> rfl⟩
    obtain rfl : j = l := Fin.ext e1
    have e : R.val = 8 + a.val := e0
    obtain rfl : a = r := Fin.ext (by omega)
    rfl
  · have e : R.val = (y 0).val := e0
    omega

theorem hist1_top (x : FVec Ideal S512x256 .f32) (top : FVec Ideal S8x256 .f32) (R : Fin 520) (r : Fin 8) (j : Fin 256) (h : R.val = r.val) :
    hist1 (F := Ideal) x top (ix2 R j) = top (ix2 r j) := by
  unfold hist1
  canon_tiles y e using (cover_hist1 x top (ix2 R j))
  · have e : R.val = 8 + (y 0).val := e0
    omega
  · obtain ⟨a, l, rfl⟩ : ∃ (a : Fin 8) (l : Fin 256), y = ix2 a l := ⟨y 0, y 1, by funext a; fin_cases a <;> rfl⟩
    obtain rfl : j = l := Fin.ext e1
    have e : R.val = a.val := e0
    obtain rfl : a = r := Fin.ext (by omega)
    rfl

section Row

variable (x : FVec Ideal S512x1024 .f32) (w : FVec Ideal S1024x4096 .bf16) (Y : ℕ → EReal) (W : ℕ → ℕ → EReal) (r : Fin 512)
  (hx : ∀ k, x (ix2 r k) = Y k.val) (hw : ∀ k j, w (ix2 k j) = W k.val j.val)

include hx hw

theorem rows_apply (j : Fin 768) : k0_pay8 (F := Ideal) x (sub2 w 1024 768 0 0 inb_S1024x4096_S1024x768_0_0) (ix2 r j) = feature Y W j.val := by
  have hs := sub2_apply w 1024 768 0 0 inb_S1024x4096_S1024x768_0_0 W hw
  generalize sub2 w 1024 768 0 0 _ = v at hs
  pointwise [k0_pay8, k0_pay7]
  simp only [hx, hs, Nat.zero_add]
  rfl

theorem gV_apply (j : Fin 1536) : gV (F := Ideal) x w (ix2 r j) = feature Y W (768 + j.val) := by
  have hs := sub2_apply w 1024 1536 0 768 inb_S1024x4096_S1024x1536_0_768 W hw
  unfold gV
  generalize sub2 w 1024 1536 0 768 _ = v at hs
  pointwise [k0_pay9, k0_pay7]
  simp only [hx, hs, Nat.zero_add]
  rfl

theorem z_apply (j : Fin 512) : k0_pay10 (F := Ideal) x (sub2 w 1024 512 0 2304 inb_S1024x4096_S1024x512_0_2304) (ix2 r j) = feature Y W (2304 + j.val) := by
  have hs := sub2_apply w 1024 512 0 2304 inb_S1024x4096_S1024x512_0_2304 W hw
  generalize sub2 w 1024 512 0 2304 _ = v at hs
  pointwise [k0_pay10, k0_pay7]
  simp only [hx, hs, Nat.zero_add]
  rfl

theorem a_apply (j : Fin 256) : k0_pay11 (F := Ideal) x (sub2 w 1024 256 0 2816 inb_S1024x4096_S1024x256_0_2816) (ix2 r j) = feature Y W (2816 + j.val) := by
  have hs := sub2_apply w 1024 256 0 2816 inb_S1024x4096_S1024x256_0_2816 W hw
  generalize sub2 w 1024 256 0 2816 _ = v at hs
  pointwise [k0_pay11, k0_pay7]
  simp only [hx, hs, Nat.zero_add]
  rfl

theorem b_apply (j : Fin 256) : k0_pay12 (F := Ideal) (k0_pay7 x) (sub2 w 1024 256 0 3072 inb_S1024x4096_S1024x256_0_3072) (ix2 r j) = feature Y W (3072 + j.val) := by
  have hs := sub2_apply w 1024 256 0 3072 inb_S1024x4096_S1024x256_0_3072 W hw
  generalize sub2 w 1024 256 0 3072 _ = v at hs
  pointwise [k0_pay12, k0_pay7]
  simp only [hx, hs, Nat.zero_add]
  rfl

theorem s_apply (j : Fin 768) : k0_pay13 (F := Ideal) (k0_pay7 x) (sub2 w 1024 768 0 3328 inb_S1024x4096_S1024x768_0_3328) (ix2 r j) = feature Y W (3328 + j.val) := by
  have hs := sub2_apply w 1024 768 0 3328 inb_S1024x4096_S1024x768_0_3328 W hw
  generalize sub2 w 1024 768 0 3328 _ = v at hs
  pointwise [k0_pay13, k0_pay7]
  simp only [hx, hs, Nat.zero_add]
  rfl

theorem qV_apply (j : Fin 256) : qV (F := Ideal) x w (ix2 r j) = feature Y W (3584 + j.val) * feature Y W (3840 + j.val) := by
  have hs := s_apply x w Y W r hx hw
  unfold qV k0_pay14
  generalize k0_pay13 (F := Ideal) _ _ = v at hs
  pointwise
  rw [hs, hs]
  exact congrArg₂ (feature Y W · * feature Y W ·) (by show 3328 + (256 + j.val) = _; omega) (by show 3328 + (512 + j.val) = _; omega)

end Row

theorem actV_apply (p : ℕ → ℕ → EReal) (U : ℕ → ℕ → EReal) (h : FVec Ideal S520x1536 .f32) (u : FVec Ideal S4x1536 .f32) (r : Fin 512) (s : ℕ)
    (hp : ∀ (R : Fin 520) (j : Fin 1536) (d : ℕ), R.val + d = 8 + r.val → d ≤ 3 → h (ix2 R j) = past p s d j.val)
    (hu : ∀ k j, u (ix2 k j) = U k.val j.val) (j : Fin 1536) : actV (F := Ideal) h u (ix2 r j) = silu (conv4 U p s j.val) := by
  have h0 := sub2_apply u 1 1536 0 0 inb_S4x1536_S1x1536_0_0 U hu
  have h1 := sub2_apply u 1 1536 1 0 inb_S4x1536_S1x1536_1_0 U hu
  have h2 := sub2_apply u 1 1536 2 0 inb_S4x1536_S1x1536_2_0 U hu
  have h3 := sub2_apply u 1 1536 3 0 inb_S4x1536_S1x1536_3_0 U hu
  unfold actV
  generalize sub2 u 1 1536 0 0 _ = u0 at h0 ⊢
  generalize sub2 u 1 1536 1 0 _ = u1 at h1 ⊢
  generalize sub2 u 1 1536 2 0 _ = u2 at h2 ⊢
  generalize sub2 u 1 1536 3 0 _ = u3 at h3 ⊢
  pointwise [k0_pay17]
  simp only [h0, h1, h2, h3]
  rw [hp _ j 0 rfl, hp _ j 1 (by simp only; omega), hp _ j 2 (by simp only; omega), hp _ j 3 (by simp only; omega)]
  · have e : U (3 + 0) (0 + j.val) * past p s 0 j.val + U (2 + 0) (0 + j.val) * past p s 1 j.val + U (1 + 0) (0 + j.val) * past p s 2 j.val
        + U (0 + 0) (0 + j.val) * past p s 3 j.val = conv4 U p s j.val := by
      unfold conv4
      simp only [Nat.zero_add, Nat.add_zero, mul_comm (U _ _)]
      ac_rfl
    exact congrArg silu e
  all_goals omega

theorem unit_at (A : ℕ → EReal) (o l : ℕ) (ho : o % 128 = 0) (hl : l < 128) :
    unit A (o + l) = A (o + l) * Ideal.rsqrt (∑ k : Fin 128, A (o + k.val) * A (o + k.val) + δ) := by
  unfold unit
  rw [show (o + l) / 128 * 128 = o from by omega]

theorem head0_apply (A : ℕ → EReal) (h : FVec Ideal S520x1536 .f32) (u : FVec Ideal S4x1536 .f32) (r : Fin 512)
    (ha : ∀ j, actV (F := Ideal) h u (ix2 r j) = A j.val) (l : Fin 128) : head0 (F := Ideal) h u (ix2 r l) = unit A l.val * κ := by
  unfold actV at ha
  unfold head0 k0_pay18
  generalize k0_pay17 (F := Ideal) _ _ _ _ _ = a at ha ⊢
  pointwise
  simp only [ha]
  have e := unit_at A 0 l.val rfl l.isLt
  simp only [Nat.zero_add] at e
  rw [e]
  rfl

theorem pieces_apply (A : ℕ → EReal) (a : FVec Ideal S512x1536 .f32) (q : FVec Ideal S512x128 .f32) (r : Fin 512)
    (ha : ∀ j, a (ix2 r j) = A j.val) (hq : ∀ l : Fin 128, q (ix2 r l) = unit A l.val * κ) (j : Fin 1536) :
    View.canon (pieces (F := Ideal) a q) (ix2 r j) = heads A j.val := by
  have hc := cover_pieces (F := Ideal) a q
  unfold pieces at hc ⊢
  canon_tiles y e using (hc (ix2 r j))
  · obtain ⟨b, l, rfl⟩ : ∃ (b : Fin 512) (l : Fin 512), y = ix2 b l := ⟨y 0, y 1, by funext a; fin_cases a <;> rfl⟩
    obtain rfl : r = b := Fin.ext e0
    have e : j.val = 1024 + l.val := e1
    rw [e]
    unfold heads
    rw [if_neg (by omega), if_neg (by omega)]
    pointwise [k0_pay2]
    exact ha _
  · obtain ⟨b, l, rfl⟩ : ∃ (b : Fin 512) (l : Fin 128), y = ix2 b l := ⟨y 0, y 1, by funext a; fin_cases a <;> rfl⟩
    obtain rfl : r = b := Fin.ext e0
    have e : j.val = 896 + l.val := e1
    rw [e]
    unfold heads
    rw [if_neg (by omega), if_pos (by omega), unit_at A 896 l.val rfl l.isLt]
    pointwise [k0_pay1, k0_pay26, k0_pay27]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = 768 + l.val := e1
    rw [e]
    unfold heads
    rw [if_neg (by omega), if_pos (by omega), unit_at A 768 l.val rfl l.isLt]
    pointwise [k0_pay25]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = 640 + l.val := e1
    rw [e]
    unfold heads
    rw [if_neg (by omega), if_pos (by omega), unit_at A 640 l.val rfl l.isLt]
    pointwise [k0_pay24]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = 512 + l.val := e1
    rw [e]
    unfold heads
    rw [if_neg (by omega), if_pos (by omega), unit_at A 512 l.val rfl l.isLt]
    pointwise [k0_pay23]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = 384 + l.val := e1
    rw [e]
    unfold heads
    rw [if_pos (by omega), unit_at A 384 l.val rfl l.isLt]
    pointwise [k0_pay22]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = 256 + l.val := e1
    rw [e]
    unfold heads
    rw [if_pos (by omega), unit_at A 256 l.val rfl l.isLt]
    pointwise [k0_pay21]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = 128 + l.val := e1
    rw [e]
    unfold heads
    rw [if_pos (by omega), unit_at A 128 l.val rfl l.isLt]
    pointwise [k0_pay20]
    simp only [ha]
    rfl
  · obtain ⟨b, l, rfl⟩ : ∃ (b : Fin 512) (l : Fin 128), y = ix2 b l := ⟨y 0, y 1, by funext a; fin_cases a <;> rfl⟩
    obtain rfl : r = b := Fin.ext e0
    have e : j.val = l.val := e1
    rw [e]
    unfold heads
    rw [if_pos (by omega)]
    pointwise [k0_pay19]
    exact hq l

theorem shortV_apply (p : ℕ → ℕ → EReal) (U : ℕ → ℕ → EReal) (x : FVec Ideal S512x1024 .f32) (w : FVec Ideal S1024x4096 .bf16)
    (Y : ℕ → EReal) (W : ℕ → ℕ → EReal) (r : Fin 512) (hx : ∀ k, x (ix2 r k) = Y k.val) (hw : ∀ k j, w (ix2 k j) = W k.val j.val)
    (h : FVec Ideal S520x256 .f32) (u : FVec Ideal S3x256 .f32) (s : ℕ)
    (hp : ∀ (R : Fin 520) (j : Fin 256) (d : ℕ), R.val + d = 8 + r.val → d ≤ 2 → h (ix2 R j) = past p s d j.val)
    (hu : ∀ k j, u (ix2 k j) = U k.val j.val) (j : Fin 256) : shortV (F := Ideal) x w h u (ix2 r j) = feature Y W (3328 + j.val) * conv3 U p s j.val := by
  have hs := s_apply x w Y W r hx hw
  have h0 := sub2_apply u 1 256 0 0 inb_S3x256_S1x256_0_0 U hu
  have h1 := sub2_apply u 1 256 1 0 inb_S3x256_S1x256_1_0 U hu
  have h2 := sub2_apply u 1 256 2 0 inb_S3x256_S1x256_2_0 U hu
  unfold shortV k0_pay15
  generalize sub2 u 1 256 0 0 _ = u0 at h0 ⊢
  generalize sub2 u 1 256 1 0 _ = u1 at h1 ⊢
  generalize sub2 u 1 256 2 0 _ = u2 at h2 ⊢
  generalize k0_pay13 (F := Ideal) _ _ = v at hs ⊢
  pointwise [k0_pay16]
  simp only [h0, h1, h2, hs]
  rw [hp _ j 0 rfl, hp _ j 1 (by simp only; omega), hp _ j 2 (by simp only; omega)]
  · have e : U (2 + 0) (0 + j.val) * past p s 0 j.val + U (1 + 0) (0 + j.val) * past p s 1 j.val + U (0 + 0) (0 + j.val) * past p s 2 j.val = conv3 U p s j.val := by
      unfold conv3
      simp only [Nat.zero_add, Nat.add_zero, mul_comm (U _ _)]
      ac_rfl
    exact congrArg (feature Y W (3328 + j.val) * ·) e
  all_goals omega

end Cert.Proof.MI
end
-- ==== Proof.MI.Value.lean ====
/-
  The kernel of the fused input projection over the extended reals: its six results, row by row. A point's convolutions
  reach the rows before its tile through what the point before left.
-/
module

public import proofs.«01_k».proof.Proof.MI.First
public import proofs.«01_k».proof.Proof.MI.Next
public import proofs.«01_k».proof.Proof.MI.Pay
public import proofs.«01_k».proof.Proof.TI.Value

@[expose] public section

set_option maxRecDepth 16384

noncomputable section

namespace Cert.Proof.MI

open Cert.MixIdeal Cert.MixIdeal.Gen
open Idealize.ShloMosaic Idealize.ShloMosaic.Tactic
open Cert.Proof.Tail Cert.Proof.Mix
open Cert.Proof.TI (sub2 sub2_apply)

/-- The column of the projection's weights that column `n` of the widened weights repeats. -/
def col (n : ℕ) : ℕ := if n < 2816 then n else if n < 3072 then 2816 + (n - 2816) / 64 else if n < 3328 then 2820 + (n - 3072) / 64 else n - 504

theorem col_lo {n : ℕ} (h : n < 2816) : col n = n := if_pos h
theorem col_a {j : ℕ} (h : j < 256) : col (2816 + j) = 2816 + j / 64 := by unfold col; rw [if_neg (by omega), if_pos (by omega)]; omega
theorem col_b {j : ℕ} (h : j < 256) : col (3072 + j) = 2820 + j / 64 := by unfold col; rw [if_neg (by omega), if_neg (by omega), if_pos (by omega)]; omega
theorem col_hi {n : ℕ} (h : 3328 ≤ n) : col n = n - 504 := by unfold col; rw [if_neg (by omega), if_neg (by omega), if_neg (by omega)]

/-- The widened weights. -/
def wide (w : FVec Ideal S1024x3592 .f32) : FVec Ideal S1024x4096 .bf16 :=
  truncf .bf16 (concatenate S1024x4096 1 [⟨S1024x2816, extractStridedSlice S1024x2816 ![0, 0] w slices_S1024x3592_S1024x2816_0_0⟩,
    ⟨S1024x256, shapeCast S1024x256 (broadcastInDim S1024x4x64 ![0, 1] bcast_S1024x4_S1024x4x64_0_1 (extractStridedSlice S1024x4 ![0, 2816] w slices_S1024x3592_S1024x4_0_2816)) shapeCasts_S1024x4x64_S1024x256⟩,
    ⟨S1024x256, shapeCast S1024x256 (broadcastInDim S1024x4x64 ![0, 1] bcast_S1024x4_S1024x4x64_0_1 (extractStridedSlice S1024x4 ![0, 2820] w slices_S1024x3592_S1024x4_0_2820)) shapeCasts_S1024x4x64_S1024x256⟩,
    ⟨S1024x768, extractStridedSlice S1024x768 ![0, 2824] w slices_S1024x3592_S1024x768_0_2824⟩]
    concatenates_S1024x2816_S1024x256_S1024x256_S1024x768_S1024x4096_d1) bitsLt_bf16_f32

theorem wide_apply (w : FVec Ideal S1024x3592 .f32) (k : Fin 1024) (n : Fin 4096) : wide w (ix2 k n) = at2 w k.val (col n.val) := by
  pointwise [wide]
  split <;> rename_i h1
  · exact at2_of _ _ rfl (col_lo h1).symm
  · split <;> rename_i h2
    · exact at2_of _ _ rfl (by show 2816 + (n.val - 2816) / 64 = _; unfold col; rw [if_neg (by omega), if_pos (by omega)])
    · split <;> rename_i h3
      · exact at2_of _ _ rfl (by show 2820 + (n.val - 2816 - 256) / 64 = _; unfold col; rw [if_neg (by omega), if_neg (by omega), if_pos (by omega)]; omega)
      · exact at2_of _ _ rfl (by show 2824 + (n.val - 2816 - 256 - 256) = _; rw [col_hi (by omega)]; omega)

variable (m : (ℓ : Loc nD τ sig) → Buf (Elt Ideal) ℓ)

theorem V_v0 (c : Dev nD) : V (F := Ideal) m c main_v0 = shapeCast S32768x1024 (m ((c.tc : Thread nD τ).loc main_arg0)) shapeCasts_S4x8192x1024_S32768x1024 := by
  show StableHlo.after hostOps0 (fun b => m (c, b)) (Proc.devRef .tc main_v0) = _
  after_results
  rfl

theorem V_v10 (c : Dev nD) : V (F := Ideal) m c main_v10 = wide (m ((c.tc : Thread nD τ).loc main_arg1)) := by
  show StableHlo.after hostOps0 (fun b => m (c, b)) (Proc.devRef .tc main_v10) = _
  after_results
  rfl

theorem index0 : ∀ t : Fin cfg0.N, win0_0.index t = ![t.val, 0] := by decide +kernel
theorem index1 : ∀ t, win0_1.index t = ![0, 0] := by decide +kernel
theorem index2 : ∀ t, win0_2.index t = ![0, 0] := by decide +kernel
theorem index3 : ∀ t, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![t.val, 0] := by decide +kernel

/-- The tokens and the projection's weights. -/
abbrev X (c : Dev nD) : (⟨3, ![4, 8192, 1024]⟩ : Shape).Idx → EReal := m ((c.tc : Thread nD τ).loc main_arg0)
abbrev W (c : Dev nD) : (⟨2, ![1024, 3592]⟩ : Shape).Idx → EReal := m ((c.tc : Thread nD τ).loc main_arg1)
abbrev U (c : Dev nD) : (⟨2, ![4, 1536]⟩ : Shape).Idx → EReal := m ((c.tc : Thread nD τ).loc main_arg2)
abbrev T (c : Dev nD) : (⟨2, ![3, 256]⟩ : Shape).Idx → EReal := m ((c.tc : Thread nD τ).loc main_arg3)

theorem blk0 (c : Dev nD) (t : Fin cfg0.N) (r : Fin 512) (k : Fin 1024) : iblk (F := Ideal) m c 0 t (ix2 r k)
      = at3 (X m c) ((512 * t.val + r.val) / 8192) ((512 * t.val + r.val) % 8192) k.val := by
  blk_simp [iblk]
  rw [V_v0]
  refine TI.flat1024 _ _ _ ?_ ?_
  · blk_simp [index0]; show _ * 512 + r.val = _; omega
  · blk_simp [index0]

/-- The widened weights' entries. -/
def wcol (c : Dev nD) (k n : ℕ) : EReal := at2 (W m c) k (col n)

theorem blk1 (c : Dev nD) (t : Fin cfg0.N) (k : Fin 1024) (n : Fin 4096) : iblk (F := Ideal) m c 1 t (ix2 k n) = wcol m c k.val n.val := by
  blk_simp [iblk]
  rw [V_v10]
  refine Eq.trans (congrArg (wide _) (funext fun a => Fin.ext ?_)) (wide_apply _ k n)
  match a with
  | ⟨0, _⟩ => blk_simp [index1]
  | ⟨1, _⟩ => blk_simp [index1]

theorem blk2 (c : Dev nD) (t : Fin cfg0.N) (r : Fin 4) (k : Fin 1536) : iblk (F := Ideal) m c 2 t (ix2 r k) = at2 (U m c) r.val k.val := by
  blk_simp [iblk]
  rw [V_main_arg2]
  refine at2_of _ _ ?_ ?_ <;> blk_simp [index2]

theorem blk3 (c : Dev nD) (t : Fin cfg0.N) (r : Fin 3) (k : Fin 256) : iblk (F := Ideal) m c 3 t (ix2 r k) = at2 (T m c) r.val k.val := by
  blk_simp [iblk]
  rw [V_main_arg3]
  refine at2_of _ _ ?_ ?_ <;> blk_simp [index3]

/-- A feature by the widened weights is the feature of the column repeated. -/
theorem feature_wcol (c : Dev nD) (b s n : ℕ) : feature (at3 (X m c) b s) (wcol m c) n = proj (X m c) (W m c) b s (col n) := rfl

/-- The delta rule's columns of a point's tile. -/
theorem tile0 (c : Dev nD) (t : Fin cfg0.N) (r : Fin 512) (j : Fin 1536) : gV (F := Ideal) (iblk m c 0 t) (iblk m c 1 t) (ix2 r j)
    = proj (X m c) (W m c) ((512 * t.val + r.val) / 8192) ((512 * t.val + r.val) % 8192) (768 + j.val) := by
  refine (gV_apply _ _ _ _ r (blk0 m c t r) (blk1 m c t) j).trans ?_
  rw [feature_wcol, col_lo (by omega)]

/-- The short convolution's columns of a point's tile. -/
theorem tile1 (c : Dev nD) (t : Fin cfg0.N) (r : Fin 512) (j : Fin 256) : qV (F := Ideal) (iblk m c 0 t) (iblk m c 1 t) (ix2 r j)
    = proj (X m c) (W m c) ((512 * t.val + r.val) / 8192) ((512 * t.val + r.val) % 8192) (3080 + j.val)
      * proj (X m c) (W m c) ((512 * t.val + r.val) / 8192) ((512 * t.val + r.val) % 8192) (3336 + j.val) := by
  refine (qV_apply _ _ _ _ r (blk0 m c t r) (blk1 m c t) j).trans ?_
  rw [feature_wcol, feature_wcol, col_hi (by omega), col_hi (by omega), show 3584 + j.val - 504 = 3080 + j.val from by omega,
    show 3840 + j.val - 504 = 3336 + j.val from by omega]

/-- What a point leaves of its tile's delta-rule columns. -/
theorem left0 (c : Dev nD) (t : Fin cfg0.N) (R : Fin 520) (r : Fin 512) (j : Fin 1536) (h : R.val = 8 + r.val) :
    (outsAt0 (F := Ideal) m c t.val t.isLt).2.2.2.2.2.2.1 (ix2 R j)
      = proj (X m c) (W m c) ((512 * t.val + r.val) / 8192) ((512 * t.val + r.val) % 8192) (768 + j.val) := by
  by_cases h0 : t.val % 16 = 0
  · rw [carry0_first m c t h0, hist0_tile _ _ R r j h, tile0]
  · rw [carry0_next m c t h0 (by have := t.isLt; omega), hist0_tile _ _ R r j h, tile0]

/-- What a point leaves of its tile's short-convolution columns. -/
theorem left1 (c : Dev nD) (t : Fin cfg0.N) (R : Fin 520) (r : Fin 512) (j : Fin 256) (h : R.val = 8 + r.val) :
    (outsAt0 (F := Ideal) m c t.val t.isLt).2.2.2.2.2.2.2 (ix2 R j)
      = proj (X m c) (W m c) ((512 * t.val + r.val) / 8192) ((512 * t.val + r.val) % 8192) (3080 + j.val)
        * proj (X m c) (W m c) ((512 * t.val + r.val) / 8192) ((512 * t.val + r.val) % 8192) (3336 + j.val) := by
  by_cases h0 : t.val % 16 = 0
  · rw [carry1_first m c t h0, hist1_tile _ _ R r j h, tile1]
  · rw [carry1_next m c t h0 (by have := t.isLt; omega), hist1_tile _ _ R r j h, tile1]

/-- The rows a point's delta-rule convolution reads. -/
theorem seen0 (c : Dev nD) (t : Fin cfg0.N) (r : Fin 512) (R : Fin 520) (j : Fin 1536) (d : ℕ) (hR : R.val + d = 8 + r.val) (hd : d ≤ 3) :
    (outsAt0 (F := Ideal) m c t.val t.isLt).2.2.2.2.2.2.1 (ix2 R j)
      = past (fun s k => proj (X m c) (W m c) ((512 * t.val + r.val) / 8192) s (768 + k)) ((512 * t.val + r.val) % 8192) d j.val := by
  have hN : t.val < 64 := lt_of_lt_of_eq t.isLt N_0
  unfold past
  by_cases h : d ≤ r.val
  · rw [left0 m c t R ⟨r.val - d, by omega⟩ j (by simp only; omega), if_pos (by omega)]
    exact congrArg₂ (proj (X m c) (W m c) · · (768 + j.val)) (by simp only; omega) (by simp only; omega)
  · by_cases h0 : t.val % 16 = 0
    · rw [carry0_first m c t h0, hist0_top _ _ R ⟨R.val, by omega⟩ j rfl, if_neg (by omega)]
      pointwise [k0_pay3]
    · have ht : t.val - 1 < cfg0.N := by have := t.isLt; omega
      rw [carry0_next m c t h0 ht, hist0_top _ _ R ⟨R.val, by omega⟩ j rfl, if_pos (by omega)]
      have hs := sub2_apply (A := 520) (B := 1536) (f := .f32) (outsAt0 (F := Ideal) m c (t.val - 1) ht).2.2.2.2.2.2.1 8 1536 512 0 inb_S520x1536_S8x1536_512_0
        (at2 (outsAt0 (F := Ideal) m c (t.val - 1) ht).2.2.2.2.2.2.1) (fun i k => (at2_val _ i k).symm) ⟨R.val, by omega⟩ j
      unfold last0
      generalize sub2 (F := Ideal) (A := 520) (B := 1536) (f := .f32) (outsAt0 (F := Ideal) m c (t.val - 1) ht).2.2.2.2.2.2.1 8 1536 512 0 _ = q at hs ⊢
      have e := left0 m c ⟨t.val - 1, ht⟩ ⟨512 + R.val, by omega⟩ ⟨504 + R.val, by omega⟩ j (by simp only; omega)
      pointwise [k0_pay5]
      refine hs.trans (Eq.trans ?_ (e.trans ?_))
      · exact (congrArg (at2 _ _) (Nat.zero_add j.val)).trans
          (at2_val (A := 520) (B := 1536) (outsAt0 (F := Ideal) m c (t.val - 1) ht).2.2.2.2.2.2.1 ⟨512 + R.val, by omega⟩ j)
      · rw [show (512 * (t.val - 1) + (504 + R.val)) / 8192 = (512 * t.val + r.val) / 8192 from by omega,
          show (512 * (t.val - 1) + (504 + R.val)) % 8192 = (512 * t.val + r.val) % 8192 - d from by omega]

/-- The rows a point's short convolution reads. -/
theorem seen1 (c : Dev nD) (t : Fin cfg0.N) (r : Fin 512) (R : Fin 520) (j : Fin 256) (d : ℕ) (hR : R.val + d = 8 + r.val) (hd : d ≤ 2) :
    (outsAt0 (F := Ideal) m c t.val t.isLt).2.2.2.2.2.2.2 (ix2 R j)
      = past (fun s k => proj (X m c) (W m c) ((512 * t.val + r.val) / 8192) s (3080 + k) * proj (X m c) (W m c) ((512 * t.val + r.val) / 8192) s (3336 + k)) ((512 * t.val + r.val) % 8192) d j.val := by
  have hN : t.val < 64 := lt_of_lt_of_eq t.isLt N_0
  unfold past
  by_cases h : d ≤ r.val
  · rw [left1 m c t R ⟨r.val - d, by omega⟩ j (by simp only; omega), if_pos (by omega)]
    exact congrArg₂ (fun b s => proj (X m c) (W m c) b s (3080 + j.val) * proj (X m c) (W m c) b s (3336 + j.val)) (by simp only; omega) (by simp only; omega)
  · by_cases h0 : t.val % 16 = 0
    · rw [carry1_first m c t h0, hist1_top _ _ R ⟨R.val, by omega⟩ j rfl, if_neg (by omega)]
      pointwise [k0_pay4]
    · have ht : t.val - 1 < cfg0.N := by have := t.isLt; omega
      rw [carry1_next m c t h0 ht, hist1_top _ _ R ⟨R.val, by omega⟩ j rfl, if_pos (by omega)]
      have hs := sub2_apply (A := 520) (B := 256) (f := .f32) (outsAt0 (F := Ideal) m c (t.val - 1) ht).2.2.2.2.2.2.2 8 256 512 0 inb_S520x256_S8x256_512_0
        (at2 (outsAt0 (F := Ideal) m c (t.val - 1) ht).2.2.2.2.2.2.2) (fun i k => (at2_val _ i k).symm) ⟨R.val, by omega⟩ j
      unfold last1
      generalize sub2 (F := Ideal) (A := 520) (B := 256) (f := .f32) (outsAt0 (F := Ideal) m c (t.val - 1) ht).2.2.2.2.2.2.2 8 256 512 0 _ = q at hs ⊢
      have e := left1 m c ⟨t.val - 1, ht⟩ ⟨512 + R.val, by omega⟩ ⟨504 + R.val, by omega⟩ j (by simp only; omega)
      pointwise [k0_pay6]
      refine hs.trans (Eq.trans ?_ (e.trans ?_))
      · exact (congrArg (at2 _ _) (Nat.zero_add j.val)).trans
          (at2_val (A := 520) (B := 256) (outsAt0 (F := Ideal) m c (t.val - 1) ht).2.2.2.2.2.2.2 ⟨512 + R.val, by omega⟩ j)
      · rw [show (512 * (t.val - 1) + (504 + R.val)) / 8192 = (512 * t.val + r.val) / 8192 from by omega,
          show (512 * (t.val - 1) + (504 + R.val)) % 8192 = (512 * t.val + r.val) % 8192 - d from by omega]

section Rows

variable (c : Dev nD) (t : Fin cfg0.N) (r : Fin 512)

theorem rows_row (j : Fin 768) : (outsAt0 (F := Ideal) m c t.val t.isLt).1 (ix2 r j) = rowsAt (X m c) (W m c) ((512 * t.val + r.val) / 8192) ((512 * t.val + r.val) % 8192) j.val := by
  have e := rows_apply (iblk m c 0 t) (iblk m c 1 t) _ _ r (blk0 m c t r) (blk1 m c t) j
  rw [feature_wcol, col_lo (by omega)] at e
  by_cases h0 : t.val % 16 = 0
  · rw [rows_first m c t h0]; exact e
  · rw [rows_next m c t h0 (by have := t.isLt; omega)]; exact e

theorem z_row (j : Fin 512) : (outsAt0 (F := Ideal) m c t.val t.isLt).2.2.1 (ix2 r j) = zAt (X m c) (W m c) ((512 * t.val + r.val) / 8192) ((512 * t.val + r.val) % 8192) j.val := by
  have e := z_apply (iblk m c 0 t) (iblk m c 1 t) _ _ r (blk0 m c t r) (blk1 m c t) j
  rw [feature_wcol, col_lo (by omega)] at e
  by_cases h0 : t.val % 16 = 0
  · rw [z_first m c t h0]; exact e
  · rw [z_next m c t h0 (by have := t.isLt; omega)]; exact e

theorem a_row (j : Fin 256) : (outsAt0 (F := Ideal) m c t.val t.isLt).2.2.2.1 (ix2 r j) = aAt (X m c) (W m c) ((512 * t.val + r.val) / 8192) ((512 * t.val + r.val) % 8192) j.val := by
  have e := a_apply (iblk m c 0 t) (iblk m c 1 t) _ _ r (blk0 m c t r) (blk1 m c t) j
  rw [feature_wcol, col_a j.isLt] at e
  by_cases h0 : t.val % 16 = 0
  · rw [a_first m c t h0]; exact e
  · rw [a_next m c t h0 (by have := t.isLt; omega)]; exact e

theorem b_row (j : Fin 256) : (outsAt0 (F := Ideal) m c t.val t.isLt).2.2.2.2.1 (ix2 r j) = bAt (X m c) (W m c) ((512 * t.val + r.val) / 8192) ((512 * t.val + r.val) % 8192) j.val := by
  have e := b_apply (iblk m c 0 t) (iblk m c 1 t) _ _ r (blk0 m c t r) (blk1 m c t) j
  rw [feature_wcol, col_b j.isLt] at e
  by_cases h0 : t.val % 16 = 0
  · rw [b_first m c t h0]; exact e
  · rw [b_next m c t h0 (by have := t.isLt; omega)]; exact e

theorem delta_row (j : Fin 1536) : (outsAt0 (F := Ideal) m c t.val t.isLt).2.1 (ix2 r j) = deltaAt (X m c) (W m c) (U m c) ((512 * t.val + r.val) / 8192) ((512 * t.val + r.val) % 8192) j.val := by
  have hp := fun R j d h h' => seen0 m c t r R j d h h'
  by_cases h0 : t.val % 16 = 0
  · rw [carry0_first m c t h0] at hp
    rw [delta_first m c t h0]
    have ha := actV_apply _ _ _ (iblk m c 2 t) r _ hp (blk2 m c t)
    exact pieces_apply (fun j => silu (conv4 (at2 (U m c)) _ _ j)) _ _ r ha (head0_apply _ _ _ r ha) j
  · have ht : t.val - 1 < cfg0.N := by have := t.isLt; omega
    rw [carry0_next m c t h0 ht] at hp
    rw [delta_next m c t h0 ht]
    have ha := actV_apply _ _ _ (iblk m c 2 t) r _ hp (blk2 m c t)
    exact pieces_apply (fun j => silu (conv4 (at2 (U m c)) _ _ j)) _ _ r ha (head0_apply _ _ _ r ha) j

theorem short_row (j : Fin 256) : (outsAt0 (F := Ideal) m c t.val t.isLt).2.2.2.2.2.1 (ix2 r j) = shortAt (X m c) (W m c) (T m c) ((512 * t.val + r.val) / 8192) ((512 * t.val + r.val) % 8192) j.val := by
  have hp := fun R j d h h' => seen1 m c t r R j d h h'
  have hc : feature (at3 (X m c) ((512 * t.val + r.val) / 8192) ((512 * t.val + r.val) % 8192)) (wcol m c) (3328 + j.val)
      = proj (X m c) (W m c) ((512 * t.val + r.val) / 8192) ((512 * t.val + r.val) % 8192) (2824 + j.val) := by
    rw [feature_wcol, col_hi (by omega), show 3328 + j.val - 504 = 2824 + j.val from by omega]
  by_cases h0 : t.val % 16 = 0
  · rw [carry1_first m c t h0] at hp
    rw [short_first m c t h0]
    refine (shortV_apply _ _ _ _ _ _ r (blk0 m c t r) (blk1 m c t) _ _ _ hp (blk3 m c t) j).trans ?_
    rw [hc]; rfl
  · have ht : t.val - 1 < cfg0.N := by have := t.isLt; omega
    rw [carry1_next m c t h0 ht] at hp
    rw [short_next m c t h0 ht]
    refine (shortV_apply _ _ _ _ _ _ r (blk0 m c t r) (blk1 m c t) _ _ _ hp (blk3 m c t) j).trans ?_
    rw [hc]; rfl

end Rows

theorem rows_arr (c : Dev nD) : (dats (F := Ideal) m 0 c).arrAt 4 cfg0.N = table (rowsAt (X m c) (W m c)) := by
  refine (dats (F := Ideal) m 0 c).arrAt_eq_of_covers 4 _ (by decide +kernel) fun t _ y => ?_
  blk_simp
  rw [after0_4]
  obtain ⟨r, j, rfl⟩ : ∃ (r : Fin 512) (j : Fin 768), y = ix2 r j := ⟨y 0, y 1, by funext a; fin_cases a <;> rfl⟩
  have e0 : ((win0_4.blk t).view.emb (ix2 r j) 0).val = 512 * t.val + r.val := by blk_simp [index4]; show _ * 512 + r.val = _; omega
  have e1 : ((win0_4.blk t).view.emb (ix2 r j) 1).val = j.val := by blk_simp [index4]
  refine (rows_row m c t r j).trans ?_
  unfold table
  exact (congrArg₂ (fun n k => (rowsAt (X m c) (W m c)) (n / 8192) (n % 8192) k) e0 e1).symm

theorem delta_arr (c : Dev nD) : (dats (F := Ideal) m 0 c).arrAt 5 cfg0.N = table (deltaAt (X m c) (W m c) (U m c)) := by
  refine (dats (F := Ideal) m 0 c).arrAt_eq_of_covers 5 _ (by decide +kernel) fun t _ y => ?_
  blk_simp
  rw [after0_5]
  obtain ⟨r, j, rfl⟩ : ∃ (r : Fin 512) (j : Fin 1536), y = ix2 r j := ⟨y 0, y 1, by funext a; fin_cases a <;> rfl⟩
  have e0 : ((win0_5.blk t).view.emb (ix2 r j) 0).val = 512 * t.val + r.val := by blk_simp [index5]; show _ * 512 + r.val = _; omega
  have e1 : ((win0_5.blk t).view.emb (ix2 r j) 1).val = j.val := by blk_simp [index5]
  refine (delta_row m c t r j).trans ?_
  unfold table
  exact (congrArg₂ (fun n k => (deltaAt (X m c) (W m c) (U m c)) (n / 8192) (n % 8192) k) e0 e1).symm

theorem z_arr (c : Dev nD) : (dats (F := Ideal) m 0 c).arrAt 6 cfg0.N = table (zAt (X m c) (W m c)) := by
  refine (dats (F := Ideal) m 0 c).arrAt_eq_of_covers 6 _ (by decide +kernel) fun t _ y => ?_
  blk_simp
  rw [after0_6]
  obtain ⟨r, j, rfl⟩ : ∃ (r : Fin 512) (j : Fin 512), y = ix2 r j := ⟨y 0, y 1, by funext a; fin_cases a <;> rfl⟩
  have e0 : ((win0_6.blk t).view.emb (ix2 r j) 0).val = 512 * t.val + r.val := by blk_simp [index6]; show _ * 512 + r.val = _; omega
  have e1 : ((win0_6.blk t).view.emb (ix2 r j) 1).val = j.val := by blk_simp [index6]
  refine (z_row m c t r j).trans ?_
  unfold table
  exact (congrArg₂ (fun n k => (zAt (X m c) (W m c)) (n / 8192) (n % 8192) k) e0 e1).symm

theorem a_arr (c : Dev nD) : (dats (F := Ideal) m 0 c).arrAt 7 cfg0.N = table (aAt (X m c) (W m c)) := by
  refine (dats (F := Ideal) m 0 c).arrAt_eq_of_covers 7 _ (by decide +kernel) fun t _ y => ?_
  blk_simp
  rw [after0_7]
  obtain ⟨r, j, rfl⟩ : ∃ (r : Fin 512) (j : Fin 256), y = ix2 r j := ⟨y 0, y 1, by funext a; fin_cases a <;> rfl⟩
  have e0 : ((win0_7.blk t).view.emb (ix2 r j) 0).val = 512 * t.val + r.val := by blk_simp [index7]; show _ * 512 + r.val = _; omega
  have e1 : ((win0_7.blk t).view.emb (ix2 r j) 1).val = j.val := by blk_simp [index7]
  refine (a_row m c t r j).trans ?_
  unfold table
  exact (congrArg₂ (fun n k => (aAt (X m c) (W m c)) (n / 8192) (n % 8192) k) e0 e1).symm

theorem b_arr (c : Dev nD) : (dats (F := Ideal) m 0 c).arrAt 8 cfg0.N = table (bAt (X m c) (W m c)) := by
  refine (dats (F := Ideal) m 0 c).arrAt_eq_of_covers 8 _ (by decide +kernel) fun t _ y => ?_
  blk_simp
  rw [after0_8]
  obtain ⟨r, j, rfl⟩ : ∃ (r : Fin 512) (j : Fin 256), y = ix2 r j := ⟨y 0, y 1, by funext a; fin_cases a <;> rfl⟩
  have e0 : ((win0_8.blk t).view.emb (ix2 r j) 0).val = 512 * t.val + r.val := by blk_simp [index8]; show _ * 512 + r.val = _; omega
  have e1 : ((win0_8.blk t).view.emb (ix2 r j) 1).val = j.val := by blk_simp [index8]
  refine (b_row m c t r j).trans ?_
  unfold table
  exact (congrArg₂ (fun n k => (bAt (X m c) (W m c)) (n / 8192) (n % 8192) k) e0 e1).symm

theorem short_arr (c : Dev nD) : (dats (F := Ideal) m 0 c).arrAt 9 cfg0.N = table (shortAt (X m c) (W m c) (T m c)) := by
  refine (dats (F := Ideal) m 0 c).arrAt_eq_of_covers 9 _ (by decide +kernel) fun t _ y => ?_
  blk_simp
  rw [after0_9]
  obtain ⟨r, j, rfl⟩ : ∃ (r : Fin 512) (j : Fin 256), y = ix2 r j := ⟨y 0, y 1, by funext a; fin_cases a <;> rfl⟩
  have e0 : ((win0_9.blk t).view.emb (ix2 r j) 0).val = 512 * t.val + r.val := by blk_simp [index9]; show _ * 512 + r.val = _; omega
  have e1 : ((win0_9.blk t).view.emb (ix2 r j) 1).val = j.val := by blk_simp [index9]
  refine (short_row m c t r j).trans ?_
  unfold table
  exact (congrArg₂ (fun n k => (shortAt (X m c) (W m c) (T m c)) (n / 8192) (n % 8192) k) e0 e1).symm

/-- The kernel: its six results are those of its arguments, which are unchanged. -/
theorem value (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v11_0) = table (rowsAt (X m c) (W m c))
      ∧ r.2.mem ((c.tc : Thread nD τ).loc main_v11_1) = table (deltaAt (X m c) (W m c) (U m c))
      ∧ r.2.mem ((c.tc : Thread nD τ).loc main_v11_2) = table (zAt (X m c) (W m c))
      ∧ r.2.mem ((c.tc : Thread nD τ).loc main_v11_3) = table (aAt (X m c) (W m c))
      ∧ r.2.mem ((c.tc : Thread nD τ).loc main_v11_4) = table (bAt (X m c) (W m c))
      ∧ r.2.mem ((c.tc : Thread nD τ).loc main_v11_5) = table (shortAt (X m c) (W m c) (T m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have ⟨h0, h1, h2, h3, h4, h5, ha⟩ := h c
    ⟨⟨h0.trans (rows_arr m c), h1.trans (delta_arr m c), h2.trans (z_arr m c), h3.trans (a_arr m c), h4.trans (b_arr m c), h5.trans (short_arr m c)⟩, ha⟩)
    (Cert.MixIdeal.Value.run_blocks m ρ)

end Cert.Proof.MI
end
-- ==== Proof.MI.Ref.lean ====
/-
  The reference of the fused input projection over the extended reals, row by row.
-/
module

public import proofs.«01_k».proof.Proof.Gen.MixReferenceIdeal
public import proofs.«01_k».proof.Proof.TI.Ref
public import proofs.«01_k».proof.Proof.MI.Rows

@[expose] public section

set_option maxRecDepth 16384

noncomputable section

namespace Cert.Proof.MixRef

open Cert.MixReferenceIdeal Cert.MixReferenceIdeal.Gen
open Idealize.ShloMosaic Idealize.ShloMosaic.StableHlo
open Cert.Proof.Tail Cert.Proof.Mix
open Cert.Proof.TailRef (one_f32)

/-- The projected features. -/
def projA (x : FVec Ideal S4x8192x1024 .f32) (w : FVec Ideal S1024x3592 .f32) : FVec Ideal S4x8192x3592 .f32 :=
  Host.dotGeneral dot_S4x8192x1024_S1024x3592_S4x8192x3592_2_0_01_1_n_n none x w

/-- The zero the sequences are padded with. -/
def pad0 : FVec Ideal S_ .f32 := sitofp .f32 (constantI S_ 32 0#32)

/-- The delta rule's columns after three rows of zeros. -/
def padG (x : FVec Ideal S4x8192x1536 .f32) : FVec Ideal S4x8195x1536 .f32 :=
  pad S4x8195x1536 ![0, 3, 0] ![0, 0, 0] ![0, 0, 0] x pad0 pads_S4x8192x1536_S4x8195x1536_000_300_000 h_S_

/-- The short convolution's columns after two rows of zeros. -/
def padS (x : FVec Ideal S4x8192x256 .f32) : FVec Ideal S4x8194x256 .f32 :=
  pad S4x8194x256 ![0, 2, 0] ![0, 0, 0] ![0, 0, 0] x pad0 pads_S4x8192x256_S4x8194x256_000_200_000 h_S_

/-- One tap's weights, for every token. -/
def spreadG (g : FVec Ideal S1x1536 .f32) : FVec Ideal S4x8192x1536 .f32 :=
  broadcastInDim S4x8192x1536 ![0, 1, 2] bcast_S1x1x1536_S4x8192x1536_0_1_2
    (broadcastInDim S1x1x1536 ![2] bcast_S1536_S1x1x1536_2 (shapeCast _ g shapeCasts_S1x1536_S1536))

/-- One tap's weights of the short convolution, for every token. -/
def spreadS (g : FVec Ideal S1x256 .f32) : FVec Ideal S4x8192x256 .f32 :=
  broadcastInDim S4x8192x256 ![0, 1, 2] bcast_S1x1x256_S4x8192x256_0_1_2
    (broadcastInDim S1x1x256 ![2] bcast_S256_S1x1x256_2 (shapeCast _ g shapeCasts_S1x256_S256))

/-- The four taps over the padded columns. -/
def convG (y : FVec Ideal S4x8195x1536 .f32) (w : FVec Ideal S4x1536 .f32) : FVec Ideal S4x8192x1536 .f32 :=
  addf (addf (addf (addf (broadcastInDim S4x8192x1536 ![] bcast_S_S4x8192x1536 (constant S_ .f32 0x00000000#32))
    (mulf (extractStridedSlice S4x8192x1536 ![0, 0, 0] y slices_S4x8195x1536_S4x8192x1536_0_0_0) (spreadG (extractStridedSlice S1x1536 ![0, 0] w slices_S4x1536_S1x1536_0_0))))
    (mulf (extractStridedSlice S4x8192x1536 ![0, 1, 0] y slices_S4x8195x1536_S4x8192x1536_0_1_0) (spreadG (extractStridedSlice S1x1536 ![1, 0] w slices_S4x1536_S1x1536_1_0))))
    (mulf (extractStridedSlice S4x8192x1536 ![0, 2, 0] y slices_S4x8195x1536_S4x8192x1536_0_2_0) (spreadG (extractStridedSlice S1x1536 ![2, 0] w slices_S4x1536_S1x1536_2_0))))
    (mulf (extractStridedSlice S4x8192x1536 ![0, 3, 0] y slices_S4x8195x1536_S4x8192x1536_0_3_0) (spreadG (extractStridedSlice S1x1536 ![3, 0] w slices_S4x1536_S1x1536_3_0)))

/-- The three taps over the padded columns. -/
def convS (y : FVec Ideal S4x8194x256 .f32) (w : FVec Ideal S3x256 .f32) : FVec Ideal S4x8192x256 .f32 :=
  addf (addf (addf (broadcastInDim S4x8192x256 ![] bcast_S_S4x8192x256 (constant S_ .f32 0x00000000#32))
    (mulf (extractStridedSlice S4x8192x256 ![0, 0, 0] y slices_S4x8194x256_S4x8192x256_0_0_0) (spreadS (extractStridedSlice S1x256 ![0, 0] w slices_S3x256_S1x256_0_0))))
    (mulf (extractStridedSlice S4x8192x256 ![0, 1, 0] y slices_S4x8194x256_S4x8192x256_0_1_0) (spreadS (extractStridedSlice S1x256 ![1, 0] w slices_S3x256_S1x256_1_0))))
    (mulf (extractStridedSlice S4x8192x256 ![0, 2, 0] y slices_S4x8194x256_S4x8192x256_0_2_0) (spreadS (extractStridedSlice S1x256 ![2, 0] w slices_S3x256_S1x256_2_0)))

/-- The activation of every element. -/
def siluA (c : FVec Ideal S4x8192x1536 .f32) : FVec Ideal S4x8192x1536 .f32 :=
  mulf c (Host.divf (broadcastInDim S4x8192x1536 ![] bcast_S_S4x8192x1536 (constant S_ .f32 0x3F800000#32))
    (addf (broadcastInDim S4x8192x1536 ![] bcast_S_S4x8192x1536 (constant S_ .f32 0x3F800000#32)) (Host.exp (Host.negf c))))

/-- Four heads, each brought to unit length. -/
def unitA (h : FVec Ideal S4x8192x4x128 .f32) : FVec Ideal S4x8192x4x128 .f32 :=
  mulf h (broadcastInDim S4x8192x4x128 ![0, 1, 2, 3] bcast_S4x8192x4x1_S4x8192x4x128_0_1_2_3
    (Host.rsqrt (addf (broadcastInDim S4x8192x4x1 ![0, 1, 2] bcast_S4x8192x4_S4x8192x4x1_0_1_2
      (Host.reduceAdd (mulf h h) (constant S_ .f32 0x00000000#32) reducesTo_S4x8192x4x128_S4x8192x4_d3 h_S_))
      (broadcastInDim S4x8192x4x1 ![] bcast_S_S4x8192x4x1 (constant S_ .f32 0x358637BD#32)))))

/-- A row of four heads, each brought to unit length. -/
def unitR (a : FVec Ideal S4x8192x512 .f32) : FVec Ideal S4x8192x512 .f32 :=
  shapeCast _ (unitA (shapeCast _ a shapeCasts_S4x8192x512_S4x8192x4x128)) shapeCasts_S4x8192x4x128_S4x8192x512

/-- Queries of unit length scaled, keys of unit length, values. -/
def headsA (a : FVec Ideal S4x8192x1536 .f32) : FVec Ideal S4x8192x1536 .f32 :=
  concatenate S4x8192x1536 2
    [⟨S4x8192x512, mulf (unitR (extractStridedSlice S4x8192x512 ![0, 0, 0] a slices_S4x8192x1536_S4x8192x512_0_0_0))
      (broadcastInDim S4x8192x512 ![] bcast_S_S4x8192x512 (constant S_ .f32 0x3DB504F3#32))⟩,
     ⟨S4x8192x512, unitR (extractStridedSlice S4x8192x512 ![0, 0, 512] a slices_S4x8192x1536_S4x8192x512_0_0_512)⟩,
     ⟨S4x8192x512, extractStridedSlice S4x8192x512 ![0, 0, 1024] a slices_S4x8192x1536_S4x8192x512_0_0_1024⟩]
    concatenates_S4x8192x512_S4x8192x512_S4x8192x512_S4x8192x1536_d2

/-- The delta rule's columns of every token. -/
def deltaA (p : FVec Ideal S4x8192x3592 .f32) (w : FVec Ideal S4x1536 .f32) : FVec Ideal S4x8192x1536 .f32 :=
  headsA (siluA (convG (padG (extractStridedSlice S4x8192x1536 ![0, 0, 768] p slices_S4x8192x3592_S4x8192x1536_0_0_768)) w))

/-- The short convolution's columns of every token. -/
def shortA (p : FVec Ideal S4x8192x768 .f32) (w : FVec Ideal S3x256 .f32) : FVec Ideal S4x8192x256 .f32 :=
  mulf (extractStridedSlice S4x8192x256 ![0, 0, 0] p slices_S4x8192x768_S4x8192x256_0_0_0)
    (convS (padS (mulf (extractStridedSlice S4x8192x256 ![0, 0, 256] p slices_S4x8192x768_S4x8192x256_0_0_256)
      (extractStridedSlice S4x8192x256 ![0, 0, 512] p slices_S4x8192x768_S4x8192x256_0_0_512))) w)

/-- The integer zero is the real zero. -/
theorem sitofp_zero : (FloatOps.sitofp (F := Ideal) .f32 (0#32) : EReal) = 0 := by
  simp [FloatOps.sitofp]

section Rows

variable (i : Fin 4) (s : Fin 8192)

theorem projA_apply (x : FVec Ideal S4x8192x1024 .f32) (w : FVec Ideal S1024x3592 .f32) (j : Fin 3592) :
    projA x w (ix3 i s j) = proj x w i.val s.val j.val := by
  pointwise [projA]
  unfold proj feature
  refine Finset.sum_congr rfl fun k _ => ?_
  rw [at3_val, at2_val]

theorem padG_apply (p : ℕ → ℕ → EReal) (x : FVec Ideal S4x8192x1536 .f32) (hx : ∀ (s : Fin 8192) (j : Fin 1536), x (ix3 i s j) = p s.val j.val)
    (r : Fin 8195) (j : Fin 1536) (d s : ℕ) (hr : r.val + d = s + 3) (hd : d ≤ 3) : padG x (ix3 i r j) = past p s d j.val := by
  pointwise [padG, pad0]
  unfold past
  by_cases h : d ≤ s
  · rw [dif_pos (by omega), if_pos h, hx]
    exact congrArg (p · j.val) (by show r.val - 3 = s - d; omega)
  · rw [dif_neg (by omega), if_neg h]
    exact sitofp_zero

theorem convG_apply (p : ℕ → ℕ → EReal) (x : FVec Ideal S4x8192x1536 .f32) (hx : ∀ (s : Fin 8192) (j : Fin 1536), x (ix3 i s j) = p s.val j.val)
    (w : FVec Ideal S4x1536 .f32) (j : Fin 1536) : convG (padG x) w (ix3 i s j) = conv4 (at2 w) p s.val j.val := by
  have hp := padG_apply i p x hx
  generalize padG x = y at hp
  pointwise [convG, spreadG]
  rw [hp _ j 3 s.val (by simp only), hp _ j 2 s.val (by simp only; omega), hp _ j 1 s.val (by simp only; omega), hp _ j 0 s.val (by simp only; omega)]
  · simp only [← at2_val w]
    rfl
  all_goals omega

theorem siluA_apply (c : FVec Ideal S4x8192x1536 .f32) (j : Fin 1536) : siluA c (ix3 i s j) = silu (c (ix3 i s j)) := by
  pointwise [siluA]
  rfl

theorem unitA_apply (h : FVec Ideal S4x8192x4x128 .f32) (n : Fin 4) (l : Fin 128) :
    unitA h (ix4 i s n l) = h (ix4 i s n l) * Ideal.rsqrt (∑ k : Fin 128, h (ix4 i s n k) * h (ix4 i s n k) + δ) := by
  pointwise [unitA]
  rfl

theorem unitR_apply (a : ℕ → EReal) (y : FVec Ideal S4x8192x512 .f32) (o : ℕ) (ho : o % 128 = 0) (hy : ∀ j : Fin 512, y (ix3 i s j) = a (o + j.val)) (j : Fin 512) :
    unitR y (ix3 i s j) = unit a (o + j.val) := by
  pointwise [unitR]
  rw [unitA_apply]
  have hc : ∀ k : Fin 128, shapeCast S4x8192x4x128 y shapeCasts_S4x8192x512_S4x8192x4x128 (ix4 i s ⟨j.val / 128, by omega⟩ k)
      = a ((o + j.val) / 128 * 128 + k.val) := fun k => by
    pointwise
    rw [hy]
    exact congrArg a (by show o + (j.val / 128 * 128 + k.val) = _; omega)
  simp only [hc]
  unfold unit
  rw [show (o + j.val) / 128 * 128 + j.val % 128 = o + j.val from by omega]

theorem headsA_apply (a : ℕ → EReal) (y : FVec Ideal S4x8192x1536 .f32) (hy : ∀ j : Fin 1536, y (ix3 i s j) = a j.val) (j : Fin 1536) :
    headsA y (ix3 i s j) = heads a j.val := by
  pointwise [headsA]
  have h0 := unitR_apply i s a (extractStridedSlice S4x8192x512 ![0, 0, 0] y slices_S4x8192x1536_S4x8192x512_0_0_0) 0 rfl fun k => by
    pointwise
    rw [hy]
  have h1 := unitR_apply i s a (extractStridedSlice S4x8192x512 ![0, 0, 512] y slices_S4x8192x1536_S4x8192x512_0_0_512) 512 rfl fun k => by
    pointwise
    rw [hy]
  unfold heads
  by_cases ha : j.val < 512
  · rw [dif_pos ha, if_pos ha, h0, Nat.zero_add]
    rfl
  · rw [dif_neg ha, if_neg ha]
    by_cases hb : j.val < 1024
    · rw [dif_pos (by omega), if_pos hb, h1]
      exact congrArg (unit a) (by simp only; omega)
    · rw [dif_neg (by omega), if_neg hb, hy]
      exact congrArg a (by simp only; omega)

theorem deltaA_apply (p : ℕ → ℕ → EReal) (y : FVec Ideal S4x8192x3592 .f32) (hy : ∀ (s : Fin 8192) (j : Fin 3592), y (ix3 i s j) = p s.val j.val)
    (w : FVec Ideal S4x1536 .f32) (j : Fin 1536) : deltaA y w (ix3 i s j) = delta (at2 w) p s.val j.val := by
  unfold deltaA delta
  refine headsA_apply i s _ _ (fun k => ?_) j
  rw [siluA_apply]
  refine congrArg silu (convG_apply i s (fun r k => p r (768 + k)) _ (fun r l => ?_) w k)
  pointwise
  rw [hy]

theorem padS_apply (p : ℕ → ℕ → EReal) (x : FVec Ideal S4x8192x256 .f32) (hx : ∀ (s : Fin 8192) (j : Fin 256), x (ix3 i s j) = p s.val j.val)
    (r : Fin 8194) (j : Fin 256) (d s : ℕ) (hr : r.val + d = s + 2) (hd : d ≤ 2) : padS x (ix3 i r j) = past p s d j.val := by
  pointwise [padS, pad0]
  unfold past
  by_cases h : d ≤ s
  · rw [dif_pos (by omega), if_pos h, hx]
    exact congrArg (p · j.val) (by show r.val - 2 = s - d; omega)
  · rw [dif_neg (by omega), if_neg h]
    exact sitofp_zero

theorem shortA_apply (p : ℕ → ℕ → EReal) (y : FVec Ideal S4x8192x768 .f32) (hy : ∀ (s : Fin 8192) (j : Fin 768), y (ix3 i s j) = p s.val (2824 + j.val))
    (w : FVec Ideal S3x256 .f32) (j : Fin 256) : shortA y w (ix3 i s j) = short (at2 w) p s.val j.val := by
  have hp := padS_apply i (fun r k => p r (3080 + k) * p r (3336 + k))
    (mulf (extractStridedSlice S4x8192x256 ![0, 0, 256] y slices_S4x8192x768_S4x8192x256_0_0_256)
      (extractStridedSlice S4x8192x256 ![0, 0, 512] y slices_S4x8192x768_S4x8192x256_0_0_512)) (fun r l => by
    pointwise
    rw [hy, hy]
    exact congrArg₂ (p r.val · * p r.val ·) (by simp only; omega) (by simp only; omega))
  unfold shortA
  generalize padS _ = q at hp ⊢
  pointwise [convS, spreadS]
  rw [hp _ j 2 s.val (by simp only), hp _ j 1 s.val (by simp only; omega), hp _ j 0 s.val (by simp only; omega), hy]
  · simp only [← at2_val w]
    rfl
  all_goals omega

end Rows

end Cert.Proof.MixRef
end
-- ==== Proof.MI.RefValue.lean ====
/-
  The reference of the fused input projection over the extended reals: each element of its six results.
-/
module

public import proofs.«01_k».proof.Proof.Gen.MixReferenceIdeal.Run
public import proofs.«01_k».proof.Proof.MI.Ref

@[expose] public section

set_option maxRecDepth 16384

noncomputable section

namespace Cert.Proof.MixRef

open Cert.MixReferenceIdeal Cert.MixReferenceIdeal.Gen
open Idealize.ShloMosaic Idealize.ShloMosaic.StableHlo
open Cert.Proof.Tail Cert.Proof.Mix

variable (x : FVec Ideal S4x8192x1024 .f32) (w : FVec Ideal S1024x3592 .f32) (u : FVec Ideal S4x1536 .f32) (v : FVec Ideal S3x256 .f32)
  (n : Fin 32768)

theorem rows_eq (j : Fin 768) :
    (truncf .bf16 (shapeCast S32768x768 (extractStridedSlice S4x8192x768 ![0, 0, 0] (projA x w) slices_S4x8192x3592_S4x8192x768_0_0_0) shapeCasts_S4x8192x768_S32768x768) bitsLt_bf16_f32 : FVec Ideal S32768x768 .bf16) (ix2 n j)
      = rowsAt x w (n.val / 8192) (n.val % 8192) j.val := by
  have hp := projA_apply ⟨n.val / 8192, by omega⟩ ⟨n.val % 8192, by omega⟩ x w
  generalize projA x w = p at hp ⊢
  pointwise
  exact hp _

theorem delta_eq (j : Fin 1536) :
    (truncf .bf16 (shapeCast S32768x1536 (deltaA (projA x w) u) shapeCasts_S4x8192x1536_S32768x1536) bitsLt_bf16_f32 : FVec Ideal S32768x1536 .bf16) (ix2 n j)
      = deltaAt x w u (n.val / 8192) (n.val % 8192) j.val := by
  have hp := deltaA_apply ⟨n.val / 8192, by omega⟩ ⟨n.val % 8192, by omega⟩ (proj x w (n.val / 8192)) (projA x w)
    (fun s k => projA_apply _ s x w k) u
  generalize deltaA (projA x w) u = p at hp ⊢
  pointwise
  exact hp _

theorem z_eq (j : Fin 512) :
    (shapeCast S32768x512 (extractStridedSlice S4x8192x512 ![0, 0, 2304] (projA x w) slices_S4x8192x3592_S4x8192x512_0_0_2304) shapeCasts_S4x8192x512_S32768x512 : FVec Ideal S32768x512 .f32) (ix2 n j)
      = zAt x w (n.val / 8192) (n.val % 8192) j.val := by
  have hp := projA_apply ⟨n.val / 8192, by omega⟩ ⟨n.val % 8192, by omega⟩ x w
  generalize projA x w = p at hp ⊢
  pointwise
  exact hp _

theorem a_eq (j : Fin 256) :
    (shapeCast S32768x256 (broadcastInDim S32768x4x64 ![0, 1] bcast_S32768x4_S32768x4x64_0_1 (shapeCast S32768x4 (extractStridedSlice S4x8192x4 ![0, 0, 2816] (projA x w) slices_S4x8192x3592_S4x8192x4_0_0_2816) shapeCasts_S4x8192x4_S32768x4)) shapeCasts_S32768x4x64_S32768x256 : FVec Ideal S32768x256 .f32) (ix2 n j)
      = aAt x w (n.val / 8192) (n.val % 8192) j.val := by
  have hp := projA_apply ⟨n.val / 8192, by omega⟩ ⟨n.val % 8192, by omega⟩ x w
  generalize projA x w = p at hp ⊢
  pointwise
  exact hp _

theorem b_eq (j : Fin 256) :
    (shapeCast S32768x256 (broadcastInDim S32768x4x64 ![0, 1] bcast_S32768x4_S32768x4x64_0_1 (shapeCast S32768x4 (extractStridedSlice S4x8192x4 ![0, 0, 2820] (projA x w) slices_S4x8192x3592_S4x8192x4_0_0_2820) shapeCasts_S4x8192x4_S32768x4)) shapeCasts_S32768x4x64_S32768x256 : FVec Ideal S32768x256 .f32) (ix2 n j)
      = bAt x w (n.val / 8192) (n.val % 8192) j.val := by
  have hp := projA_apply ⟨n.val / 8192, by omega⟩ ⟨n.val % 8192, by omega⟩ x w
  generalize projA x w = p at hp ⊢
  pointwise
  exact hp _

theorem short_eq (j : Fin 256) :
    (truncf .bf16 (shapeCast S32768x256 (shortA (extractStridedSlice S4x8192x768 ![0, 0, 2824] (projA x w) slices_S4x8192x3592_S4x8192x768_0_0_2824) v) shapeCasts_S4x8192x256_S32768x256) bitsLt_bf16_f32 : FVec Ideal S32768x256 .bf16) (ix2 n j)
      = shortAt x w v (n.val / 8192) (n.val % 8192) j.val := by
  have hq : ∀ (s : Fin 8192) (k : Fin 768), (extractStridedSlice S4x8192x768 ![0, 0, 2824] (projA x w) slices_S4x8192x3592_S4x8192x768_0_0_2824) (ix3 ⟨n.val / 8192, by omega⟩ s k)
      = proj x w (n.val / 8192) s.val (2824 + k.val) := fun s k => by
    have hp := projA_apply ⟨n.val / 8192, by omega⟩ s x w
    generalize projA x w = p at hp ⊢
    pointwise
    exact hp _
  have hp := shortA_apply ⟨n.val / 8192, by omega⟩ ⟨n.val % 8192, by omega⟩ (proj x w (n.val / 8192)) _ hq v
  generalize shortA _ v = p at hp ⊢
  pointwise
  exact hp _

variable (m : (ℓ : Loc nD τ sig) → Buf (Elt Ideal) ℓ)

theorem result1_eq (c : Dev nD) : Value.res_main_v70 (F := Ideal) m c
    = truncf .bf16 (shapeCast S32768x1536 (deltaA (projA (m ((c.tc : Thread nD τ).loc main_arg0)) (m ((c.tc : Thread nD τ).loc main_arg1)))
      (m ((c.tc : Thread nD τ).loc main_arg2))) shapeCasts_S4x8192x1536_S32768x1536) bitsLt_bf16_f32 := by
  unfold Value.res_main_v70
  rfl

theorem result5_eq (c : Dev nD) : Value.res_main_v104 (F := Ideal) m c
    = truncf .bf16 (shapeCast S32768x256 (shortA (extractStridedSlice S4x8192x768 ![0, 0, 2824] (projA (m ((c.tc : Thread nD τ).loc main_arg0))
      (m ((c.tc : Thread nD τ).loc main_arg1))) slices_S4x8192x3592_S4x8192x768_0_0_2824) (m ((c.tc : Thread nD τ).loc main_arg3))) shapeCasts_S4x8192x256_S32768x256) bitsLt_bf16_f32 := by
  unfold Value.res_main_v104
  rfl

/-- The reference: its results are the projection's six results of its arguments, which are unchanged. -/
theorem value (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v68) = table (rowsAt (m ((c.tc : Thread nD τ).loc main_arg0)) (m ((c.tc : Thread nD τ).loc main_arg1)))
      ∧ r.2.mem ((c.tc : Thread nD τ).loc main_v70) = table (deltaAt (m ((c.tc : Thread nD τ).loc main_arg0)) (m ((c.tc : Thread nD τ).loc main_arg1)) (m ((c.tc : Thread nD τ).loc main_arg2)))
      ∧ r.2.mem ((c.tc : Thread nD τ).loc main_v71) = table (zAt (m ((c.tc : Thread nD τ).loc main_arg0)) (m ((c.tc : Thread nD τ).loc main_arg1)))
      ∧ r.2.mem ((c.tc : Thread nD τ).loc main_v74) = table (aAt (m ((c.tc : Thread nD τ).loc main_arg0)) (m ((c.tc : Thread nD τ).loc main_arg1)))
      ∧ r.2.mem ((c.tc : Thread nD τ).loc main_v77) = table (bAt (m ((c.tc : Thread nD τ).loc main_arg0)) (m ((c.tc : Thread nD τ).loc main_arg1)))
      ∧ r.2.mem ((c.tc : Thread nD τ).loc main_v104) = table (shortAt (m ((c.tc : Thread nD τ).loc main_arg0)) (m ((c.tc : Thread nD τ).loc main_arg1)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Value.run (F := Ideal) m ρ)
  obtain ⟨h0, h1, h2, h3, h4, h5, ha⟩ := h c
  refine ⟨⟨h0.trans (table_of fun n j => rows_eq _ _ n j), (h1.trans (result1_eq m c)).trans (table_of fun n j => delta_eq _ _ _ n j),
    h2.trans (table_of fun n j => z_eq _ _ n j), h3.trans (table_of fun n j => a_eq _ _ n j), h4.trans (table_of fun n j => b_eq _ _ n j),
    (h5.trans (result5_eq m c)).trans (table_of fun n j => short_eq _ _ _ n j)⟩, ha⟩

end Cert.Proof.MixRef
end
-- ==== Proof.lean ====
/-
  The proof of `Cert.Claim`, for each of the four kernels: the frames of the kernel, of its idealized form and of the
  reference, the kernel's rewrites, and the equality of the idealized kernel's result with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Tail
public import proofs.«01_k».proof.Proof.Gen.TailIdeal
public import proofs.«01_k».proof.Proof.Gen.TailIdeal.Value
public import proofs.«01_k».proof.Proof.Gen.TailReferenceIdeal
public import proofs.«01_k».proof.Proof.Gen.TailReferenceIdeal.Run
public import proofs.«01_k».proof.Proof.Gen.Mix
public import proofs.«01_k».proof.Proof.Gen.MixIdeal
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Ffn
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.KB.Launch
public import proofs.«01_k».proof.Proof.KI.Value
public import proofs.«01_k».proof.Proof.Reference
public import proofs.«01_k».proof.Proof.FI.Ref
public import proofs.«01_k».proof.Proof.FI.Value
public import proofs.«01_k».proof.Proof.MI.Value
public import proofs.«01_k».proof.Proof.MI.RefValue
public import proofs.«01_k».proof.Proof.TI.Ref
public import proofs.«01_k».proof.Proof.TI.Value
public import Idealize.ShloMosaic.Adequacy
public import Idealize.ShloMosaic.Init

@[expose] public section

noncomputable section

namespace Cert.Proof

open Idealize.ShloMosaic Idealize.SL.Sem

/-- The reference ends with its argument as it was and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- The reference: its result is the attention, its argument unchanged. -/
theorem value_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v34)
          = (fun y => attn (m ((c.tc : Thread Cert.ReferenceIdeal.nD Cert.ReferenceIdeal.τ).loc Cert.ReferenceIdeal.main_arg0)) (y 0).val (y 1).val (y 2).val)
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) := by
  refine (θ_run Cert.ReferenceIdeal.defs _ _).mono (fun r h c => ⟨(h c).1.trans ?_, (h c).2⟩) (Cert.ReferenceIdeal.Value.run (F := Ideal) m ρ)
  refine (Ref.result_eq m c).trans (funext fun y => ?_)
  obtain ⟨b, i, l, rfl⟩ : ∃ (b : Fin 4) (i : Fin 8192) (l : Fin 256), y = ix3 b i l := ⟨y 0, y 1, y 2, by funext a; fin_cases a <;> rfl⟩
  exact Ref.result_apply _ b i l

/-- The idealized kernel's result is the reference's. -/
theorem algebraic : algebraic_KernelIdeal_ReferenceIdeal (hKernelIdeal := Cert.KernelIdeal.Gen.facts)
    (hReferenceIdeal := Cert.ReferenceIdeal.Gen.facts) := by
  intro m g m' g' _ hm
  refine ⟨_, Cert.Proof.KI.value m g, (θ_run Cert.ReferenceIdeal.defs _ _).mono (fun r h c => ⟨(h c).1.trans ?_, (h c).2⟩) (value_reference m' g')⟩
  rw [hm c]
  rfl

/-- The tail's result is the same function of its arguments in both programs. -/
theorem target_eq (m : (ℓ : Loc Cert.TailIdeal.nD Cert.TailIdeal.τ Cert.TailIdeal.sig) → Buf (Elt Ideal) ℓ)
    (m' : (ℓ : Loc Cert.TailReferenceIdeal.nD Cert.TailReferenceIdeal.τ Cert.TailReferenceIdeal.sig) → Buf (Elt Ideal) ℓ) (c : Dev Cert.TailIdeal.nD)
    (h0 : m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0))
    (h1 : m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1))
    (h2 : m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2))
    (h3 : m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3))
    (h4 : m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4))
    (h5 : m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5))
    (h6 : m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6))
    (h7 : m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7))
    (h8 : m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8))
    (h9 : m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9))
    (h10 : m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10))
    (h11 : m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11))
    (h12 : m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)) :
    TailRef.target m' c = TI.target m c := by
  unfold TailRef.target TI.target
  rw [h0, h1, h2, h3, h4, h5, h6, h7, h8, h9, h10, h11, h12]

/-- The tail's result is its reference's. -/
theorem algebraic_tail : algebraic_TailIdeal_TailReferenceIdeal (hTailIdeal := Cert.TailIdeal.Gen.facts)
    (hTailReferenceIdeal := Cert.TailReferenceIdeal.Gen.facts) := by
  intro m g m' g' _ hm
  refine ⟨fun c => TI.target m c, TI.value m g, (θ_run Cert.TailReferenceIdeal.defs _ _).mono (fun r h c => ⟨(h c).1.trans ?_, (h c).2⟩) (TailRef.value m' g')⟩
  obtain ⟨h0, h1, h2, h3, h4, h5, h6, h7, h8, h9, h10, h11, h12⟩ := hm c
  exact target_eq m m' c h0 h1 h2 h3 h4 h5 h6 h7 h8 h9 h10 h11 h12

/-- The tail's reference ends with its arguments as they were and every counter at zero. -/
theorem frame_tail_reference : quiescent_TailReferenceIdeal (hTailReferenceIdeal := Cert.TailReferenceIdeal.Gen.facts) := fun m g _ =>
  (θ_run Cert.TailReferenceIdeal.defs _ _).mono
    (fun r h => ⟨fun c => (h c).2, sem_eq_zero_of_no_sems (by decide) r.2⟩) (Cert.TailReferenceIdeal.Value.run (F := Ideal) m g)

/-- The tail's body table is that of its idealized form: the two bodies have the same text. -/
theorem tail_bodies : Cert.Tail.defs₀ (F := Bits) = Cert.TailIdeal.defs₀ (F := Bits) := by
  refine congrArg Defs.onTc (funext fun ℓ => funext fun a => ?_)
  match ℓ, a with
  | ⟨0, _⟩, (t, s) => rfl

set_option maxRecDepth 100000 in
/-- So are their definitions. -/
theorem tail_defs : Cert.Tail.defs (F := Bits) = Cert.TailIdeal.defs (F := Bits) :=
  congrArg (Pipeline.defs (Cert.TailIdeal.pcfgs (F := Bits))) tail_bodies

set_option maxRecDepth 100000 in
/-- The tail at the machine's floats: its text is that of its idealized form, so is its run. -/
theorem frame_tail : quiescent_Tail (hTail := Cert.Tail.Gen.facts) := fun m g _ => by
  rw [tail_defs]
  exact (θ_run Cert.TailIdeal.defs _ _).mono (fun _ h => h) (Cert.TailIdeal.Gen.frame (F := Bits) m g)

/-- The first feed-forward block's result is the same function of its arguments in both programs. -/
theorem ffn_target_eq (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ) (c : Dev Cert.FfnIdeal.nD)
    (h0 : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0))
    (h1 : m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1))
    (h2 : m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2))
    (h3 : m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3))
    (h4 : m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) :
    FfnRef.target m' c = FI.target m c := by
  unfold FfnRef.target FI.target
  rw [h0, h1, h2, h3, h4]

/-- The first feed-forward block's result is its reference's. -/
theorem algebraic_ffn : algebraic_FfnIdeal_FfnReferenceIdeal (hFfnIdeal := Cert.FfnIdeal.Gen.facts)
    (hFfnReferenceIdeal := Cert.FfnReferenceIdeal.Gen.facts) := by
  intro m g m' g' _ hm
  refine ⟨fun c => FI.target m c, FI.value m g, (θ_run Cert.FfnReferenceIdeal.defs _ _).mono (fun r h c => ⟨(h c).1.trans ?_, (h c).2⟩) (FfnRef.value m' g')⟩
  obtain ⟨h0, h1, h2, h3, h4⟩ := hm c
  exact ffn_target_eq m m' c h0 h1 h2 h3 h4

/-- The first feed-forward block's reference ends with its arguments as they were and every counter at zero. -/
theorem frame_ffn_reference : quiescent_FfnReferenceIdeal (hFfnReferenceIdeal := Cert.FfnReferenceIdeal.Gen.facts) := fun m g _ =>
  (θ_run Cert.FfnReferenceIdeal.defs _ _).mono
    (fun r h => ⟨fun c => (h c).2, sem_eq_zero_of_no_sems (by decide) r.2⟩) (Cert.FfnReferenceIdeal.Value.run (F := Ideal) m g)

/-- The first feed-forward block's body table is that of its idealized form: the two bodies have the same text. -/
theorem ffn_bodies : Cert.Ffn.defs₀ (F := Bits) = Cert.FfnIdeal.defs₀ (F := Bits) := by
  refine congrArg Defs.onTc (funext fun ℓ => funext fun a => ?_)
  match ℓ, a with
  | ⟨0, _⟩, (t, s) => rfl

set_option maxRecDepth 100000 in
/-- So are their definitions. -/
theorem ffn_defs : Cert.Ffn.defs (F := Bits) = Cert.FfnIdeal.defs (F := Bits) :=
  congrArg (Pipeline.defs (Cert.FfnIdeal.pcfgs (F := Bits))) ffn_bodies

set_option maxRecDepth 100000 in
/-- The first feed-forward block at the machine's floats: its text is that of its idealized form, so is its run. -/
theorem frame_ffn : quiescent_Ffn (hFfn := Cert.Ffn.Gen.facts) := fun m g _ => by
  rw [ffn_defs]
  exact (θ_run Cert.FfnIdeal.defs _ _).mono (fun _ h => h) (Cert.FfnIdeal.Gen.frame (F := Bits) m g)

/-- The fused input projection's six results are its reference's. -/
theorem algebraic_mix : algebraic_MixIdeal_MixReferenceIdeal (hMixIdeal := Cert.MixIdeal.Gen.facts)
    (hMixReferenceIdeal := Cert.MixReferenceIdeal.Gen.facts) := by
  intro m g m' g' _ hm
  refine ⟨fun c => Mix.table (Mix.rowsAt (MI.X m c) (MI.W m c)), fun c => Mix.table (Mix.deltaAt (MI.X m c) (MI.W m c) (MI.U m c)),
    fun c => Mix.table (Mix.zAt (MI.X m c) (MI.W m c)), fun c => Mix.table (Mix.aAt (MI.X m c) (MI.W m c)),
    fun c => Mix.table (Mix.bAt (MI.X m c) (MI.W m c)), fun c => Mix.table (Mix.shortAt (MI.X m c) (MI.W m c) (MI.T m c)),
    (θ_run Cert.MixIdeal.defs _ _).mono (fun r h c => ?_) (MI.value m g),
    (θ_run Cert.MixReferenceIdeal.defs _ _).mono (fun r h c => ?_) (MixRef.value m' g')⟩
  · obtain ⟨⟨e0, e1, e2, e3, e4, e5⟩, ha⟩ := h c
    exact ⟨e0, e1, e2, e3, e4, e5, ha⟩
  · obtain ⟨⟨e0, e1, e2, e3, e4, e5⟩, ha⟩ := h c
    obtain ⟨h0, h1, h2, h3⟩ := hm c
    exact ⟨e0.trans (congrArg₂ (fun x w => Mix.table (Mix.rowsAt x w)) h0 h1),
      e1.trans ((congrArg₂ (fun x w => Mix.table (Mix.deltaAt x w _)) h0 h1).trans (congrArg (fun u => Mix.table (Mix.deltaAt _ _ u)) h2)),
      e2.trans (congrArg₂ (fun x w => Mix.table (Mix.zAt x w)) h0 h1), e3.trans (congrArg₂ (fun x w => Mix.table (Mix.aAt x w)) h0 h1),
      e4.trans (congrArg₂ (fun x w => Mix.table (Mix.bAt x w)) h0 h1),
      e5.trans ((congrArg₂ (fun x w => Mix.table (Mix.shortAt x w _)) h0 h1).trans (congrArg (fun v => Mix.table (Mix.shortAt _ _ v)) h3)), ha⟩

/-- The fused input projection's reference ends with its arguments as they were and every counter at zero. -/
theorem frame_mix_reference : quiescent_MixReferenceIdeal (hMixReferenceIdeal := Cert.MixReferenceIdeal.Gen.facts) := fun m g _ =>
  (θ_run Cert.MixReferenceIdeal.defs _ _).mono
    (fun r h => ⟨fun c => (h c).2, sem_eq_zero_of_no_sems (by decide) r.2⟩) (MixRef.value m g)

/-- The fused input projection's body table is that of its idealized form: the two bodies have the same text. -/
theorem mix_bodies : Cert.Mix.defs₀ (F := Bits) = Cert.MixIdeal.defs₀ (F := Bits) := by
  refine congrArg Defs.onTc (funext fun ℓ => funext fun a => ?_)
  match ℓ, a with
  | ⟨0, _⟩, (t, s) => rfl

set_option maxRecDepth 100000 in
/-- So are their definitions. -/
theorem mix_defs : Cert.Mix.defs (F := Bits) = Cert.MixIdeal.defs (F := Bits) :=
  congrArg (Pipeline.defs (Cert.MixIdeal.pcfgs (F := Bits))) mix_bodies

set_option maxRecDepth 100000 in
/-- The fused input projection at the machine's floats: its text is that of its idealized form, so is its run. -/
theorem frame_mix : quiescent_Mix (hMix := Cert.Mix.Gen.facts) := fun m g _ => by
  rw [mix_defs]
  exact (θ_run Cert.MixIdeal.defs _ _).mono (fun _ h => h) (Cert.MixIdeal.Gen.frame (F := Bits) m g)

theorem claim : Cert.Claim :=
  ⟨Cert.Kernel.Gen.facts, Cert.KernelIdeal.Gen.facts, Cert.ReferenceIdeal.Gen.facts,
    Cert.Tail.Gen.facts, Cert.TailIdeal.Gen.facts, Cert.TailReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts,
    fun m g _ => Cert.Proof.KB.frame m g, fun m g _ => Cert.Proof.KI.frame m g, fun m g _ => frame_reference m g,
    frame_tail, fun m g _ => Cert.TailIdeal.Gen.frame (F := Ideal) m g, frame_tail_reference,
    frame_ffn, fun m g _ => Cert.FfnIdeal.Gen.frame (F := Ideal) m g, frame_ffn_reference,
    frame_mix, fun m g _ => Cert.MixIdeal.Gen.frame (F := Ideal) m g, frame_mix_reference,
    IdealRules.named_const.statement Cert.KernelIdeal.κ "skip" .f32 0xC2C80000#32 ⊥ rfl, algebraic, trivial, algebraic_tail, trivial, algebraic_ffn,
    trivial, algebraic_mix⟩

end Cert.Proof

end
